-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![2048, 4096]⟩ ⟨2, ![2048, 32768]⟩ 1 8 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg4))
      ∧ m ((c.tc : Thread Cert.KernelIdeal.nD Cert.KernelIdeal.τ).loc Cert.KernelIdeal.main_arg5) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg5))
      ∧ m ((c.tc : Thread Cert.KernelIdeal.nD Cert.KernelIdeal.τ).loc Cert.KernelIdeal.main_arg6) = Layout.block ⟨2, ![4096, 2048]⟩ ⟨2, ![32768, 2048]⟩ 0 8 c (m' (((0 : Dev Cert.ReferenceIdeal.nD).tc : Thread Cert.ReferenceIdeal.nD Cert.ReferenceIdeal.τ).loc Cert.ReferenceIdeal.main_arg6))) →
    ∃ (v0 : Buf (Elt Ideal) (((0 : Dev Cert.ReferenceIdeal.nD).tc : Thread Cert.ReferenceIdeal.nD Cert.ReferenceIdeal.τ).loc Cert.ReferenceIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v11) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x2048 : Shape := ⟨2, ![64, 2048]⟩
abbrev S2048x4096 : Shape := ⟨2, ![2048, 4096]⟩
abbrev S4096x2048 : Shape := ⟨2, ![4096, 2048]⟩
abbrev S2048x512 : Shape := ⟨2, ![2048, 512]⟩
abbrev S512x2048 : Shape := ⟨2, ![512, 2048]⟩
abbrev S64x512 : Shape := ⟨2, ![64, 512]⟩
abbrev S8x64x256 : Shape := ⟨3, ![8, 64, 256]⟩
abbrev S64x256 : Shape := ⟨2, ![64, 256]⟩
abbrev S8 : Shape := ⟨1, ![8]⟩
abbrev S_ : Shape := ⟨0, ![]⟩
abbrev S1 : Shape := ⟨1, ![1]⟩
abbrev S1x64x256 : Shape := ⟨3, ![1, 64, 256]⟩

abbrev nBuf : Space → Nat
  | .hbm => 13
  | .vmem => 30
  | .smem => 0
  | _ => 0

abbrev bufTy : (tb : Table) → Fin (tcTables nBuf tb) → BufTy
  | .hbm, ⟨0, _⟩ => ⟨S64x2048, .f32⟩
  | .hbm, ⟨1, _⟩ => ⟨S2048x4096, .f32⟩
  | .hbm, ⟨2, _⟩ => ⟨S2048x4096, .f32⟩
  | .hbm, ⟨3, _⟩ => ⟨S2048x4096, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S64x2048, .f32⟩
  | .hbm, ⟨8, _⟩ => ⟨S64x2048, .f32⟩
  | .hbm, ⟨9, _⟩ => ⟨S64x2048, .f32⟩
  | .hbm, ⟨10, _⟩ => ⟨S64x2048, .f32⟩
  | .hbm, ⟨11, _⟩ => ⟨S64x2048, .f32⟩
  | .hbm, ⟨12, _⟩ => ⟨S64x2048, .f32⟩
  | .local _ .vmem, ⟨0, _⟩ => ⟨S64x2048, .f32⟩
  | .local _ .vmem, ⟨1, _⟩ => ⟨S2048x512, .f32⟩
  | .local _ .vmem, ⟨2, _⟩ => ⟨S2048x512, .f32⟩
  | .local _ .vmem, ⟨3, _⟩ => ⟨S512x2048, .f32⟩
  | .local _ .vmem, ⟨4, _⟩ => ⟨S512x2048, .f32⟩
  | .local _ .vmem, ⟨5, _⟩ => ⟨S64x2048, .f32⟩
  | .local _ .vmem, ⟨6, _⟩ => ⟨S64x2048, .f32⟩
  | .local _ .vmem, ⟨7, _⟩ => ⟨S64x2048, .f32⟩
  | .local _ .vmem, ⟨8, _⟩ => ⟨S8x64x256, .f32⟩
  | .local _ .vmem, ⟨9, _⟩ => ⟨S64x256, .f32⟩
  | .local _ .vmem, ⟨10, _⟩ => ⟨S64x2048, .f32⟩
  | .local _ .vmem, ⟨11, _⟩ => ⟨S2048x512, .f32⟩
  | .local _ .vmem, ⟨12, _⟩ => ⟨S2048x512, .f32⟩
  | .local _ .vmem, ⟨13, _⟩ => ⟨S512x2048, .f32⟩
  | .local _ .vmem, ⟨14, _⟩ => ⟨S512x2048, .f32⟩
  | .local _ .vmem, ⟨15, _⟩ => ⟨S64x2048, .f32⟩
  | .local _ .vmem, ⟨16, _⟩ => ⟨S64x2048, .f32⟩
  | .local _ .vmem, ⟨17, _⟩ => ⟨S64x2048, .f32⟩
  | .local _ .vmem, ⟨18, _⟩ => ⟨S8x64x256, .f32⟩
  | .local _ .vmem, ⟨19, _⟩ => ⟨S64x256, .f32⟩
  | .local _ .vmem, ⟨20, _⟩ => ⟨S64x2048, .f32⟩
  | .local _ .vmem, ⟨21, _⟩ => ⟨S2048x512, .f32⟩
  | .local _ .vmem, ⟨22, _⟩ => ⟨S2048x512, .f32⟩
  | .local _ .vmem, ⟨23, _⟩ => ⟨S512x2048, .f32⟩
  | .local _ .vmem, ⟨24, _⟩ => ⟨S512x2048, .f32⟩
  | .local _ .vmem, ⟨25, _⟩ => ⟨S64x2048, .f32⟩
  | .local _ .vmem, ⟨26, _⟩ => ⟨S64x2048, .f32⟩
  | .local _ .vmem, ⟨27, _⟩ => ⟨S64x2048, .f32⟩
  | .local _ .vmem, ⟨28, _⟩ => ⟨S8x64x256, .f32⟩
  | .local _ .vmem, ⟨29, _⟩ => ⟨S64x256, .f32⟩
  | _, _ => ⟨S64x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 3 → Bool
  | ⟨0, _⟩ => false
  | ⟨1, _⟩ => false
  | ⟨2, _⟩ => false
  | _ => false

abbrev dmaSemScoped : Fin 120 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | _ => false

abbrev sig : RefSig :=
  (ofTc nBuf bufTy 3 120 bufScoped semScoped dmaSemScoped tileCredit tileCredit_eq_zero tileCredit_pos).withBarriers [(0, 0), (1, 1), (2, 2)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc1_stg0_0 : Ref sig .tc := ⟨.vmem, 6, rfl⟩
abbrev cc1_stg1_0 : Ref sig .tc := ⟨.vmem, 7, rfl⟩
abbrev cc1_scratch0 : Ref sig .tc := ⟨.vmem, 8, rfl⟩
abbrev cc1_scratch1 : Ref sig .tc := ⟨.vmem, 9, rfl⟩
abbrev cc2_stg0_0 : Ref sig .tc := ⟨.vmem, 10, rfl⟩
abbrev cc2_stg1_0 : Ref sig .tc := ⟨.vmem, 11, rfl⟩
abbrev cc2_stg1_1 : Ref sig .tc := ⟨.vmem, 12, rfl⟩
abbrev cc2_stg2_0 : Ref sig .tc := ⟨.vmem, 13, rfl⟩
abbrev cc2_stg2_1 : Ref sig .tc := ⟨.vmem, 14, rfl⟩
abbrev cc2_stg3_0 : Ref sig .tc := ⟨.vmem, 15, rfl⟩
abbrev cc3_stg0_0 : Ref sig .tc := ⟨.vmem, 16, rfl⟩
abbrev cc3_stg1_0 : Ref sig .tc := ⟨.vmem, 17, rfl⟩
abbrev cc3_scratch0 : Ref sig .tc := ⟨.vmem, 18, rfl⟩
abbrev cc3_scratch1 : Ref sig .tc := ⟨.vmem, 19, rfl⟩
abbrev cc4_stg0_0 : Ref sig .tc := ⟨.vmem, 20, rfl⟩
abbrev cc4_stg1_0 : Ref sig .tc := ⟨.vmem, 21, rfl⟩
abbrev cc4_stg1_1 : Ref sig .tc := ⟨.vmem, 22, rfl⟩
abbrev cc4_stg2_0 : Ref sig .tc := ⟨.vmem, 23, rfl⟩
abbrev cc4_stg2_1 : Ref sig .tc := ⟨.vmem, 24, rfl⟩
abbrev cc4_stg3_0 : Ref sig .tc := ⟨.vmem, 25, rfl⟩
abbrev cc5_stg0_0 : Ref sig .tc := ⟨.vmem, 26, rfl⟩
abbrev cc5_stg1_0 : Ref sig .tc := ⟨.vmem, 27, rfl⟩
abbrev cc5_scratch0 : Ref sig .tc := ⟨.vmem, 28, rfl⟩
abbrev cc5_scratch1 : Ref sig .tc := ⟨.vmem, 29, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc1_sem0_0 : DmaSem sig := 6
abbrev cc1_sem1_0 : DmaSem sig := 7
abbrev cc2_sem0_0 : DmaSem sig := 40
abbrev cc2_sem1_0 : DmaSem sig := 41
abbrev cc2_sem1_1 : DmaSem sig := 42
abbrev cc2_sem2_0 : DmaSem sig := 43
abbrev cc2_sem2_1 : DmaSem sig := 44
abbrev cc2_sem3_0 : DmaSem sig := 45
abbrev cc3_sem0_0 : DmaSem sig := 46
abbrev cc3_sem1_0 : DmaSem sig := 47
abbrev cc4_sem0_0 : DmaSem sig := 80
abbrev cc4_sem1_0 : DmaSem sig := 81
abbrev cc4_sem1_1 : DmaSem sig := 82
abbrev cc4_sem2_0 : DmaSem sig := 83
abbrev cc4_sem2_1 : DmaSem sig := 84
abbrev cc4_sem3_0 : DmaSem sig := 85
abbrev cc5_sem0_0 : DmaSem sig := 86
abbrev cc5_sem1_0 : DmaSem sig := 87
abbrev barrier0 : Sem sig := 0
abbrev barrier1 : Sem sig := 1
abbrev barrier2 : Sem sig := 2

abbrev nD : Nat := 8
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def k0_cond2 (i : grid0.Coords) : BitVec 1 :=
  let arg0 : BitVec 32 := BitVec.ofNat 32 (i 0).val
  let c0_i32_8 : BitVec 32 := 0#32
  let v13 : BitVec 1 := Scalar.cmpi .sgt arg0 c0_i32_8
  let v14 : BitVec 32 := Scalar.extui v13
  let c0_i32_9 : BitVec 32 := 0#32
  let v15 : BitVec 1 := Scalar.cmpi .ne v14 c0_i32_9
  v15

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S64x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := .none

def k1_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k1_dev1 : Nat :=
  let c0_i32_104 : BitVec 32 := 0#32
  let c0_i32_102 : BitVec 32 := 0#32
  let c1_i32_103 : BitVec 32 := 1#32
  let v166 : BitVec 32 := Scalar.muli c0_i32_102 c1_i32_103
  let v167 : BitVec 32 := Scalar.addi c0_i32_104 v166
  v167.toNat
def k1_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k1_dev2 : Nat :=
  let c0_i32_104 : BitVec 32 := 0#32
  let c1_i32_102 : BitVec 32 := 1#32
  let c1_i32_103 : BitVec 32 := 1#32
  let v166 : BitVec 32 := Scalar.muli c1_i32_102 c1_i32_103
  let v167 : BitVec 32 := Scalar.addi c0_i32_104 v166
  v167.toNat
def k1_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k1_dev3 : Nat :=
  let c0_i32_104 : BitVec 32 := 0#32
  let c2_i32_102 : BitVec 32 := 2#32
  let c1_i32_103 : BitVec 32 := 1#32
  let v166 : BitVec 32 := Scalar.muli c2_i32_102 c1_i32_103
  let v167 : BitVec 32 := Scalar.addi c0_i32_104 v166
  v167.toNat
def k1_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k1_dev4 : Nat :=
  let c0_i32_104 : BitVec 32 := 0#32
  let c3_i32_102 : BitVec 32 := 3#32
  let c1_i32_103 : BitVec 32 := 1#32
  let v166 : BitVec 32 := Scalar.muli c3_i32_102 c1_i32_103
  let v167 : BitVec 32 := Scalar.addi c0_i32_104 v166
  v167.toNat
def k1_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k1_dev5 : Nat :=
  let c0_i32_104 : BitVec 32 := 0#32
  let c4_i32_102 : BitVec 32 := 4#32
  let c1_i32_103 : BitVec 32 := 1#32
  let v166 : BitVec 32 := Scalar.muli c4_i32_102 c1_i32_103
  let v167 : BitVec 32 := Scalar.addi c0_i32_104 v166
  v167.toNat
def k1_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k1_dev6 : Nat :=
  let c0_i32_104 : BitVec 32 := 0#32
  let c5_i32_102 : BitVec 32 := 5#32
  let c1_i32_103 : BitVec 32 := 1#32
  let v166 : BitVec 32 := Scalar.muli c5_i32_102 c1_i32_103
  let v167 : BitVec 32 := Scalar.addi c0_i32_104 v166
  v167.toNat
def k1_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k1_dev7 : Nat :=
  let c0_i32_104 : BitVec 32 := 0#32
  let c6_i32_102 : BitVec 32 := 6#32
  let c1_i32_103 : BitVec 32 := 1#32
  let v166 : BitVec 32 := Scalar.muli c6_i32_102 c1_i32_103
  let v167 : BitVec 32 := Scalar.addi c0_i32_104 v166
  v167.toNat
def k1_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k1_dev8 : Nat :=
  let c0_i32_104 : BitVec 32 := 0#32
  let c7_i32_102 : BitVec 32 := 7#32
  let c1_i32_103 : BitVec 32 := 1#32
  let v166 : BitVec 32 := Scalar.muli c7_i32_102 c1_i32_103
  let v167 : BitVec 32 := Scalar.addi c0_i32_104 v166
  v167.toNat
def k1_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v28 : BitVec 1 := Scalar.cmpi .ne v2 c0_i32_10
  let v29 : BitVec 32 := Scalar.extui v28
  let c0_i32_11 : BitVec 32 := 0#32
  let v30 : BitVec 1 := Scalar.cmpi .ne v29 c0_i32_11
  v30

def k1_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_dev9 : Nat :=
  let c0_i32_104 : BitVec 32 := 0#32
  let c0_i32_102 : BitVec 32 := 0#32
  let c1_i32_103 : BitVec 32 := 1#32
  let v166 : BitVec 32 := Scalar.muli c0_i32_102 c1_i32_103
  let v167 : BitVec 32 := Scalar.addi c0_i32_104 v166
  v167.toNat
def k1_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v31 : BitVec 1 := Scalar.cmpi .ne v2 c1_i32_12
  let v32 : BitVec 32 := Scalar.extui v31
  let c0_i32_13 : BitVec 32 := 0#32
  let v33 : BitVec 1 := Scalar.cmpi .ne v32 c0_i32_13
  v33

def k1_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_dev10 : Nat :=
  let c0_i32_104 : BitVec 32 := 0#32
  let c1_i32_102 : BitVec 32 := 1#32
  let c1_i32_103 : BitVec 32 := 1#32
  let v166 : BitVec 32 := Scalar.muli c1_i32_102 c1_i32_103
  let v167 : BitVec 32 := Scalar.addi c0_i32_104 v166
  v167.toNat
def k1_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_14 : BitVec 32 := 2#32
  let v34 : BitVec 1 := Scalar.cmpi .ne v2 c2_i32_14
  let v35 : BitVec 32 := Scalar.extui v34
  let c0_i32_15 : BitVec 32 := 0#32
  let v36 : BitVec 1 := Scalar.cmpi .ne v35 c0_i32_15
  v36

def k1_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_dev11 : Nat :=
  let c0_i32_104 : BitVec 32 := 0#32
  let c2_i32_102 : BitVec 32 := 2#32
  let c1_i32_103 : BitVec 32 := 1#32
  let v166 : BitVec 32 := Scalar.muli c2_i32_102 c1_i32_103
  let v167 : BitVec 32 := Scalar.addi c0_i32_104 v166
  v167.toNat
def k1_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_16 : BitVec 32 := 3#32
  let v37 : BitVec 1 := Scalar.cmpi .ne v2 c3_i32_16
  let v38 : BitVec 32 := Scalar.extui v37
  let c0_i32_17 : BitVec 32 := 0#32
  let v39 : BitVec 1 := Scalar.cmpi .ne v38 c0_i32_17
  v39

def k1_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_dev12 : Nat :=
  let c0_i32_104 : BitVec 32 := 0#32
  let c3_i32_102 : BitVec 32 := 3#32
  let c1_i32_103 : BitVec 32 := 1#32
  let v166 : BitVec 32 := Scalar.muli c3_i32_102 c1_i32_103
  let v167 : BitVec 32 := Scalar.addi c0_i32_104 v166
  v167.toNat
def k1_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v40 : BitVec 1 := Scalar.cmpi .ne v2 c4_i32_18
  let v41 : BitVec 32 := Scalar.extui v40
  let c0_i32_19 : BitVec 32 := 0#32
  let v42 : BitVec 1 := Scalar.cmpi .ne v41 c0_i32_19
  v42

def k1_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_dev13 : Nat :=
  let c0_i32_104 : BitVec 32 := 0#32
  let c4_i32_102 : BitVec 32 := 4#32
  let c1_i32_103 : BitVec 32 := 1#32
  let v166 : BitVec 32 := Scalar.muli c4_i32_102 c1_i32_103
  let v167 : BitVec 32 := Scalar.addi c0_i32_104 v166
  v167.toNat
def k1_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_20 : BitVec 32 := 5#32
  let v43 : BitVec 1 := Scalar.cmpi .ne v2 c5_i32_20
  let v44 : BitVec 32 := Scalar.extui v43
  let c0_i32_21 : BitVec 32 := 0#32
  let v45 : BitVec 1 := Scalar.cmpi .ne v44 c0_i32_21
  v45

def k1_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_dev14 : Nat :=
  let c0_i32_104 : BitVec 32 := 0#32
  let c5_i32_102 : BitVec 32 := 5#32
  let c1_i32_103 : BitVec 32 := 1#32
  let v166 : BitVec 32 := Scalar.muli c5_i32_102 c1_i32_103
  let v167 : BitVec 32 := Scalar.addi c0_i32_104 v166
  v167.toNat
def k1_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_22 : BitVec 32 := 6#32
  let v46 : BitVec 1 := Scalar.cmpi .ne v2 c6_i32_22
  let v47 : BitVec 32 := Scalar.extui v46
  let c0_i32_23 : BitVec 32 := 0#32
  let v48 : BitVec 1 := Scalar.cmpi .ne v47 c0_i32_23
  v48

def k1_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_dev15 : Nat :=
  let c0_i32_104 : BitVec 32 := 0#32
  let c6_i32_102 : BitVec 32 := 6#32
  let c1_i32_103 : BitVec 32 := 1#32
  let v166 : BitVec 32 := Scalar.muli c6_i32_102 c1_i32_103
  let v167 : BitVec 32 := Scalar.addi c0_i32_104 v166
  v167.toNat
def k1_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_24 : BitVec 32 := 7#32
  let v49 : BitVec 1 := Scalar.cmpi .ne v2 c7_i32_24
  let v50 : BitVec 32 := Scalar.extui v49
  let c0_i32_25 : BitVec 32 := 0#32
  let v51 : BitVec 1 := Scalar.cmpi .ne v50 c0_i32_25
  v51

def k1_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_dev16 : Nat :=
  let c0_i32_104 : BitVec 32 := 0#32
  let c7_i32_102 : BitVec 32 := 7#32
  let c1_i32_103 : BitVec 32 := 1#32
  let v166 : BitVec 32 := Scalar.muli c7_i32_102 c1_i32_103
  let v167 : BitVec 32 := Scalar.addi c0_i32_104 v166
  v167.toNat
def k1_off17 (d0 : Dev nD) : Fin 2 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v52 : BitVec 32 := Scalar.muli v2 c256_i32
  let v53 : Index := Scalar.indexCast v52
  ![0, v53.toNat]
def k1_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : Index := Scalar.indexCast v2
  let c0_26 : Index := 0#32
  let c0_27 : Index := 0#32
  ![v57.toNat, 0, 0]
def k1_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_49 : BitVec 32 := 0#32
  let v90 : BitVec 1 := Scalar.cmpi .ne v2 c0_i32_49
  let v91 : BitVec 32 := Scalar.extui v90
  let c0_i32_50 : BitVec 32 := 0#32
  let v92 : BitVec 1 := Scalar.cmpi .ne v91 c0_i32_50
  v92

def k1_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off20 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k1_dev17 : Nat :=
  let c0_i32_105 : BitVec 32 := 0#32
  let c0_i32_103 : BitVec 32 := 0#32
  let c1_i32_104 : BitVec 32 := 1#32
  let v167 : BitVec 32 := Scalar.muli c0_i32_103 c1_i32_104
  let v168 : BitVec 32 := Scalar.addi c0_i32_105 v167
  v168.toNat
def k1_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v93 : BitVec 1 := Scalar.cmpi .ne v2 c1_i32_51
  let v94 : BitVec 32 := Scalar.extui v93
  let c0_i32_52 : BitVec 32 := 0#32
  let v95 : BitVec 1 := Scalar.cmpi .ne v94 c0_i32_52
  v95

def k1_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off22 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k1_dev18 : Nat :=
  let c0_i32_105 : BitVec 32 := 0#32
  let c1_i32_103 : BitVec 32 := 1#32
  let c1_i32_104 : BitVec 32 := 1#32
  let v167 : BitVec 32 := Scalar.muli c1_i32_103 c1_i32_104
  let v168 : BitVec 32 := Scalar.addi c0_i32_105 v167
  v168.toNat
def k1_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_53 : BitVec 32 := 2#32
  let v96 : BitVec 1 := Scalar.cmpi .ne v2 c2_i32_53
  let v97 : BitVec 32 := Scalar.extui v96
  let c0_i32_54 : BitVec 32 := 0#32
  let v98 : BitVec 1 := Scalar.cmpi .ne v97 c0_i32_54
  v98

def k1_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off24 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k1_dev19 : Nat :=
  let c0_i32_105 : BitVec 32 := 0#32
  let c2_i32_103 : BitVec 32 := 2#32
  let c1_i32_104 : BitVec 32 := 1#32
  let v167 : BitVec 32 := Scalar.muli c2_i32_103 c1_i32_104
  let v168 : BitVec 32 := Scalar.addi c0_i32_105 v167
  v168.toNat
def k1_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_55 : BitVec 32 := 3#32
  let v99 : BitVec 1 := Scalar.cmpi .ne v2 c3_i32_55
  let v100 : BitVec 32 := Scalar.extui v99
  let c0_i32_56 : BitVec 32 := 0#32
  let v101 : BitVec 1 := Scalar.cmpi .ne v100 c0_i32_56
  v101

def k1_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off26 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k1_dev20 : Nat :=
  let c0_i32_105 : BitVec 32 := 0#32
  let c3_i32_103 : BitVec 32 := 3#32
  let c1_i32_104 : BitVec 32 := 1#32
  let v167 : BitVec 32 := Scalar.muli c3_i32_103 c1_i32_104
  let v168 : BitVec 32 := Scalar.addi c0_i32_105 v167
  v168.toNat
def k1_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let v102 : BitVec 1 := Scalar.cmpi .ne v2 c4_i32_57
  let v103 : BitVec 32 := Scalar.extui v102
  let c0_i32_58 : BitVec 32 := 0#32
  let v104 : BitVec 1 := Scalar.cmpi .ne v103 c0_i32_58
  v104

def k1_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off28 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k1_dev21 : Nat :=
  let c0_i32_105 : BitVec 32 := 0#32
  let c4_i32_103 : BitVec 32 := 4#32
  let c1_i32_104 : BitVec 32 := 1#32
  let v167 : BitVec 32 := Scalar.muli c4_i32_103 c1_i32_104
  let v168 : BitVec 32 := Scalar.addi c0_i32_105 v167
  v168.toNat
def k1_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_59 : BitVec 32 := 5#32
  let v105 : BitVec 1 := Scalar.cmpi .ne v2 c5_i32_59
  let v106 : BitVec 32 := Scalar.extui v105
  let c0_i32_60 : BitVec 32 := 0#32
  let v107 : BitVec 1 := Scalar.cmpi .ne v106 c0_i32_60
  v107

def k1_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off30 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k1_dev22 : Nat :=
  let c0_i32_105 : BitVec 32 := 0#32
  let c5_i32_103 : BitVec 32 := 5#32
  let c1_i32_104 : BitVec 32 := 1#32
  let v167 : BitVec 32 := Scalar.muli c5_i32_103 c1_i32_104
  let v168 : BitVec 32 := Scalar.addi c0_i32_105 v167
  v168.toNat
def k1_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_61 : BitVec 32 := 6#32
  let v108 : BitVec 1 := Scalar.cmpi .ne v2 c6_i32_61
  let v109 : BitVec 32 := Scalar.extui v108
  let c0_i32_62 : BitVec 32 := 0#32
  let v110 : BitVec 1 := Scalar.cmpi .ne v109 c0_i32_62
  v110

def k1_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off32 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k1_dev23 : Nat :=
  let c0_i32_105 : BitVec 32 := 0#32
  let c6_i32_103 : BitVec 32 := 6#32
  let c1_i32_104 : BitVec 32 := 1#32
  let v167 : BitVec 32 := Scalar.muli c6_i32_103 c1_i32_104
  let v168 : BitVec 32 := Scalar.addi c0_i32_105 v167
  v168.toNat
def k1_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_63 : BitVec 32 := 7#32
  let v111 : BitVec 1 := Scalar.cmpi .ne v2 c7_i32_63
  let v112 : BitVec 32 := Scalar.extui v111
  let c0_i32_64 : BitVec 32 := 0#32
  let v113 : BitVec 1 := Scalar.cmpi .ne v112 c0_i32_64
  v113

def k1_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k1_off34 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k1_dev24 : Nat :=
  let c0_i32_105 : BitVec 32 := 0#32
  let c7_i32_103 : BitVec 32 := 7#32
  let c1_i32_104 : BitVec 32 := 1#32
  let v167 : BitVec 32 := Scalar.muli c7_i32_103 c1_i32_104
  let v168 : BitVec 32 := Scalar.addi c0_i32_105 v167
  v168.toNat
def k1_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_85 : BitVec 32 := 0#32
  let v142 : BitVec 1 := Scalar.cmpi .ne v2 c0_i32_85
  let v143 : BitVec 32 := Scalar.extui v142
  let c0_i32_86 : BitVec 32 := 0#32
  let v144 : BitVec 1 := Scalar.cmpi .ne v143 c0_i32_86
  v144

def k1_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_106 : BitVec 32 := 0#32
  let c0_i32_107 : BitVec 32 := 0#32
  ![v2.toNat, 0, 0]
def k1_off36 (d0 : Dev nD) : Fin 2 → Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_108 : BitVec 32 := 256#32
  let v171 : BitVec 32 := Scalar.muli v2 c256_i32_108
  ![0, v171.toNat]
def k1_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_87 : BitVec 32 := 1#32
  let v145 : BitVec 1 := Scalar.cmpi .ne v2 c1_i32_87
  let v146 : BitVec 32 := Scalar.extui v145
  let c0_i32_88 : BitVec 32 := 0#32
  let v147 : BitVec 1 := Scalar.cmpi .ne v146 c0_i32_88
  v147

def k1_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_106 : BitVec 32 := 0#32
  let c0_i32_107 : BitVec 32 := 0#32
  ![v2.toNat, 0, 0]
def k1_off38 (d0 : Dev nD) : Fin 2 → Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_108 : BitVec 32 := 256#32
  let v171 : BitVec 32 := Scalar.muli v2 c256_i32_108
  ![0, v171.toNat]
def k1_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_89 : BitVec 32 := 2#32
  let v148 : BitVec 1 := Scalar.cmpi .ne v2 c2_i32_89
  let v149 : BitVec 32 := Scalar.extui v148
  let c0_i32_90 : BitVec 32 := 0#32
  let v150 : BitVec 1 := Scalar.cmpi .ne v149 c0_i32_90
  v150

def k1_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_off40 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k1_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v151 : BitVec 1 := Scalar.cmpi .ne v2 c3_i32_91
  let v152 : BitVec 32 := Scalar.extui v151
  let c0_i32_92 : BitVec 32 := 0#32
  let v153 : BitVec 1 := Scalar.cmpi .ne v152 c0_i32_92
  v153

def k1_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_off42 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k1_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_93 : BitVec 32 := 4#32
  let v154 : BitVec 1 := Scalar.cmpi .ne v2 c4_i32_93
  let v155 : BitVec 32 := Scalar.extui v154
  let c0_i32_94 : BitVec 32 := 0#32
  let v156 : BitVec 1 := Scalar.cmpi .ne v155 c0_i32_94
  v156

def k1_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_off44 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k1_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_95 : BitVec 32 := 5#32
  let v157 : BitVec 1 := Scalar.cmpi .ne v2 c5_i32_95
  let v158 : BitVec 32 := Scalar.extui v157
  let c0_i32_96 : BitVec 32 := 0#32
  let v159 : BitVec 1 := Scalar.cmpi .ne v158 c0_i32_96
  v159

def k1_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_off46 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k1_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_97 : BitVec 32 := 6#32
  let v160 : BitVec 1 := Scalar.cmpi .ne v2 c6_i32_97
  let v161 : BitVec 32 := Scalar.extui v160
  let c0_i32_98 : BitVec 32 := 0#32
  let v162 : BitVec 1 := Scalar.cmpi .ne v161 c0_i32_98
  v162

def k1_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_off48 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k1_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_99 : BitVec 32 := 7#32
  let v163 : BitVec 1 := Scalar.cmpi .ne v2 c7_i32_99
  let v164 : BitVec 32 := Scalar.extui v163
  let c0_i32_100 : BitVec 32 := 0#32
  let v165 : BitVec 1 := Scalar.cmpi .ne v164 c0_i32_100
  v165

def k1_off49 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k1_off50 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
abbrev stage1_0 : Fin 1 → Memref sig .tc .vmem S64x2048 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S64x2048 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨1, ![8], ![false]⟩

def k2_cond1 (i : grid2.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def k2_cond2 (i : grid2.Coords) : BitVec 1 :=
  let arg0 : BitVec 32 := BitVec.ofNat 32 (i 0).val
  let c0_i32_8 : BitVec 32 := 0#32
  let v13 : BitVec 1 := Scalar.cmpi .sgt arg0 c0_i32_8
  let v14 : BitVec 32 := Scalar.extui v13
  let c0_i32_9 : BitVec 32 := 0#32
  let v15 : BitVec 1 := Scalar.cmpi .ne v14 c0_i32_9
  v15

def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  ![c0_i32.toNat, arg0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 1 → Memref sig .tc .vmem S64x2048 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 2 → Memref sig .tc .vmem S2048x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x2048 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S64x2048 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev grid3 : Pipeline.Grid := .none

def k3_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k3_dev1 : Nat :=
  let c0_i32_104 : BitVec 32 := 0#32
  let c0_i32_102 : BitVec 32 := 0#32
  let c1_i32_103 : BitVec 32 := 1#32
  let v166 : BitVec 32 := Scalar.muli c0_i32_102 c1_i32_103
  let v167 : BitVec 32 := Scalar.addi c0_i32_104 v166
  v167.toNat
def k3_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k3_dev2 : Nat :=
  let c0_i32_104 : BitVec 32 := 0#32
  let c1_i32_102 : BitVec 32 := 1#32
  let c1_i32_103 : BitVec 32 := 1#32
  let v166 : BitVec 32 := Scalar.muli c1_i32_102 c1_i32_103
  let v167 : BitVec 32 := Scalar.addi c0_i32_104 v166
  v167.toNat
def k3_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k3_dev3 : Nat :=
  let c0_i32_104 : BitVec 32 := 0#32
  let c2_i32_102 : BitVec 32 := 2#32
  let c1_i32_103 : BitVec 32 := 1#32
  let v166 : BitVec 32 := Scalar.muli c2_i32_102 c1_i32_103
  let v167 : BitVec 32 := Scalar.addi c0_i32_104 v166
  v167.toNat
def k3_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k3_dev4 : Nat :=
  let c0_i32_104 : BitVec 32 := 0#32
  let c3_i32_102 : BitVec 32 := 3#32
  let c1_i32_103 : BitVec 32 := 1#32
  let v166 : BitVec 32 := Scalar.muli c3_i32_102 c1_i32_103
  let v167 : BitVec 32 := Scalar.addi c0_i32_104 v166
  v167.toNat
def k3_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k3_dev5 : Nat :=
  let c0_i32_104 : BitVec 32 := 0#32
  let c4_i32_102 : BitVec 32 := 4#32
  let c1_i32_103 : BitVec 32 := 1#32
  let v166 : BitVec 32 := Scalar.muli c4_i32_102 c1_i32_103
  let v167 : BitVec 32 := Scalar.addi c0_i32_104 v166
  v167.toNat
def k3_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k3_dev6 : Nat :=
  let c0_i32_104 : BitVec 32 := 0#32
  let c5_i32_102 : BitVec 32 := 5#32
  let c1_i32_103 : BitVec 32 := 1#32
  let v166 : BitVec 32 := Scalar.muli c5_i32_102 c1_i32_103
  let v167 : BitVec 32 := Scalar.addi c0_i32_104 v166
  v167.toNat
def k3_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k3_dev7 : Nat :=
  let c0_i32_104 : BitVec 32 := 0#32
  let c6_i32_102 : BitVec 32 := 6#32
  let c1_i32_103 : BitVec 32 := 1#32
  let v166 : BitVec 32 := Scalar.muli c6_i32_102 c1_i32_103
  let v167 : BitVec 32 := Scalar.addi c0_i32_104 v166
  v167.toNat
def k3_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k3_dev8 : Nat :=
  let c0_i32_104 : BitVec 32 := 0#32
  let c7_i32_102 : BitVec 32 := 7#32
  let c1_i32_103 : BitVec 32 := 1#32
  let v166 : BitVec 32 := Scalar.muli c7_i32_102 c1_i32_103
  let v167 : BitVec 32 := Scalar.addi c0_i32_104 v166
  v167.toNat
def k3_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v28 : BitVec 1 := Scalar.cmpi .ne v2 c0_i32_10
  let v29 : BitVec 32 := Scalar.extui v28
  let c0_i32_11 : BitVec 32 := 0#32
  let v30 : BitVec 1 := Scalar.cmpi .ne v29 c0_i32_11
  v30

def k3_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_dev9 : Nat :=
  let c0_i32_104 : BitVec 32 := 0#32
  let c0_i32_102 : BitVec 32 := 0#32
  let c1_i32_103 : BitVec 32 := 1#32
  let v166 : BitVec 32 := Scalar.muli c0_i32_102 c1_i32_103
  let v167 : BitVec 32 := Scalar.addi c0_i32_104 v166
  v167.toNat
def k3_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v31 : BitVec 1 := Scalar.cmpi .ne v2 c1_i32_12
  let v32 : BitVec 32 := Scalar.extui v31
  let c0_i32_13 : BitVec 32 := 0#32
  let v33 : BitVec 1 := Scalar.cmpi .ne v32 c0_i32_13
  v33

def k3_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_dev10 : Nat :=
  let c0_i32_104 : BitVec 32 := 0#32
  let c1_i32_102 : BitVec 32 := 1#32
  let c1_i32_103 : BitVec 32 := 1#32
  let v166 : BitVec 32 := Scalar.muli c1_i32_102 c1_i32_103
  let v167 : BitVec 32 := Scalar.addi c0_i32_104 v166
  v167.toNat
def k3_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_14 : BitVec 32 := 2#32
  let v34 : BitVec 1 := Scalar.cmpi .ne v2 c2_i32_14
  let v35 : BitVec 32 := Scalar.extui v34
  let c0_i32_15 : BitVec 32 := 0#32
  let v36 : BitVec 1 := Scalar.cmpi .ne v35 c0_i32_15
  v36

def k3_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_dev11 : Nat :=
  let c0_i32_104 : BitVec 32 := 0#32
  let c2_i32_102 : BitVec 32 := 2#32
  let c1_i32_103 : BitVec 32 := 1#32
  let v166 : BitVec 32 := Scalar.muli c2_i32_102 c1_i32_103
  let v167 : BitVec 32 := Scalar.addi c0_i32_104 v166
  v167.toNat
def k3_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_16 : BitVec 32 := 3#32
  let v37 : BitVec 1 := Scalar.cmpi .ne v2 c3_i32_16
  let v38 : BitVec 32 := Scalar.extui v37
  let c0_i32_17 : BitVec 32 := 0#32
  let v39 : BitVec 1 := Scalar.cmpi .ne v38 c0_i32_17
  v39

def k3_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_dev12 : Nat :=
  let c0_i32_104 : BitVec 32 := 0#32
  let c3_i32_102 : BitVec 32 := 3#32
  let c1_i32_103 : BitVec 32 := 1#32
  let v166 : BitVec 32 := Scalar.muli c3_i32_102 c1_i32_103
  let v167 : BitVec 32 := Scalar.addi c0_i32_104 v166
  v167.toNat
def k3_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v40 : BitVec 1 := Scalar.cmpi .ne v2 c4_i32_18
  let v41 : BitVec 32 := Scalar.extui v40
  let c0_i32_19 : BitVec 32 := 0#32
  let v42 : BitVec 1 := Scalar.cmpi .ne v41 c0_i32_19
  v42

def k3_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_dev13 : Nat :=
  let c0_i32_104 : BitVec 32 := 0#32
  let c4_i32_102 : BitVec 32 := 4#32
  let c1_i32_103 : BitVec 32 := 1#32
  let v166 : BitVec 32 := Scalar.muli c4_i32_102 c1_i32_103
  let v167 : BitVec 32 := Scalar.addi c0_i32_104 v166
  v167.toNat
def k3_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_20 : BitVec 32 := 5#32
  let v43 : BitVec 1 := Scalar.cmpi .ne v2 c5_i32_20
  let v44 : BitVec 32 := Scalar.extui v43
  let c0_i32_21 : BitVec 32 := 0#32
  let v45 : BitVec 1 := Scalar.cmpi .ne v44 c0_i32_21
  v45

def k3_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_dev14 : Nat :=
  let c0_i32_104 : BitVec 32 := 0#32
  let c5_i32_102 : BitVec 32 := 5#32
  let c1_i32_103 : BitVec 32 := 1#32
  let v166 : BitVec 32 := Scalar.muli c5_i32_102 c1_i32_103
  let v167 : BitVec 32 := Scalar.addi c0_i32_104 v166
  v167.toNat
def k3_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_22 : BitVec 32 := 6#32
  let v46 : BitVec 1 := Scalar.cmpi .ne v2 c6_i32_22
  let v47 : BitVec 32 := Scalar.extui v46
  let c0_i32_23 : BitVec 32 := 0#32
  let v48 : BitVec 1 := Scalar.cmpi .ne v47 c0_i32_23
  v48

def k3_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_dev15 : Nat :=
  let c0_i32_104 : BitVec 32 := 0#32
  let c6_i32_102 : BitVec 32 := 6#32
  let c1_i32_103 : BitVec 32 := 1#32
  let v166 : BitVec 32 := Scalar.muli c6_i32_102 c1_i32_103
  let v167 : BitVec 32 := Scalar.addi c0_i32_104 v166
  v167.toNat
def k3_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_24 : BitVec 32 := 7#32
  let v49 : BitVec 1 := Scalar.cmpi .ne v2 c7_i32_24
  let v50 : BitVec 32 := Scalar.extui v49
  let c0_i32_25 : BitVec 32 := 0#32
  let v51 : BitVec 1 := Scalar.cmpi .ne v50 c0_i32_25
  v51

def k3_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_dev16 : Nat :=
  let c0_i32_104 : BitVec 32 := 0#32
  let c7_i32_102 : BitVec 32 := 7#32
  let c1_i32_103 : BitVec 32 := 1#32
  let v166 : BitVec 32 := Scalar.muli c7_i32_102 c1_i32_103
  let v167 : BitVec 32 := Scalar.addi c0_i32_104 v166
  v167.toNat
def k3_off17 (d0 : Dev nD) : Fin 2 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v52 : BitVec 32 := Scalar.muli v2 c256_i32
  let v53 : Index := Scalar.indexCast v52
  ![0, v53.toNat]
def k3_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : Index := Scalar.indexCast v2
  let c0_26 : Index := 0#32
  let c0_27 : Index := 0#32
  ![v57.toNat, 0, 0]
def k3_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_49 : BitVec 32 := 0#32
  let v90 : BitVec 1 := Scalar.cmpi .ne v2 c0_i32_49
  let v91 : BitVec 32 := Scalar.extui v90
  let c0_i32_50 : BitVec 32 := 0#32
  let v92 : BitVec 1 := Scalar.cmpi .ne v91 c0_i32_50
  v92

def k3_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off20 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k3_dev17 : Nat :=
  let c0_i32_105 : BitVec 32 := 0#32
  let c0_i32_103 : BitVec 32 := 0#32
  let c1_i32_104 : BitVec 32 := 1#32
  let v167 : BitVec 32 := Scalar.muli c0_i32_103 c1_i32_104
  let v168 : BitVec 32 := Scalar.addi c0_i32_105 v167
  v168.toNat
def k3_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v93 : BitVec 1 := Scalar.cmpi .ne v2 c1_i32_51
  let v94 : BitVec 32 := Scalar.extui v93
  let c0_i32_52 : BitVec 32 := 0#32
  let v95 : BitVec 1 := Scalar.cmpi .ne v94 c0_i32_52
  v95

def k3_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off22 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k3_dev18 : Nat :=
  let c0_i32_105 : BitVec 32 := 0#32
  let c1_i32_103 : BitVec 32 := 1#32
  let c1_i32_104 : BitVec 32 := 1#32
  let v167 : BitVec 32 := Scalar.muli c1_i32_103 c1_i32_104
  let v168 : BitVec 32 := Scalar.addi c0_i32_105 v167
  v168.toNat
def k3_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_53 : BitVec 32 := 2#32
  let v96 : BitVec 1 := Scalar.cmpi .ne v2 c2_i32_53
  let v97 : BitVec 32 := Scalar.extui v96
  let c0_i32_54 : BitVec 32 := 0#32
  let v98 : BitVec 1 := Scalar.cmpi .ne v97 c0_i32_54
  v98

def k3_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off24 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k3_dev19 : Nat :=
  let c0_i32_105 : BitVec 32 := 0#32
  let c2_i32_103 : BitVec 32 := 2#32
  let c1_i32_104 : BitVec 32 := 1#32
  let v167 : BitVec 32 := Scalar.muli c2_i32_103 c1_i32_104
  let v168 : BitVec 32 := Scalar.addi c0_i32_105 v167
  v168.toNat
def k3_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_55 : BitVec 32 := 3#32
  let v99 : BitVec 1 := Scalar.cmpi .ne v2 c3_i32_55
  let v100 : BitVec 32 := Scalar.extui v99
  let c0_i32_56 : BitVec 32 := 0#32
  let v101 : BitVec 1 := Scalar.cmpi .ne v100 c0_i32_56
  v101

def k3_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off26 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k3_dev20 : Nat :=
  let c0_i32_105 : BitVec 32 := 0#32
  let c3_i32_103 : BitVec 32 := 3#32
  let c1_i32_104 : BitVec 32 := 1#32
  let v167 : BitVec 32 := Scalar.muli c3_i32_103 c1_i32_104
  let v168 : BitVec 32 := Scalar.addi c0_i32_105 v167
  v168.toNat
def k3_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let v102 : BitVec 1 := Scalar.cmpi .ne v2 c4_i32_57
  let v103 : BitVec 32 := Scalar.extui v102
  let c0_i32_58 : BitVec 32 := 0#32
  let v104 : BitVec 1 := Scalar.cmpi .ne v103 c0_i32_58
  v104

def k3_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off28 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k3_dev21 : Nat :=
  let c0_i32_105 : BitVec 32 := 0#32
  let c4_i32_103 : BitVec 32 := 4#32
  let c1_i32_104 : BitVec 32 := 1#32
  let v167 : BitVec 32 := Scalar.muli c4_i32_103 c1_i32_104
  let v168 : BitVec 32 := Scalar.addi c0_i32_105 v167
  v168.toNat
def k3_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_59 : BitVec 32 := 5#32
  let v105 : BitVec 1 := Scalar.cmpi .ne v2 c5_i32_59
  let v106 : BitVec 32 := Scalar.extui v105
  let c0_i32_60 : BitVec 32 := 0#32
  let v107 : BitVec 1 := Scalar.cmpi .ne v106 c0_i32_60
  v107

def k3_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off30 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k3_dev22 : Nat :=
  let c0_i32_105 : BitVec 32 := 0#32
  let c5_i32_103 : BitVec 32 := 5#32
  let c1_i32_104 : BitVec 32 := 1#32
  let v167 : BitVec 32 := Scalar.muli c5_i32_103 c1_i32_104
  let v168 : BitVec 32 := Scalar.addi c0_i32_105 v167
  v168.toNat
def k3_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_61 : BitVec 32 := 6#32
  let v108 : BitVec 1 := Scalar.cmpi .ne v2 c6_i32_61
  let v109 : BitVec 32 := Scalar.extui v108
  let c0_i32_62 : BitVec 32 := 0#32
  let v110 : BitVec 1 := Scalar.cmpi .ne v109 c0_i32_62
  v110

def k3_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off32 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k3_dev23 : Nat :=
  let c0_i32_105 : BitVec 32 := 0#32
  let c6_i32_103 : BitVec 32 := 6#32
  let c1_i32_104 : BitVec 32 := 1#32
  let v167 : BitVec 32 := Scalar.muli c6_i32_103 c1_i32_104
  let v168 : BitVec 32 := Scalar.addi c0_i32_105 v167
  v168.toNat
def k3_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_63 : BitVec 32 := 7#32
  let v111 : BitVec 1 := Scalar.cmpi .ne v2 c7_i32_63
  let v112 : BitVec 32 := Scalar.extui v111
  let c0_i32_64 : BitVec 32 := 0#32
  let v113 : BitVec 1 := Scalar.cmpi .ne v112 c0_i32_64
  v113

def k3_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k3_off34 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k3_dev24 : Nat :=
  let c0_i32_105 : BitVec 32 := 0#32
  let c7_i32_103 : BitVec 32 := 7#32
  let c1_i32_104 : BitVec 32 := 1#32
  let v167 : BitVec 32 := Scalar.muli c7_i32_103 c1_i32_104
  let v168 : BitVec 32 := Scalar.addi c0_i32_105 v167
  v168.toNat
def k3_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_85 : BitVec 32 := 0#32
  let v142 : BitVec 1 := Scalar.cmpi .ne v2 c0_i32_85
  let v143 : BitVec 32 := Scalar.extui v142
  let c0_i32_86 : BitVec 32 := 0#32
  let v144 : BitVec 1 := Scalar.cmpi .ne v143 c0_i32_86
  v144

def k3_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_106 : BitVec 32 := 0#32
  let c0_i32_107 : BitVec 32 := 0#32
  ![v2.toNat, 0, 0]
def k3_off36 (d0 : Dev nD) : Fin 2 → Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_108 : BitVec 32 := 256#32
  let v171 : BitVec 32 := Scalar.muli v2 c256_i32_108
  ![0, v171.toNat]
def k3_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_87 : BitVec 32 := 1#32
  let v145 : BitVec 1 := Scalar.cmpi .ne v2 c1_i32_87
  let v146 : BitVec 32 := Scalar.extui v145
  let c0_i32_88 : BitVec 32 := 0#32
  let v147 : BitVec 1 := Scalar.cmpi .ne v146 c0_i32_88
  v147

def k3_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_106 : BitVec 32 := 0#32
  let c0_i32_107 : BitVec 32 := 0#32
  ![v2.toNat, 0, 0]
def k3_off38 (d0 : Dev nD) : Fin 2 → Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_108 : BitVec 32 := 256#32
  let v171 : BitVec 32 := Scalar.muli v2 c256_i32_108
  ![0, v171.toNat]
def k3_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_89 : BitVec 32 := 2#32
  let v148 : BitVec 1 := Scalar.cmpi .ne v2 c2_i32_89
  let v149 : BitVec 32 := Scalar.extui v148
  let c0_i32_90 : BitVec 32 := 0#32
  let v150 : BitVec 1 := Scalar.cmpi .ne v149 c0_i32_90
  v150

def k3_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_off40 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k3_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v151 : BitVec 1 := Scalar.cmpi .ne v2 c3_i32_91
  let v152 : BitVec 32 := Scalar.extui v151
  let c0_i32_92 : BitVec 32 := 0#32
  let v153 : BitVec 1 := Scalar.cmpi .ne v152 c0_i32_92
  v153

def k3_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_off42 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k3_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_93 : BitVec 32 := 4#32
  let v154 : BitVec 1 := Scalar.cmpi .ne v2 c4_i32_93
  let v155 : BitVec 32 := Scalar.extui v154
  let c0_i32_94 : BitVec 32 := 0#32
  let v156 : BitVec 1 := Scalar.cmpi .ne v155 c0_i32_94
  v156

def k3_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_off44 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k3_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_95 : BitVec 32 := 5#32
  let v157 : BitVec 1 := Scalar.cmpi .ne v2 c5_i32_95
  let v158 : BitVec 32 := Scalar.extui v157
  let c0_i32_96 : BitVec 32 := 0#32
  let v159 : BitVec 1 := Scalar.cmpi .ne v158 c0_i32_96
  v159

def k3_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_off46 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k3_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_97 : BitVec 32 := 6#32
  let v160 : BitVec 1 := Scalar.cmpi .ne v2 c6_i32_97
  let v161 : BitVec 32 := Scalar.extui v160
  let c0_i32_98 : BitVec 32 := 0#32
  let v162 : BitVec 1 := Scalar.cmpi .ne v161 c0_i32_98
  v162

def k3_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_off48 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k3_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_99 : BitVec 32 := 7#32
  let v163 : BitVec 1 := Scalar.cmpi .ne v2 c7_i32_99
  let v164 : BitVec 32 := Scalar.extui v163
  let c0_i32_100 : BitVec 32 := 0#32
  let v165 : BitVec 1 := Scalar.cmpi .ne v164 c0_i32_100
  v165

def k3_off49 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k3_off50 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
abbrev stage3_0 : Fin 1 → Memref sig .tc .vmem S64x2048 .f32 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))

abbrev stage3_1 : Fin 1 → Memref sig .tc .vmem S64x2048 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))

abbrev grid4 : Pipeline.Grid := ⟨1, ![8], ![false]⟩

def k4_cond1 (i : grid4.Coords) : BitVec 1 :=
  let arg0 : BitVec 32 := BitVec.ofNat 32 (i 0).val
  let c0_i32 : BitVec 32 := 0#32
  let v10 : BitVec 1 := Scalar.cmpi .eq arg0 c0_i32
  let v11 : BitVec 32 := Scalar.extui v10
  let c0_i32_7 : BitVec 32 := 0#32
  let v12 : BitVec 1 := Scalar.cmpi .ne v11 c0_i32_7
  v12

def k4_cond2 (i : grid4.Coords) : BitVec 1 :=
  let arg0 : BitVec 32 := BitVec.ofNat 32 (i 0).val
  let c0_i32_8 : BitVec 32 := 0#32
  let v13 : BitVec 1 := Scalar.cmpi .sgt arg0 c0_i32_8
  let v14 : BitVec 32 := Scalar.extui v13
  let c0_i32_9 : BitVec 32 := 0#32
  let v15 : BitVec 1 := Scalar.cmpi .ne v14 c0_i32_9
  v15

def cc4_transform_0 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_1 (i : grid4.Coords) : Fin 2 → Nat :=
  let arg0 : BitVec 32 := BitVec.ofNat 32 (i 0).val
  let c0_i32 : BitVec 32 := 0#32
  let c0_i32_0 : BitVec 32 := 0#32
  ![c0_i32.toNat, arg0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 1 → Memref sig .tc .vmem S64x2048 .f32 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![false]

abbrev stage4_1 : Fin 2 → Memref sig .tc .vmem S2048x512 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S512x2048 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 1 → Memref sig .tc .vmem S64x2048 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev grid5 : Pipeline.Grid := .none

def k5_cond1 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32 : BitVec 32 := 0#32
  let v4 : BitVec 1 := Scalar.cmpi .ne v2 c0_i32
  let v5 : BitVec 32 := Scalar.extui v4
  let c0_i32_0 : BitVec 32 := 0#32
  let v6 : BitVec 1 := Scalar.cmpi .ne v5 c0_i32_0
  v6

def k5_dev1 : Nat :=
  let c0_i32_104 : BitVec 32 := 0#32
  let c0_i32_102 : BitVec 32 := 0#32
  let c1_i32_103 : BitVec 32 := 1#32
  let v166 : BitVec 32 := Scalar.muli c0_i32_102 c1_i32_103
  let v167 : BitVec 32 := Scalar.addi c0_i32_104 v166
  v167.toNat
def k5_cond2 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_1 : BitVec 32 := 1#32
  let v7 : BitVec 1 := Scalar.cmpi .ne v2 c1_i32_1
  let v8 : BitVec 32 := Scalar.extui v7
  let c0_i32_2 : BitVec 32 := 0#32
  let v9 : BitVec 1 := Scalar.cmpi .ne v8 c0_i32_2
  v9

def k5_dev2 : Nat :=
  let c0_i32_104 : BitVec 32 := 0#32
  let c1_i32_102 : BitVec 32 := 1#32
  let c1_i32_103 : BitVec 32 := 1#32
  let v166 : BitVec 32 := Scalar.muli c1_i32_102 c1_i32_103
  let v167 : BitVec 32 := Scalar.addi c0_i32_104 v166
  v167.toNat
def k5_cond3 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32 : BitVec 32 := 2#32
  let v10 : BitVec 1 := Scalar.cmpi .ne v2 c2_i32
  let v11 : BitVec 32 := Scalar.extui v10
  let c0_i32_3 : BitVec 32 := 0#32
  let v12 : BitVec 1 := Scalar.cmpi .ne v11 c0_i32_3
  v12

def k5_dev3 : Nat :=
  let c0_i32_104 : BitVec 32 := 0#32
  let c2_i32_102 : BitVec 32 := 2#32
  let c1_i32_103 : BitVec 32 := 1#32
  let v166 : BitVec 32 := Scalar.muli c2_i32_102 c1_i32_103
  let v167 : BitVec 32 := Scalar.addi c0_i32_104 v166
  v167.toNat
def k5_cond4 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v13 : BitVec 1 := Scalar.cmpi .ne v2 c3_i32
  let v14 : BitVec 32 := Scalar.extui v13
  let c0_i32_4 : BitVec 32 := 0#32
  let v15 : BitVec 1 := Scalar.cmpi .ne v14 c0_i32_4
  v15

def k5_dev4 : Nat :=
  let c0_i32_104 : BitVec 32 := 0#32
  let c3_i32_102 : BitVec 32 := 3#32
  let c1_i32_103 : BitVec 32 := 1#32
  let v166 : BitVec 32 := Scalar.muli c3_i32_102 c1_i32_103
  let v167 : BitVec 32 := Scalar.addi c0_i32_104 v166
  v167.toNat
def k5_cond5 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v16 : BitVec 1 := Scalar.cmpi .ne v2 c4_i32
  let v17 : BitVec 32 := Scalar.extui v16
  let c0_i32_5 : BitVec 32 := 0#32
  let v18 : BitVec 1 := Scalar.cmpi .ne v17 c0_i32_5
  v18

def k5_dev5 : Nat :=
  let c0_i32_104 : BitVec 32 := 0#32
  let c4_i32_102 : BitVec 32 := 4#32
  let c1_i32_103 : BitVec 32 := 1#32
  let v166 : BitVec 32 := Scalar.muli c4_i32_102 c1_i32_103
  let v167 : BitVec 32 := Scalar.addi c0_i32_104 v166
  v167.toNat
def k5_cond6 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32 : BitVec 32 := 5#32
  let v19 : BitVec 1 := Scalar.cmpi .ne v2 c5_i32
  let v20 : BitVec 32 := Scalar.extui v19
  let c0_i32_6 : BitVec 32 := 0#32
  let v21 : BitVec 1 := Scalar.cmpi .ne v20 c0_i32_6
  v21

def k5_dev6 : Nat :=
  let c0_i32_104 : BitVec 32 := 0#32
  let c5_i32_102 : BitVec 32 := 5#32
  let c1_i32_103 : BitVec 32 := 1#32
  let v166 : BitVec 32 := Scalar.muli c5_i32_102 c1_i32_103
  let v167 : BitVec 32 := Scalar.addi c0_i32_104 v166
  v167.toNat
def k5_cond7 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32 : BitVec 32 := 6#32
  let v22 : BitVec 1 := Scalar.cmpi .ne v2 c6_i32
  let v23 : BitVec 32 := Scalar.extui v22
  let c0_i32_7 : BitVec 32 := 0#32
  let v24 : BitVec 1 := Scalar.cmpi .ne v23 c0_i32_7
  v24

def k5_dev7 : Nat :=
  let c0_i32_104 : BitVec 32 := 0#32
  let c6_i32_102 : BitVec 32 := 6#32
  let c1_i32_103 : BitVec 32 := 1#32
  let v166 : BitVec 32 := Scalar.muli c6_i32_102 c1_i32_103
  let v167 : BitVec 32 := Scalar.addi c0_i32_104 v166
  v167.toNat
def k5_cond8 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32 : BitVec 32 := 7#32
  let v25 : BitVec 1 := Scalar.cmpi .ne v2 c7_i32
  let v26 : BitVec 32 := Scalar.extui v25
  let c0_i32_8 : BitVec 32 := 0#32
  let v27 : BitVec 1 := Scalar.cmpi .ne v26 c0_i32_8
  v27

def k5_dev8 : Nat :=
  let c0_i32_104 : BitVec 32 := 0#32
  let c7_i32_102 : BitVec 32 := 7#32
  let c1_i32_103 : BitVec 32 := 1#32
  let v166 : BitVec 32 := Scalar.muli c7_i32_102 c1_i32_103
  let v167 : BitVec 32 := Scalar.addi c0_i32_104 v166
  v167.toNat
def k5_cond9 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_10 : BitVec 32 := 0#32
  let v28 : BitVec 1 := Scalar.cmpi .ne v2 c0_i32_10
  let v29 : BitVec 32 := Scalar.extui v28
  let c0_i32_11 : BitVec 32 := 0#32
  let v30 : BitVec 1 := Scalar.cmpi .ne v29 c0_i32_11
  v30

def k5_off1 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off2 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_dev9 : Nat :=
  let c0_i32_104 : BitVec 32 := 0#32
  let c0_i32_102 : BitVec 32 := 0#32
  let c1_i32_103 : BitVec 32 := 1#32
  let v166 : BitVec 32 := Scalar.muli c0_i32_102 c1_i32_103
  let v167 : BitVec 32 := Scalar.addi c0_i32_104 v166
  v167.toNat
def k5_cond10 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_12 : BitVec 32 := 1#32
  let v31 : BitVec 1 := Scalar.cmpi .ne v2 c1_i32_12
  let v32 : BitVec 32 := Scalar.extui v31
  let c0_i32_13 : BitVec 32 := 0#32
  let v33 : BitVec 1 := Scalar.cmpi .ne v32 c0_i32_13
  v33

def k5_off3 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off4 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_dev10 : Nat :=
  let c0_i32_104 : BitVec 32 := 0#32
  let c1_i32_102 : BitVec 32 := 1#32
  let c1_i32_103 : BitVec 32 := 1#32
  let v166 : BitVec 32 := Scalar.muli c1_i32_102 c1_i32_103
  let v167 : BitVec 32 := Scalar.addi c0_i32_104 v166
  v167.toNat
def k5_cond11 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_14 : BitVec 32 := 2#32
  let v34 : BitVec 1 := Scalar.cmpi .ne v2 c2_i32_14
  let v35 : BitVec 32 := Scalar.extui v34
  let c0_i32_15 : BitVec 32 := 0#32
  let v36 : BitVec 1 := Scalar.cmpi .ne v35 c0_i32_15
  v36

def k5_off5 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off6 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_dev11 : Nat :=
  let c0_i32_104 : BitVec 32 := 0#32
  let c2_i32_102 : BitVec 32 := 2#32
  let c1_i32_103 : BitVec 32 := 1#32
  let v166 : BitVec 32 := Scalar.muli c2_i32_102 c1_i32_103
  let v167 : BitVec 32 := Scalar.addi c0_i32_104 v166
  v167.toNat
def k5_cond12 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_16 : BitVec 32 := 3#32
  let v37 : BitVec 1 := Scalar.cmpi .ne v2 c3_i32_16
  let v38 : BitVec 32 := Scalar.extui v37
  let c0_i32_17 : BitVec 32 := 0#32
  let v39 : BitVec 1 := Scalar.cmpi .ne v38 c0_i32_17
  v39

def k5_off7 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off8 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_dev12 : Nat :=
  let c0_i32_104 : BitVec 32 := 0#32
  let c3_i32_102 : BitVec 32 := 3#32
  let c1_i32_103 : BitVec 32 := 1#32
  let v166 : BitVec 32 := Scalar.muli c3_i32_102 c1_i32_103
  let v167 : BitVec 32 := Scalar.addi c0_i32_104 v166
  v167.toNat
def k5_cond13 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_18 : BitVec 32 := 4#32
  let v40 : BitVec 1 := Scalar.cmpi .ne v2 c4_i32_18
  let v41 : BitVec 32 := Scalar.extui v40
  let c0_i32_19 : BitVec 32 := 0#32
  let v42 : BitVec 1 := Scalar.cmpi .ne v41 c0_i32_19
  v42

def k5_off9 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off10 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_dev13 : Nat :=
  let c0_i32_104 : BitVec 32 := 0#32
  let c4_i32_102 : BitVec 32 := 4#32
  let c1_i32_103 : BitVec 32 := 1#32
  let v166 : BitVec 32 := Scalar.muli c4_i32_102 c1_i32_103
  let v167 : BitVec 32 := Scalar.addi c0_i32_104 v166
  v167.toNat
def k5_cond14 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_20 : BitVec 32 := 5#32
  let v43 : BitVec 1 := Scalar.cmpi .ne v2 c5_i32_20
  let v44 : BitVec 32 := Scalar.extui v43
  let c0_i32_21 : BitVec 32 := 0#32
  let v45 : BitVec 1 := Scalar.cmpi .ne v44 c0_i32_21
  v45

def k5_off11 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off12 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_dev14 : Nat :=
  let c0_i32_104 : BitVec 32 := 0#32
  let c5_i32_102 : BitVec 32 := 5#32
  let c1_i32_103 : BitVec 32 := 1#32
  let v166 : BitVec 32 := Scalar.muli c5_i32_102 c1_i32_103
  let v167 : BitVec 32 := Scalar.addi c0_i32_104 v166
  v167.toNat
def k5_cond15 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_22 : BitVec 32 := 6#32
  let v46 : BitVec 1 := Scalar.cmpi .ne v2 c6_i32_22
  let v47 : BitVec 32 := Scalar.extui v46
  let c0_i32_23 : BitVec 32 := 0#32
  let v48 : BitVec 1 := Scalar.cmpi .ne v47 c0_i32_23
  v48

def k5_off13 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off14 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_dev15 : Nat :=
  let c0_i32_104 : BitVec 32 := 0#32
  let c6_i32_102 : BitVec 32 := 6#32
  let c1_i32_103 : BitVec 32 := 1#32
  let v166 : BitVec 32 := Scalar.muli c6_i32_102 c1_i32_103
  let v167 : BitVec 32 := Scalar.addi c0_i32_104 v166
  v167.toNat
def k5_cond16 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_24 : BitVec 32 := 7#32
  let v49 : BitVec 1 := Scalar.cmpi .ne v2 c7_i32_24
  let v50 : BitVec 32 := Scalar.extui v49
  let c0_i32_25 : BitVec 32 := 0#32
  let v51 : BitVec 1 := Scalar.cmpi .ne v50 c0_i32_25
  v51

def k5_off15 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off16 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_dev16 : Nat :=
  let c0_i32_104 : BitVec 32 := 0#32
  let c7_i32_102 : BitVec 32 := 7#32
  let c1_i32_103 : BitVec 32 := 1#32
  let v166 : BitVec 32 := Scalar.muli c7_i32_102 c1_i32_103
  let v167 : BitVec 32 := Scalar.addi c0_i32_104 v166
  v167.toNat
def k5_off17 (d0 : Dev nD) : Fin 2 → Nat :=
  let c0 : Index := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32 : BitVec 32 := 256#32
  let v52 : BitVec 32 := Scalar.muli v2 c256_i32
  let v53 : Index := Scalar.indexCast v52
  ![0, v53.toNat]
def k5_off18 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v57 : Index := Scalar.indexCast v2
  let c0_26 : Index := 0#32
  let c0_27 : Index := 0#32
  ![v57.toNat, 0, 0]
def k5_cond25 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_49 : BitVec 32 := 0#32
  let v90 : BitVec 1 := Scalar.cmpi .ne v2 c0_i32_49
  let v91 : BitVec 32 := Scalar.extui v90
  let c0_i32_50 : BitVec 32 := 0#32
  let v92 : BitVec 1 := Scalar.cmpi .ne v91 c0_i32_50
  v92

def k5_off19 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off20 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k5_dev17 : Nat :=
  let c0_i32_105 : BitVec 32 := 0#32
  let c0_i32_103 : BitVec 32 := 0#32
  let c1_i32_104 : BitVec 32 := 1#32
  let v167 : BitVec 32 := Scalar.muli c0_i32_103 c1_i32_104
  let v168 : BitVec 32 := Scalar.addi c0_i32_105 v167
  v168.toNat
def k5_cond26 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_51 : BitVec 32 := 1#32
  let v93 : BitVec 1 := Scalar.cmpi .ne v2 c1_i32_51
  let v94 : BitVec 32 := Scalar.extui v93
  let c0_i32_52 : BitVec 32 := 0#32
  let v95 : BitVec 1 := Scalar.cmpi .ne v94 c0_i32_52
  v95

def k5_off21 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off22 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k5_dev18 : Nat :=
  let c0_i32_105 : BitVec 32 := 0#32
  let c1_i32_103 : BitVec 32 := 1#32
  let c1_i32_104 : BitVec 32 := 1#32
  let v167 : BitVec 32 := Scalar.muli c1_i32_103 c1_i32_104
  let v168 : BitVec 32 := Scalar.addi c0_i32_105 v167
  v168.toNat
def k5_cond27 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_53 : BitVec 32 := 2#32
  let v96 : BitVec 1 := Scalar.cmpi .ne v2 c2_i32_53
  let v97 : BitVec 32 := Scalar.extui v96
  let c0_i32_54 : BitVec 32 := 0#32
  let v98 : BitVec 1 := Scalar.cmpi .ne v97 c0_i32_54
  v98

def k5_off23 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off24 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k5_dev19 : Nat :=
  let c0_i32_105 : BitVec 32 := 0#32
  let c2_i32_103 : BitVec 32 := 2#32
  let c1_i32_104 : BitVec 32 := 1#32
  let v167 : BitVec 32 := Scalar.muli c2_i32_103 c1_i32_104
  let v168 : BitVec 32 := Scalar.addi c0_i32_105 v167
  v168.toNat
def k5_cond28 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_55 : BitVec 32 := 3#32
  let v99 : BitVec 1 := Scalar.cmpi .ne v2 c3_i32_55
  let v100 : BitVec 32 := Scalar.extui v99
  let c0_i32_56 : BitVec 32 := 0#32
  let v101 : BitVec 1 := Scalar.cmpi .ne v100 c0_i32_56
  v101

def k5_off25 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off26 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k5_dev20 : Nat :=
  let c0_i32_105 : BitVec 32 := 0#32
  let c3_i32_103 : BitVec 32 := 3#32
  let c1_i32_104 : BitVec 32 := 1#32
  let v167 : BitVec 32 := Scalar.muli c3_i32_103 c1_i32_104
  let v168 : BitVec 32 := Scalar.addi c0_i32_105 v167
  v168.toNat
def k5_cond29 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_57 : BitVec 32 := 4#32
  let v102 : BitVec 1 := Scalar.cmpi .ne v2 c4_i32_57
  let v103 : BitVec 32 := Scalar.extui v102
  let c0_i32_58 : BitVec 32 := 0#32
  let v104 : BitVec 1 := Scalar.cmpi .ne v103 c0_i32_58
  v104

def k5_off27 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off28 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k5_dev21 : Nat :=
  let c0_i32_105 : BitVec 32 := 0#32
  let c4_i32_103 : BitVec 32 := 4#32
  let c1_i32_104 : BitVec 32 := 1#32
  let v167 : BitVec 32 := Scalar.muli c4_i32_103 c1_i32_104
  let v168 : BitVec 32 := Scalar.addi c0_i32_105 v167
  v168.toNat
def k5_cond30 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_59 : BitVec 32 := 5#32
  let v105 : BitVec 1 := Scalar.cmpi .ne v2 c5_i32_59
  let v106 : BitVec 32 := Scalar.extui v105
  let c0_i32_60 : BitVec 32 := 0#32
  let v107 : BitVec 1 := Scalar.cmpi .ne v106 c0_i32_60
  v107

def k5_off29 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off30 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k5_dev22 : Nat :=
  let c0_i32_105 : BitVec 32 := 0#32
  let c5_i32_103 : BitVec 32 := 5#32
  let c1_i32_104 : BitVec 32 := 1#32
  let v167 : BitVec 32 := Scalar.muli c5_i32_103 c1_i32_104
  let v168 : BitVec 32 := Scalar.addi c0_i32_105 v167
  v168.toNat
def k5_cond31 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_61 : BitVec 32 := 6#32
  let v108 : BitVec 1 := Scalar.cmpi .ne v2 c6_i32_61
  let v109 : BitVec 32 := Scalar.extui v108
  let c0_i32_62 : BitVec 32 := 0#32
  let v110 : BitVec 1 := Scalar.cmpi .ne v109 c0_i32_62
  v110

def k5_off31 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off32 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k5_dev23 : Nat :=
  let c0_i32_105 : BitVec 32 := 0#32
  let c6_i32_103 : BitVec 32 := 6#32
  let c1_i32_104 : BitVec 32 := 1#32
  let v167 : BitVec 32 := Scalar.muli c6_i32_103 c1_i32_104
  let v168 : BitVec 32 := Scalar.addi c0_i32_105 v167
  v168.toNat
def k5_cond32 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_63 : BitVec 32 := 7#32
  let v111 : BitVec 1 := Scalar.cmpi .ne v2 c7_i32_63
  let v112 : BitVec 32 := Scalar.extui v111
  let c0_i32_64 : BitVec 32 := 0#32
  let v113 : BitVec 1 := Scalar.cmpi .ne v112 c0_i32_64
  v113

def k5_off33 (d0 : Dev nD) : Fin 1 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  ![v2.toNat]
def k5_off34 (d0 : Dev nD) : Fin 2 → Nat :=
  let c0_i32_106 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_101 : BitVec 32 := 256#32
  let v166 : BitVec 32 := Scalar.muli v2 c256_i32_101
  ![0, v166.toNat]
def k5_dev24 : Nat :=
  let c0_i32_105 : BitVec 32 := 0#32
  let c7_i32_103 : BitVec 32 := 7#32
  let c1_i32_104 : BitVec 32 := 1#32
  let v167 : BitVec 32 := Scalar.muli c7_i32_103 c1_i32_104
  let v168 : BitVec 32 := Scalar.addi c0_i32_105 v167
  v168.toNat
def k5_cond41 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_85 : BitVec 32 := 0#32
  let v142 : BitVec 1 := Scalar.cmpi .ne v2 c0_i32_85
  let v143 : BitVec 32 := Scalar.extui v142
  let c0_i32_86 : BitVec 32 := 0#32
  let v144 : BitVec 1 := Scalar.cmpi .ne v143 c0_i32_86
  v144

def k5_off35 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_106 : BitVec 32 := 0#32
  let c0_i32_107 : BitVec 32 := 0#32
  ![v2.toNat, 0, 0]
def k5_off36 (d0 : Dev nD) : Fin 2 → Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_108 : BitVec 32 := 256#32
  let v171 : BitVec 32 := Scalar.muli v2 c256_i32_108
  ![0, v171.toNat]
def k5_cond42 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_87 : BitVec 32 := 1#32
  let v145 : BitVec 1 := Scalar.cmpi .ne v2 c1_i32_87
  let v146 : BitVec 32 := Scalar.extui v145
  let c0_i32_88 : BitVec 32 := 0#32
  let v147 : BitVec 1 := Scalar.cmpi .ne v146 c0_i32_88
  v147

def k5_off37 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_106 : BitVec 32 := 0#32
  let c0_i32_107 : BitVec 32 := 0#32
  ![v2.toNat, 0, 0]
def k5_off38 (d0 : Dev nD) : Fin 2 → Nat :=
  let c0_i32_112 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_108 : BitVec 32 := 256#32
  let v171 : BitVec 32 := Scalar.muli v2 c256_i32_108
  ![0, v171.toNat]
def k5_cond43 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c2_i32_89 : BitVec 32 := 2#32
  let v148 : BitVec 1 := Scalar.cmpi .ne v2 c2_i32_89
  let v149 : BitVec 32 := Scalar.extui v148
  let c0_i32_90 : BitVec 32 := 0#32
  let v150 : BitVec 1 := Scalar.cmpi .ne v149 c0_i32_90
  v150

def k5_off39 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_off40 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k5_cond44 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_91 : BitVec 32 := 3#32
  let v151 : BitVec 1 := Scalar.cmpi .ne v2 c3_i32_91
  let v152 : BitVec 32 := Scalar.extui v151
  let c0_i32_92 : BitVec 32 := 0#32
  let v153 : BitVec 1 := Scalar.cmpi .ne v152 c0_i32_92
  v153

def k5_off41 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_off42 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k5_cond45 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_93 : BitVec 32 := 4#32
  let v154 : BitVec 1 := Scalar.cmpi .ne v2 c4_i32_93
  let v155 : BitVec 32 := Scalar.extui v154
  let c0_i32_94 : BitVec 32 := 0#32
  let v156 : BitVec 1 := Scalar.cmpi .ne v155 c0_i32_94
  v156

def k5_off43 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_off44 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k5_cond46 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c5_i32_95 : BitVec 32 := 5#32
  let v157 : BitVec 1 := Scalar.cmpi .ne v2 c5_i32_95
  let v158 : BitVec 32 := Scalar.extui v157
  let c0_i32_96 : BitVec 32 := 0#32
  let v159 : BitVec 1 := Scalar.cmpi .ne v158 c0_i32_96
  v159

def k5_off45 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_off46 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k5_cond47 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c6_i32_97 : BitVec 32 := 6#32
  let v160 : BitVec 1 := Scalar.cmpi .ne v2 c6_i32_97
  let v161 : BitVec 32 := Scalar.extui v160
  let c0_i32_98 : BitVec 32 := 0#32
  let v162 : BitVec 1 := Scalar.cmpi .ne v161 c0_i32_98
  v162

def k5_off47 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_off48 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
def k5_cond48 (d0 : Dev nD) : BitVec 1 :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c7_i32_99 : BitVec 32 := 7#32
  let v163 : BitVec 1 := Scalar.cmpi .ne v2 c7_i32_99
  let v164 : BitVec 32 := Scalar.extui v163
  let c0_i32_100 : BitVec 32 := 0#32
  let v165 : BitVec 1 := Scalar.cmpi .ne v164 c0_i32_100
  v165

def k5_off49 (d0 : Dev nD) : Fin 3 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c0_i32_105 : BitVec 32 := 0#32
  let c0_i32_106 : BitVec 32 := 0#32
  ![v2.toNat, 0, 0]
def k5_off50 (d0 : Dev nD) : Fin 2 → Nat :=
  let c0_i32_111 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c256_i32_107 : BitVec 32 := 256#32
  let v171 : BitVec 32 := Scalar.muli v2 c256_i32_107
  ![0, v171.toNat]
abbrev stage5_0 : Fin 1 → Memref sig .tc .vmem S64x2048 .f32 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))

abbrev stage5_1 : Fin 1 → Memref sig .tc .vmem S64x2048 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
-- ==== ReferenceIdeal.lean ====
abbrev S64x2048 : Shape := ⟨2, ![64, 2048]⟩
abbrev S2048x32768 : Shape := ⟨2, ![2048, 32768]⟩
abbrev S32768x2048 : Shape := ⟨2, ![32768, 2048]⟩
abbrev S64x32768 : Shape := ⟨2, ![64, 32768]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S64x2048, .f32⟩
  | .hbm, ⟨1, _⟩ => ⟨S2048x32768, .f32⟩
  | .hbm, ⟨2, _⟩ => ⟨S2048x32768, .f32⟩
  | .hbm, ⟨3, _⟩ => ⟨S2048x32768, .f32⟩
  | .hbm, ⟨4, _⟩ => ⟨S32768x2048, .f32⟩
  | .hbm, ⟨5, _⟩ => ⟨S32768x2048, .f32⟩
  | .hbm, ⟨6, _⟩ => ⟨S32768x2048, .f32⟩
  | .hbm, ⟨7, _⟩ => ⟨S64x32768, .f32⟩
  | .hbm, ⟨8, _⟩ => ⟨S_, .f32⟩
  | .hbm, ⟨9, _⟩ => ⟨S64x32768, .f32⟩
  | .hbm, ⟨10, _⟩ => ⟨S64x32768, .f32⟩
  | .hbm, ⟨11, _⟩ => ⟨S64x2048, .f32⟩
  | .hbm, ⟨12, _⟩ => ⟨S64x32768, .f32⟩
  | .hbm, ⟨13, _⟩ => ⟨S_, .f32⟩
  | .hbm, ⟨14, _⟩ => ⟨S64x32768, .f32⟩
  | .hbm, ⟨15, _⟩ => ⟨S64x32768, .f32⟩
  | .hbm, ⟨16, _⟩ => ⟨S64x2048, .f32⟩
  | .hbm, ⟨17, _⟩ => ⟨S64x32768, .f32⟩
  | .hbm, ⟨18, _⟩ => ⟨S_, .f32⟩
  | .hbm, ⟨19, _⟩ => ⟨S64x32768, .f32⟩
  | .hbm, ⟨20, _⟩ => ⟨S64x32768, .f32⟩
  | .hbm, ⟨21, _⟩ => ⟨S64x2048, .f32⟩
  | _, _ => ⟨S64x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Proof.KernelIdeal.Body.lean ====
/- The all-reduce body in a readable form: five loops over the eight peers, each loop skipping the device
   that runs it, with a few loads and stores between them. The program prints the loops unrolled and cut
   into parts; here each part is shown equal to its loop. -/
module

public import proofs.«01_k».proof.Proof.Gen.KernelIdeal.Skeleton

@[expose] public section

noncomputable section

namespace Cert.KernelIdeal.AR

open Idealize.ShloMosaic Idealize.SL.Sem Cert.KernelIdeal Cert.KernelIdeal.Gen

variable {F : FTy → Type} [FloatOps F]

/-! ## What the body is given -/

/-- The four buffers and the four semaphore arrays of one all-reduce. -/
structure Args where
  p : Memref sig .tc .vmem S64x2048 .f32
  hp : p.IsWhole
  o : Memref sig .tc .vmem S64x2048 .f32
  ho : o.IsWhole
  rs : Memref sig .tc .vmem S8x64x256 .f32
  hrs : rs.IsWhole
  red : Memref sig .tc .vmem S64x256 .f32
  hred : red.IsWhole
  ss : DmaSems sig S8
  sr : DmaSems sig S8
  gs : DmaSems sig S8
  gr : DmaSems sig S8

theorem col_inb (p : Dev nD) : ∀ a, (![0, 256 * p.val] : Fin 2 → Nat) a + S64x256.size a ≤ S64x2048.size a := by
  revert p; decide
theorem slot_inb (p : Dev nD) : ∀ a, (![p.val, 0, 0] : Fin 3 → Nat) a + S1x64x256.size a ≤ S8x64x256.size a := by
  revert p; decide
theorem sem_inb (p : Dev nD) : ∀ a, (![p.val] : Fin 1 → Nat) a + S1.size a ≤ S8.size a := by
  revert p; decide

/-- Columns `256 p .. 256 p + 255`. -/
abbrev colRect (p : Dev nD) : Rect S64x2048 := Rect.unit (s := S64x2048) ![0, 256 * p.val] S64x256.size (col_inb p)
/-- Row `p` of the eight slots. -/
abbrev slotRect (p : Dev nD) : Rect S8x64x256 := Rect.unit (s := S8x64x256) ![p.val, 0, 0] S1x64x256.size (slot_inb p)
/-- The column block `p` of a buffer. -/
abbrev col (b : Memref sig .tc .vmem S64x2048 .f32) (p : Dev nD) : Memref sig .tc .vmem S64x256 .f32 :=
  b.slice (colRect p) (fun _ => rfl)
/-- The slot `p`, with its leading axis. -/
abbrev slot1 (b : Memref sig .tc .vmem S8x64x256 .f32) (p : Dev nD) : Memref sig .tc .vmem S1x64x256 .f32 :=
  b.slice (slotRect p) (fun _ => rfl)
/-- The slot `p`. -/
abbrev slot (b : Memref sig .tc .vmem S8x64x256 .f32) (p : Dev nD) : Memref sig .tc .vmem S64x256 .f32 :=
  (slot1 b p).squeeze S64x256 squeezes_S1x64x256_S64x256
/-- The semaphore `p` of an array. -/
abbrev semAt (s : DmaSems sig S8) (p : Dev nD) : DmaSem sig :=
  ((s.slice (Rect.unit (s := S8) ![p.val] S1.size (sem_inb p))).squeeze S_ squeezes_S1_S_).sem

abbrev PG (α : Type) := Prog (TpuEff nD τ sig (Elt F) Λ₀ .tc) α

/-- Announce to `p` that this device has arrived. -/
def sigOp (bar : Sem sig) (p : Dev nD) : PG (F := F) PUnit := semSignalWord p bar 1#32
/-- Send column block `p` of this device's partial sums to `p`, into the slot of the sender. -/
def sendOp (a : Args) (c p : Dev nD) : PG (F := F) PUnit :=
  Prog.lift (.enqueueDma (col a.p p) (.remote (Dev.tc p) (slot a.rs c) (.dma (semAt a.ss p))) (.dma (semAt a.sr c))
    (View.wordExact_bits rfl) ((View.wordExact_bits rfl).reshape _ _) ⟨⟨rfl, Or.inl rfl⟩, trivial⟩)
/-- Wait for the block sent by `p`. -/
def recvOp (a : Args) (c p : Dev nD) : PG (F := F) PUnit :=
  Prog.lift (.waitDma2 (semAt a.sr p) (slot a.rs p) (slot a.rs p)
    ((View.wordExact_bits rfl).reshape _ _) ((View.wordExact_bits rfl).reshape _ _))
/-- Send the reduced block to `p`, into the columns of the sender. -/
def agSendOp (a : Args) (c p : Dev nD) : PG (F := F) PUnit :=
  Prog.lift (.enqueueDma a.red (.remote (Dev.tc p) (col a.o c) (.dma (semAt a.gs p))) (.dma (semAt a.gr c))
    a.hred.wordExact (View.wordExact_bits rfl) ⟨⟨rfl, Or.inl rfl⟩, trivial⟩)
/-- Wait for the reduced block of `p`. -/
def agRecvOp (a : Args) (c p : Dev nD) : PG (F := F) PUnit :=
  Prog.lift (.waitDma2 (semAt a.gr p) a.red (col a.o p) a.hred.wordExact (View.wordExact_bits rfl))
/-- Wait until the first copy to `p` has left. -/
def finOp1 (a : Args) (c p : Dev nD) : PG (F := F) PUnit :=
  Prog.lift (.waitDma2 (semAt a.ss p) (slot a.rs c) (col a.p p) ((View.wordExact_bits rfl).reshape _ _) (View.wordExact_bits rfl))
/-- Wait until the second copy to `p` has left. -/
def finOp2 (a : Args) (c p : Dev nD) : PG (F := F) PUnit :=
  Prog.lift (.waitDma2 (semAt a.gs p) (col a.o c) a.red (View.wordExact_bits rfl) a.hred.wordExact)

/-- Do `op` unless `c` is `p`, then `k`. -/
def stepIf (c p : Dev nD) (op : PG (F := F) PUnit) {α : Type} (k : PG (F := F) α) : PG (F := F) α :=
  if c ≠ p then op >>= fun _ => k else k

/-- `stepIf` for the peers of a list in turn. -/
def loopP (c : Dev nD) (f : Dev nD → PG (F := F) PUnit) : List (Dev nD) → {α : Type} → PG (F := F) α → PG (F := F) α
  | [], _, k => k
  | p :: l, _, k => stepIf c p (f p) (loopP c f l k)

/-- The eight devices in order. -/
def peers : List (Dev nD) := [0, 1, 2, 3, 4, 5, 6, 7]

/-! ## The printed conditions and steps -/

/-- The device's own index as the program computes it: its number. -/
abbrev own (d : Dev nD) : BitVec 32 := Scalar.remsi (Scalar.divsi (Dev.word d) 1#32) 8#32

/-- The printed test that this device is not `p`. -/
theorem cond_iff (d p : Dev nD) :
    Scalar.cmpi .ne (Scalar.extui (Scalar.cmpi .ne (own d) (BitVec.ofNat 32 p.val)) : BitVec 32) 0#32 = 1#1 ↔ d ≠ p := by
  revert d p; decide

variable {α : Type}

theorem sig_form (d p : Dev nD) {cnd : Prop} [Decidable cnd] (hc : cnd ↔ d ≠ p) {n : ℕ} (hn : n = p.val)
    (hlt : cnd → n < nD) (bar : Sem sig) (k : PG (F := F) α) :
    (if h : cnd then (semSignalWord (⟨n, hlt h⟩ : Dev nD) bar 1#32 : PG (F := F) PUnit) >>= fun _ => k else k)
      = stepIf d p (sigOp bar p) k := by
  subst hn
  by_cases h : d = p
  · rw [dif_neg (fun h' => hc.mp h' h), stepIf, if_neg (not_not.mpr h)]
  · rw [dif_pos (hc.mpr h), stepIf, if_pos h]; rfl

theorem send_form (a : Args) (d p : Dev nD) {cnd : Prop} [Decidable cnd] (hc : cnd ↔ d ≠ p) {n : ℕ} (hn : n = p.val)
    (hlt : cnd → n < nD) {o1 : Fin 1 → ℕ} (e1 : o1 = ![p.val]) (b1) {o2 : Fin 1 → ℕ} (e2 : o2 = ![d.val])
    (b2 : cnd → _) {o3 : Fin 3 → ℕ} (e3 : o3 = ![d.val, 0, 0]) (b3 : cnd → _) {o4 : Fin 2 → ℕ}
    (e4 : o4 = ![0, 256 * p.val]) (b4) (k : PG (F := F) α) :
    (if h : cnd then
        (Prog.lift (.enqueueDma (a.p.slice (Rect.unit (s := S64x2048) o4 S64x256.size b4) (fun _ => rfl))
          (.remote (Dev.tc (⟨n, hlt h⟩ : Dev nD))
            ((a.rs.slice (Rect.unit (s := S8x64x256) o3 S1x64x256.size (b3 h)) (fun _ => rfl)).squeeze S64x256
              squeezes_S1x64x256_S64x256)
            (.dma ((a.ss.slice (Rect.unit (s := S8) o1 S1.size b1)).squeeze S_ squeezes_S1_S_).sem))
          (.dma ((a.sr.slice (Rect.unit (s := S8) o2 S1.size (b2 h))).squeeze S_ squeezes_S1_S_).sem)
          (View.wordExact_bits rfl) ((View.wordExact_bits rfl).reshape _ _) ⟨⟨rfl, Or.inl rfl⟩, trivial⟩)
          : PG (F := F) PUnit) >>= fun _ => k else k)
      = stepIf d p (sendOp a d p) k := by
  subst hn e1 e2 e3 e4
  by_cases h : d = p
  · rw [dif_neg (fun h' => hc.mp h' h), stepIf, if_neg (not_not.mpr h)]
  · rw [dif_pos (hc.mpr h), stepIf, if_pos h]; rfl

theorem recv_form (a : Args) (d p : Dev nD) {cnd : Prop} [Decidable cnd] (hc : cnd ↔ d ≠ p)
    {o1 : Fin 1 → ℕ} (e1 : o1 = ![p.val]) (b1) {o3 : Fin 3 → ℕ} (e3 : o3 = ![p.val, 0, 0]) (b3) (k : PG (F := F) α) :
    (if h : cnd then
        (Prog.lift (.waitDma2 ((a.sr.slice (Rect.unit (s := S8) o1 S1.size b1)).squeeze S_ squeezes_S1_S_).sem
          ((a.rs.slice (Rect.unit (s := S8x64x256) o3 S1x64x256.size b3) (fun _ => rfl)).squeeze S64x256
              squeezes_S1x64x256_S64x256)
          ((a.rs.slice (Rect.unit (s := S8x64x256) o3 S1x64x256.size b3) (fun _ => rfl)).squeeze S64x256
              squeezes_S1x64x256_S64x256)
          ((View.wordExact_bits rfl).reshape _ _) ((View.wordExact_bits rfl).reshape _ _))
          : PG (F := F) PUnit) >>= fun _ => k else k)
      = stepIf d p (recvOp a d p) k := by
  subst e1 e3
  by_cases h : d = p
  · rw [dif_neg (fun h' => hc.mp h' h), stepIf, if_neg (not_not.mpr h)]
  · rw [dif_pos (hc.mpr h), stepIf, if_pos h]; rfl

theorem agSend_form (a : Args) (d p : Dev nD) {cnd : Prop} [Decidable cnd] (hc : cnd ↔ d ≠ p) {n : ℕ} (hn : n = p.val)
    (hlt : cnd → n < nD) {o1 : Fin 1 → ℕ} (e1 : o1 = ![p.val]) (b1) {o2 : Fin 1 → ℕ} (e2 : o2 = ![d.val])
    (b2 : cnd → _) {o4 : Fin 2 → ℕ} (e4 : o4 = ![0, 256 * d.val]) (b4 : cnd → _) (k : PG (F := F) α) :
    (if h : cnd then
        (Prog.lift (.enqueueDma a.red
          (.remote (Dev.tc (⟨n, hlt h⟩ : Dev nD))
            (a.o.slice (Rect.unit (s := S64x2048) o4 S64x256.size (b4 h)) (fun _ => rfl))
            (.dma ((a.gs.slice (Rect.unit (s := S8) o1 S1.size b1)).squeeze S_ squeezes_S1_S_).sem))
          (.dma ((a.gr.slice (Rect.unit (s := S8) o2 S1.size (b2 h))).squeeze S_ squeezes_S1_S_).sem)
          a.hred.wordExact (View.wordExact_bits rfl) ⟨⟨rfl, Or.inl rfl⟩, trivial⟩)
          : PG (F := F) PUnit) >>= fun _ => k else k)
      = stepIf d p (agSendOp a d p) k := by
  subst hn e1 e2 e4
  by_cases h : d = p
  · rw [dif_neg (fun h' => hc.mp h' h), stepIf, if_neg (not_not.mpr h)]
  · rw [dif_pos (hc.mpr h), stepIf, if_pos h]; rfl

theorem agRecv_form (a : Args) (d p : Dev nD) {cnd : Prop} [Decidable cnd] (hc : cnd ↔ d ≠ p)
    {o1 : Fin 1 → ℕ} (e1 : o1 = ![p.val]) (b1) {o4 : Fin 2 → ℕ} (e4 : o4 = ![0, 256 * p.val]) (b4) (k : PG (F := F) α) :
    (if h : cnd then
        (Prog.lift (.waitDma2 ((a.gr.slice (Rect.unit (s := S8) o1 S1.size b1)).squeeze S_ squeezes_S1_S_).sem a.red
          (a.o.slice (Rect.unit (s := S64x2048) o4 S64x256.size b4) (fun _ => rfl))
          a.hred.wordExact (View.wordExact_bits rfl))
          : PG (F := F) PUnit) >>= fun _ => k else k)
      = stepIf d p (agRecvOp a d p) k := by
  subst e1 e4
  by_cases h : d = p
  · rw [dif_neg (fun h' => hc.mp h' h), stepIf, if_neg (not_not.mpr h)]
  · rw [dif_pos (hc.mpr h), stepIf, if_pos h]; rfl

theorem fin_form (a : Args) (d p : Dev nD) {cnd : Prop} [Decidable cnd] (hc : cnd ↔ d ≠ p)
    {o1 : Fin 1 → ℕ} (e1 : o1 = ![p.val]) (b1) {o2 : Fin 2 → ℕ} (e2 : o2 = ![0, 256 * p.val]) (b2)
    {o3 : Fin 3 → ℕ} (e3 : o3 = ![d.val, 0, 0]) (b3 : cnd → _)
    {o4 : Fin 2 → ℕ} (e4 : o4 = ![0, 256 * d.val]) (b4 : cnd → _) (k : PG (F := F) α) :
    (if h : cnd then
        (Prog.lift (.waitDma2 ((a.ss.slice (Rect.unit (s := S8) o1 S1.size b1)).squeeze S_ squeezes_S1_S_).sem
          ((a.rs.slice (Rect.unit (s := S8x64x256) o3 S1x64x256.size (b3 h)) (fun _ => rfl)).squeeze S64x256
              squeezes_S1x64x256_S64x256)
          (a.p.slice (Rect.unit (s := S64x2048) o2 S64x256.size b2) (fun _ => rfl))
          ((View.wordExact_bits rfl).reshape _ _) (View.wordExact_bits rfl))
          : PG (F := F) PUnit) >>= fun _ =>
        (Prog.lift (.waitDma2 ((a.gs.slice (Rect.unit (s := S8) o1 S1.size b1)).squeeze S_ squeezes_S1_S_).sem
          (a.o.slice (Rect.unit (s := S64x2048) o4 S64x256.size (b4 h)) (fun _ => rfl)) a.red
          (View.wordExact_bits rfl) a.hred.wordExact) : PG (F := F) PUnit) >>= fun _ => k else k)
      = stepIf d p (finOp1 a d p >>= fun _ => finOp2 a d p) k := by
  subst e1 e2 e3 e4
  by_cases h : d = p
  · rw [dif_neg (fun h' => hc.mp h' h), stepIf, if_neg (not_not.mpr h)]
  · rw [dif_pos (hc.mpr h), stepIf, if_pos h]; rfl

/-! ## The parts of the first call -/

theorem part1_eq (a : Args) : k1_part1 (F := F) a.p a.hp a.o a.ho a.rs a.hrs a.red a.hred a.ss a.sr a.gs a.gr
    = (Prog.lift .deviceId >>= fun d => loopP d (sigOp (sig.barrier 0 rfl)) peers
        (semWaitWord (sig.barrier 0 rfl) 7#32 >>= fun _ => pure ⟨d, own d, Scalar.cmpi .ne (own d) 0#32⟩)) := by
  rw [k1_part1_eq_skeleton]
  unfold k1_part1_skel
  refine bind_congr fun d => ?_
  show _ = stepIf d 0 _ (stepIf d 1 _ (stepIf d 2 _ (stepIf d 3 _ (stepIf d 4 _ (stepIf d 5 _ (stepIf d 6 _ (stepIf d 7 _ _)))))))
  refine (sig_form d 0 (cond_iff d 0) k1_dev1_eq (k1_dev1_lt d) _ _).trans (congrArg (stepIf d 0 _) ?_)
  refine (sig_form d 1 (cond_iff d 1) k1_dev2_eq (k1_dev2_lt d) _ _).trans (congrArg (stepIf d 1 _) ?_)
  refine (sig_form d 2 (cond_iff d 2) k1_dev3_eq (k1_dev3_lt d) _ _).trans (congrArg (stepIf d 2 _) ?_)
  refine (sig_form d 3 (cond_iff d 3) k1_dev4_eq (k1_dev4_lt d) _ _).trans (congrArg (stepIf d 3 _) ?_)
  refine (sig_form d 4 (cond_iff d 4) k1_dev5_eq (k1_dev5_lt d) _ _).trans (congrArg (stepIf d 4 _) ?_)
  refine (sig_form d 5 (cond_iff d 5) k1_dev6_eq (k1_dev6_lt d) _ _).trans (congrArg (stepIf d 5 _) ?_)
  refine (sig_form d 6 (cond_iff d 6) k1_dev7_eq (k1_dev7_lt d) _ _).trans (congrArg (stepIf d 6 _) ?_)
  refine (sig_form d 7 (cond_iff d 7) k1_dev8_eq (k1_dev8_lt d) _ _).trans (congrArg (stepIf d 7 _) ?_)
  rfl

theorem part2_eq (a : Args) (d : Dev nD) (v2 v28) : k1_part2 (F := F) a.p a.hp a.o a.ho a.rs a.hrs a.red a.hred a.ss a.sr a.gs a.gr d v2 v28
    = loopP d (sendOp a d) peers
        (Prog.lift (.load a.p (Rect.unit (s := S64x2048) (k1_off17 d) S64x256.size (k1_off17_inb d)).toLoadRect (View.loadsAt_vmem h_S64x256)) >>= fun v54 =>
         Prog.lift (.load a.rs (Rect.unit (s := S8x64x256) (k1_off18 d) S1x64x256.size (k1_off18_inb d)).toLoadRect (View.loadsAt_vmem h_S1x64x256)) >>= fun _ =>
         Prog.lift (.store a.rs (Rect.unit (s := S8x64x256) (k1_off18 d) S1x64x256.size (k1_off18_inb d)) (k1_pay1 v54) Finset.univ (View.stores_vmem_bits_univ h_S1x64x256 rfl) (.inl rfl)) >>= fun _ =>
         pure ⟨⟩) := by
  rw [k1_part2_eq_skeleton]
  unfold k1_part2_skel
  show _ = stepIf d 0 _ (stepIf d 1 _ (stepIf d 2 _ (stepIf d 3 _ (stepIf d 4 _ (stepIf d 5 _ (stepIf d 6 _ (stepIf d 7 _ _)))))))
  refine (send_form a d 0 (cond_iff d 0) k1_dev9_eq (k1_dev9_lt d) rfl _ (k1_off1_eq d) (k1_off1_inb d) (k1_off2_eq d) (k1_off2_inb d) rfl _ _).trans (congrArg (stepIf d 0 _) ?_)
  refine (send_form a d 1 (cond_iff d 1) k1_dev10_eq (k1_dev10_lt d) rfl _ (k1_off3_eq d) (k1_off3_inb d) (k1_off4_eq d) (k1_off4_inb d) rfl _ _).trans (congrArg (stepIf d 1 _) ?_)
  refine (send_form a d 2 (cond_iff d 2) k1_dev11_eq (k1_dev11_lt d) rfl _ (k1_off5_eq d) (k1_off5_inb d) (k1_off6_eq d) (k1_off6_inb d) rfl _ _).trans (congrArg (stepIf d 2 _) ?_)
  refine (send_form a d 3 (cond_iff d 3) k1_dev12_eq (k1_dev12_lt d) rfl _ (k1_off7_eq d) (k1_off7_inb d) (k1_off8_eq d) (k1_off8_inb d) rfl _ _).trans (congrArg (stepIf d 3 _) ?_)
  refine (send_form a d 4 (cond_iff d 4) k1_dev13_eq (k1_dev13_lt d) rfl _ (k1_off9_eq d) (k1_off9_inb d) (k1_off10_eq d) (k1_off10_inb d) rfl _ _).trans (congrArg (stepIf d 4 _) ?_)
  refine (send_form a d 5 (cond_iff d 5) k1_dev14_eq (k1_dev14_lt d) rfl _ (k1_off11_eq d) (k1_off11_inb d) (k1_off12_eq d) (k1_off12_inb d) rfl _ _).trans (congrArg (stepIf d 5 _) ?_)
  refine (send_form a d 6 (cond_iff d 6) k1_dev15_eq (k1_dev15_lt d) rfl _ (k1_off13_eq d) (k1_off13_inb d) (k1_off14_eq d) (k1_off14_inb d) rfl _ _).trans (congrArg (stepIf d 6 _) ?_)
  refine (send_form a d 7 (cond_iff d 7) k1_dev16_eq (k1_dev16_lt d) rfl _ (k1_off15_eq d) (k1_off15_inb d) (k1_off16_eq d) (k1_off16_inb d) rfl _ _).trans (congrArg (stepIf d 7 _) ?_)
  rfl

theorem part3_eq (a : Args) (d : Dev nD) : k1_part3 (F := F) a.p a.hp a.o a.ho a.rs a.hrs a.red a.hred a.ss a.sr a.gs a.gr (own d)
    = loopP d (recvOp a d) peers
        (Prog.lift (.load a.rs (Rect.unit (s := S8x64x256) ![0, 0, 0] S8x64x256.size inb_S8x64x256_S8x64x256_0_0_0).toLoadRect (View.loadsAt_vmem h_S8x64x256)) >>= fun v85 =>
         Prog.lift (.load a.red (Rect.unit (s := S64x256) ![0, 0] S64x256.size inb_S64x256_S64x256_0_0).toLoadRect (View.loadsAt_vmem h_S64x256)) >>= fun _ =>
         Prog.lift (.store a.red (Rect.unit (s := S64x256) ![0, 0] S64x256.size inb_S64x256_S64x256_0_0) (k1_pay2 v85) Finset.univ (View.stores_vmem_bits_univ h_S64x256 rfl) (.inl rfl)) >>= fun _ =>
         pure ⟨⟩) := by
  rw [k1_part3_eq_skeleton]
  unfold k1_part3_skel
  show _ = stepIf d 0 _ (stepIf d 1 _ (stepIf d 2 _ (stepIf d 3 _ (stepIf d 4 _ (stepIf d 5 _ (stepIf d 6 _ (stepIf d 7 _ _)))))))
  refine (recv_form a d 0 (cond_iff d 0) rfl _ rfl _ _).trans (congrArg (stepIf d 0 _) ?_)
  refine (recv_form a d 1 (cond_iff d 1) rfl _ rfl _ _).trans (congrArg (stepIf d 1 _) ?_)
  refine (recv_form a d 2 (cond_iff d 2) rfl _ rfl _ _).trans (congrArg (stepIf d 2 _) ?_)
  refine (recv_form a d 3 (cond_iff d 3) rfl _ rfl _ _).trans (congrArg (stepIf d 3 _) ?_)
  refine (recv_form a d 4 (cond_iff d 4) rfl _ rfl _ _).trans (congrArg (stepIf d 4 _) ?_)
  refine (recv_form a d 5 (cond_iff d 5) rfl _ rfl _ _).trans (congrArg (stepIf d 5 _) ?_)
  refine (recv_form a d 6 (cond_iff d 6) rfl _ rfl _ _).trans (congrArg (stepIf d 6 _) ?_)
  refine (recv_form a d 7 (cond_iff d 7) rfl _ rfl _ _).trans (congrArg (stepIf d 7 _) ?_)
  rfl

theorem part4_eq (a : Args) (d : Dev nD) (v2) : k1_part4 (F := F) a.p a.hp a.o a.ho a.rs a.hrs a.red a.hred a.ss a.sr a.gs a.gr d v2
    = loopP d (agSendOp a d) peers
        (Prog.lift (.load a.red (Rect.unit (s := S64x256) ![0, 0] S64x256.size inb_S64x256_S64x256_0_0).toLoadRect (View.loadsAt_vmem h_S64x256)) >>= fun v114 =>
         Prog.lift (.load a.o (Rect.unit (s := S64x2048) (k1_off17 d) S64x256.size (k1_off17_inb d)).toLoadRect (View.loadsAt_vmem h_S64x256)) >>= fun _ =>
         Prog.lift (.store a.o (Rect.unit (s := S64x2048) (k1_off17 d) S64x256.size (k1_off17_inb d)) v114 Finset.univ (View.stores_vmem_bits_univ h_S64x256 rfl) (.inl rfl)) >>= fun _ =>
         pure (Scalar.extui (Scalar.cmpi .ne v2 0#32))) := by
  rw [k1_part4_eq_skeleton]
  unfold k1_part4_skel
  show _ = stepIf d 0 _ (stepIf d 1 _ (stepIf d 2 _ (stepIf d 3 _ (stepIf d 4 _ (stepIf d 5 _ (stepIf d 6 _ (stepIf d 7 _ _)))))))
  refine (agSend_form a d 0 (cond_iff d 0) k1_dev17_eq (k1_dev17_lt d) rfl _ (k1_off19_eq d) (k1_off19_inb d) (k1_off20_eq d) (k1_off20_inb d) _).trans (congrArg (stepIf d 0 _) ?_)
  refine (agSend_form a d 1 (cond_iff d 1) k1_dev18_eq (k1_dev18_lt d) rfl _ (k1_off21_eq d) (k1_off21_inb d) (k1_off22_eq d) (k1_off22_inb d) _).trans (congrArg (stepIf d 1 _) ?_)
  refine (agSend_form a d 2 (cond_iff d 2) k1_dev19_eq (k1_dev19_lt d) rfl _ (k1_off23_eq d) (k1_off23_inb d) (k1_off24_eq d) (k1_off24_inb d) _).trans (congrArg (stepIf d 2 _) ?_)
  refine (agSend_form a d 3 (cond_iff d 3) k1_dev20_eq (k1_dev20_lt d) rfl _ (k1_off25_eq d) (k1_off25_inb d) (k1_off26_eq d) (k1_off26_inb d) _).trans (congrArg (stepIf d 3 _) ?_)
  refine (agSend_form a d 4 (cond_iff d 4) k1_dev21_eq (k1_dev21_lt d) rfl _ (k1_off27_eq d) (k1_off27_inb d) (k1_off28_eq d) (k1_off28_inb d) _).trans (congrArg (stepIf d 4 _) ?_)
  refine (agSend_form a d 5 (cond_iff d 5) k1_dev22_eq (k1_dev22_lt d) rfl _ (k1_off29_eq d) (k1_off29_inb d) (k1_off30_eq d) (k1_off30_inb d) _).trans (congrArg (stepIf d 5 _) ?_)
  refine (agSend_form a d 6 (cond_iff d 6) k1_dev23_eq (k1_dev23_lt d) rfl _ (k1_off31_eq d) (k1_off31_inb d) (k1_off32_eq d) (k1_off32_inb d) _).trans (congrArg (stepIf d 6 _) ?_)
  refine (agSend_form a d 7 (cond_iff d 7) k1_dev24_eq (k1_dev24_lt d) rfl _ (k1_off33_eq d) (k1_off33_inb d) (k1_off34_eq d) (k1_off34_inb d) _).trans (congrArg (stepIf d 7 _) ?_)
  rfl

/-- The last loop: both copies to each peer have left. -/
abbrev finOp (a : Args) (c p : Dev nD) : PG (F := F) PUnit := finOp1 a c p >>= fun _ => finOp2 a c p

theorem part5_eq (a : Args) (d : Dev nD) : k1_part5 (F := F) a.p a.hp a.o a.ho a.rs a.hrs a.red a.hred a.ss a.sr a.gs a.gr d (own d) (Scalar.extui (Scalar.cmpi .ne (own d) 0#32))
    = loopP d (agRecvOp a d) peers (loopP d (finOp a d) [0, 1] (pure (Scalar.extui (Scalar.cmpi .ne (own d) 2#32)))) := by
  rw [k1_part5_eq_skeleton]
  unfold k1_part5_skel
  show _ = stepIf d 0 _ (stepIf d 1 _ (stepIf d 2 _ (stepIf d 3 _ (stepIf d 4 _ (stepIf d 5 _ (stepIf d 6 _ (stepIf d 7 _ (stepIf d 0 _ (stepIf d 1 _ _)))))))))
  refine (agRecv_form a d 0 (cond_iff d 0) rfl _ rfl _ _).trans (congrArg (stepIf d 0 _) ?_)
  refine (agRecv_form a d 1 (cond_iff d 1) rfl _ rfl _ _).trans (congrArg (stepIf d 1 _) ?_)
  refine (agRecv_form a d 2 (cond_iff d 2) rfl _ rfl _ _).trans (congrArg (stepIf d 2 _) ?_)
  refine (agRecv_form a d 3 (cond_iff d 3) rfl _ rfl _ _).trans (congrArg (stepIf d 3 _) ?_)
  refine (agRecv_form a d 4 (cond_iff d 4) rfl _ rfl _ _).trans (congrArg (stepIf d 4 _) ?_)
  refine (agRecv_form a d 5 (cond_iff d 5) rfl _ rfl _ _).trans (congrArg (stepIf d 5 _) ?_)
  refine (agRecv_form a d 6 (cond_iff d 6) rfl _ rfl _ _).trans (congrArg (stepIf d 6 _) ?_)
  refine (agRecv_form a d 7 (cond_iff d 7) rfl _ rfl _ _).trans (congrArg (stepIf d 7 _) ?_)
  refine (fin_form a d 0 (cond_iff d 0) rfl _ rfl _ (k1_off35_eq d) (k1_off35_inb d) (k1_off36_eq d) (k1_off36_inb d) _).trans (congrArg (stepIf d 0 _) ?_)
  refine (fin_form a d 1 (cond_iff d 1) rfl _ rfl _ (k1_off37_eq d) (k1_off37_inb d) (k1_off38_eq d) (k1_off38_inb d) _).trans (congrArg (stepIf d 1 _) ?_)
  rfl

/-- What follows the last part. -/
theorem tail_eq (a : Args) : cc1__ar_body (F := F) a.p a.hp a.o a.ho a.rs a.hrs a.red a.hred a.ss a.sr a.gs a.gr
    = (k1_part1 (F := F) a.p a.hp a.o a.ho a.rs a.hrs a.red a.hred a.ss a.sr a.gs a.gr >>= fun r =>
       k1_part2 (F := F) a.p a.hp a.o a.ho a.rs a.hrs a.red a.hred a.ss a.sr a.gs a.gr r.1 r.2.1 r.2.2 >>= fun _ =>
       k1_part3 (F := F) a.p a.hp a.o a.ho a.rs a.hrs a.red a.hred a.ss a.sr a.gs a.gr r.2.1 >>= fun _ =>
       k1_part4 (F := F) a.p a.hp a.o a.ho a.rs a.hrs a.red a.hred a.ss a.sr a.gs a.gr r.1 r.2.1 >>= fun v =>
       k1_part5 (F := F) a.p a.hp a.o a.ho a.rs a.hrs a.red a.hred a.ss a.sr a.gs a.gr r.1 r.2.1 v >>= fun _ =>
       loopP r.1 (finOp a r.1) [2, 3, 4, 5, 6, 7] (pure ⟨⟩)) := by
  rw [cc1__ar_body_eq_skeleton]
  unfold cc1__ar_body_skel
  refine bind_congr fun r => ?_
  refine bind_congr fun _ => ?_
  refine bind_congr fun _ => ?_
  refine bind_congr fun v => ?_
  refine bind_congr fun _ => ?_
  obtain ⟨d, v2, v28⟩ := r
  show _ = stepIf d 2 _ (stepIf d 3 _ (stepIf d 4 _ (stepIf d 5 _ (stepIf d 6 _ (stepIf d 7 _ _)))))
  refine (fin_form a d 2 (cond_iff d 2) rfl _ rfl _ (k1_off39_eq d) (k1_off39_inb d) (k1_off40_eq d) (k1_off40_inb d) _).trans (congrArg (stepIf d 2 _) ?_)
  refine (fin_form a d 3 (cond_iff d 3) rfl _ rfl _ (k1_off41_eq d) (k1_off41_inb d) (k1_off42_eq d) (k1_off42_inb d) _).trans (congrArg (stepIf d 3 _) ?_)
  refine (fin_form a d 4 (cond_iff d 4) rfl _ rfl _ (k1_off43_eq d) (k1_off43_inb d) (k1_off44_eq d) (k1_off44_inb d) _).trans (congrArg (stepIf d 4 _) ?_)
  refine (fin_form a d 5 (cond_iff d 5) rfl _ rfl _ (k1_off45_eq d) (k1_off45_inb d) (k1_off46_eq d) (k1_off46_inb d) _).trans (congrArg (stepIf d 5 _) ?_)
  refine (fin_form a d 6 (cond_iff d 6) rfl _ rfl _ (k1_off47_eq d) (k1_off47_inb d) (k1_off48_eq d) (k1_off48_inb d) _).trans (congrArg (stepIf d 6 _) ?_)
  refine (fin_form a d 7 (cond_iff d 7) rfl _ rfl _ (k1_off49_eq d) (k1_off49_inb d) (k1_off50_eq d) (k1_off50_inb d) _).trans (congrArg (stepIf d 7 _) ?_)
  rfl

/-! ## The whole body -/

theorem stepIf_bind (c p : Dev nD) (op : PG (F := F) PUnit) {α β : Type} (k : PG (F := F) α) (g : α → PG (F := F) β) :
    (stepIf c p op k >>= g) = stepIf c p op (k >>= g) := by
  unfold stepIf
  split
  · exact Prog.bind_assoc _ _ _
  · rfl

theorem loopP_bind (c : Dev nD) (f : Dev nD → PG (F := F) PUnit) {α β : Type} (k : PG (F := F) α) (g : α → PG (F := F) β) :
    ∀ l, (loopP c f l k >>= g) = loopP c f l (k >>= g)
  | [] => rfl
  | p :: l => (stepIf_bind c p (f p) _ g).trans (congrArg (stepIf c p (f p)) (loopP_bind c f k g l))

/-- The device's own block, from its partial sums into its own slot. -/
def ownSlot (a : Args) (d : Dev nD) {α : Type} (k : PG (F := F) α) : PG (F := F) α :=
  Prog.lift (.load a.p (Rect.unit (s := S64x2048) (k1_off17 d) S64x256.size (k1_off17_inb d)).toLoadRect (View.loadsAt_vmem h_S64x256)) >>= fun v54 =>
  Prog.lift (.load a.rs (Rect.unit (s := S8x64x256) (k1_off18 d) S1x64x256.size (k1_off18_inb d)).toLoadRect (View.loadsAt_vmem h_S1x64x256)) >>= fun _ =>
  Prog.lift (.store a.rs (Rect.unit (s := S8x64x256) (k1_off18 d) S1x64x256.size (k1_off18_inb d)) (k1_pay1 v54) Finset.univ (View.stores_vmem_bits_univ h_S1x64x256 rfl) (.inl rfl)) >>= fun _ => k

/-- The sum of the eight slots. -/
def reduceOp (a : Args) {α : Type} (k : PG (F := F) α) : PG (F := F) α :=
  Prog.lift (.load a.rs (Rect.unit (s := S8x64x256) ![0, 0, 0] S8x64x256.size inb_S8x64x256_S8x64x256_0_0_0).toLoadRect (View.loadsAt_vmem h_S8x64x256)) >>= fun v85 =>
  Prog.lift (.load a.red (Rect.unit (s := S64x256) ![0, 0] S64x256.size inb_S64x256_S64x256_0_0).toLoadRect (View.loadsAt_vmem h_S64x256)) >>= fun _ =>
  Prog.lift (.store a.red (Rect.unit (s := S64x256) ![0, 0] S64x256.size inb_S64x256_S64x256_0_0) (k1_pay2 v85) Finset.univ (View.stores_vmem_bits_univ h_S64x256 rfl) (.inl rfl)) >>= fun _ => k

/-- The reduced block, into the device's own columns of the result. -/
def ownCol (a : Args) (d : Dev nD) {α : Type} (k : PG (F := F) α) : PG (F := F) α :=
  Prog.lift (.load a.red (Rect.unit (s := S64x256) ![0, 0] S64x256.size inb_S64x256_S64x256_0_0).toLoadRect (View.loadsAt_vmem h_S64x256)) >>= fun v114 =>
  Prog.lift (.load a.o (Rect.unit (s := S64x2048) (k1_off17 d) S64x256.size (k1_off17_inb d)).toLoadRect (View.loadsAt_vmem h_S64x256)) >>= fun _ =>
  Prog.lift (.store a.o (Rect.unit (s := S64x2048) (k1_off17 d) S64x256.size (k1_off17_inb d)) v114 Finset.univ (View.stores_vmem_bits_univ h_S64x256 rfl) (.inl rfl)) >>= fun _ => k

/-- One all-reduce on device `d`, the barrier's semaphore being `bar`. -/
def body (bar : Sem sig) (a : Args) (d : Dev nD) : PG (F := F) PUnit :=
  loopP d (sigOp bar) peers <| semWaitWord bar 7#32 >>= fun _ =>
  loopP d (sendOp a d) peers <| ownSlot a d <|
  loopP d (recvOp a d) peers <| reduceOp a <|
  loopP d (agSendOp a d) peers <| ownCol a d <|
  loopP d (agRecvOp a d) peers <| loopP d (finOp a d) peers (pure PUnit.unit)

theorem rest_eq (a : Args) (d : Dev nD) :
    (k1_part2 (F := F) a.p a.hp a.o a.ho a.rs a.hrs a.red a.hred a.ss a.sr a.gs a.gr d (own d) (Scalar.cmpi .ne (own d) 0#32) >>= fun _ =>
     k1_part3 (F := F) a.p a.hp a.o a.ho a.rs a.hrs a.red a.hred a.ss a.sr a.gs a.gr (own d) >>= fun _ =>
     k1_part4 (F := F) a.p a.hp a.o a.ho a.rs a.hrs a.red a.hred a.ss a.sr a.gs a.gr d (own d) >>= fun v =>
     k1_part5 (F := F) a.p a.hp a.o a.ho a.rs a.hrs a.red a.hred a.ss a.sr a.gs a.gr d (own d) v >>= fun _ =>
     loopP d (finOp a d) [2, 3, 4, 5, 6, 7] (pure ⟨⟩))
    = (loopP d (sendOp a d) peers <| ownSlot a d <|
        loopP d (recvOp a d) peers <| reduceOp a <|
        loopP d (agSendOp a d) peers <| ownCol a d <|
        loopP d (agRecvOp a d) peers <| loopP d (finOp a d) peers (pure PUnit.unit)) := by
  rw [part2_eq, loopP_bind]
  refine congrArg (loopP d (sendOp a d) peers) (Eq.trans (b := ownSlot a d _) rfl (congrArg (ownSlot a d) (?_ : (k1_part3 (F := F) a.p a.hp a.o a.ho a.rs a.hrs a.red a.hred a.ss a.sr a.gs a.gr (own d) >>= fun _ => _) = _)))
  rw [part3_eq, loopP_bind]
  refine congrArg (loopP d (recvOp a d) peers) (Eq.trans (b := reduceOp a _) rfl (congrArg (reduceOp a) (?_ : (k1_part4 (F := F) a.p a.hp a.o a.ho a.rs a.hrs a.red a.hred a.ss a.sr a.gs a.gr d (own d) >>= fun _ => _) = _)))
  rw [part4_eq, loopP_bind]
  refine congrArg (loopP d (agSendOp a d) peers) (Eq.trans (b := ownCol a d _) rfl (congrArg (ownCol a d)
    (?_ : (k1_part5 (F := F) a.p a.hp a.o a.ho a.rs a.hrs a.red a.hred a.ss a.sr a.gs a.gr d (own d) (Scalar.extui (Scalar.cmpi .ne (own d) 0#32)) >>= fun _ => _) = _)))
  rw [part5_eq, loopP_bind, loopP_bind]
  rfl

theorem body1_eq (a : Args) : cc1__ar_body (F := F) a.p a.hp a.o a.ho a.rs a.hrs a.red a.hred a.ss a.sr a.gs a.gr
    = (Prog.lift .deviceId >>= fun d => body (sig.barrier 0 rfl) a d) := by
  rw [tail_eq, part1_eq]
  refine (Prog.bind_assoc _ _ _).trans (bind_congr fun d => ?_)
  refine (loopP_bind _ _ _ _ _).trans (congrArg (loopP d _ peers) ?_)
  refine (Prog.bind_assoc _ _ _).trans (bind_congr fun _ => ?_)
  exact rest_eq a d

/-! ## Call 3: the first call's parts again, with another barrier -/

theorem part1_eq3 (a : Args) : k3_part1 (F := F) a.p a.hp a.o a.ho a.rs a.hrs a.red a.hred a.ss a.sr a.gs a.gr
    = (Prog.lift .deviceId >>= fun d => loopP d (sigOp (sig.barrier 1 rfl)) peers
        (semWaitWord (sig.barrier 1 rfl) 7#32 >>= fun _ => pure ⟨d, own d, Scalar.cmpi .ne (own d) 0#32⟩)) := by
  rw [k3_part1_eq_skeleton]
  unfold k3_part1_skel
  refine bind_congr fun d => ?_
  show _ = stepIf d 0 _ (stepIf d 1 _ (stepIf d 2 _ (stepIf d 3 _ (stepIf d 4 _ (stepIf d 5 _ (stepIf d 6 _ (stepIf d 7 _ _)))))))
  refine (sig_form d 0 (cond_iff d 0) k3_dev1_eq (k3_dev1_lt d) _ _).trans (congrArg (stepIf d 0 _) ?_)
  refine (sig_form d 1 (cond_iff d 1) k3_dev2_eq (k3_dev2_lt d) _ _).trans (congrArg (stepIf d 1 _) ?_)
  refine (sig_form d 2 (cond_iff d 2) k3_dev3_eq (k3_dev3_lt d) _ _).trans (congrArg (stepIf d 2 _) ?_)
  refine (sig_form d 3 (cond_iff d 3) k3_dev4_eq (k3_dev4_lt d) _ _).trans (congrArg (stepIf d 3 _) ?_)
  refine (sig_form d 4 (cond_iff d 4) k3_dev5_eq (k3_dev5_lt d) _ _).trans (congrArg (stepIf d 4 _) ?_)
  refine (sig_form d 5 (cond_iff d 5) k3_dev6_eq (k3_dev6_lt d) _ _).trans (congrArg (stepIf d 5 _) ?_)
  refine (sig_form d 6 (cond_iff d 6) k3_dev7_eq (k3_dev7_lt d) _ _).trans (congrArg (stepIf d 6 _) ?_)
  refine (sig_form d 7 (cond_iff d 7) k3_dev8_eq (k3_dev8_lt d) _ _).trans (congrArg (stepIf d 7 _) ?_)
  rfl

theorem part2_same3 : @k3_part2 = @k1_part2 := rfl

theorem part3_same3 : @k3_part3 = @k1_part3 := rfl

theorem part4_same3 : @k3_part4 = @k1_part4 := rfl

theorem part5_same3 : @k3_part5 = @k1_part5 := rfl

theorem tail_eq3 (a : Args) : cc3__ar_body (F := F) a.p a.hp a.o a.ho a.rs a.hrs a.red a.hred a.ss a.sr a.gs a.gr
    = (k3_part1 (F := F) a.p a.hp a.o a.ho a.rs a.hrs a.red a.hred a.ss a.sr a.gs a.gr >>= fun r =>
       k1_part2 (F := F) a.p a.hp a.o a.ho a.rs a.hrs a.red a.hred a.ss a.sr a.gs a.gr r.1 r.2.1 r.2.2 >>= fun _ =>
       k1_part3 (F := F) a.p a.hp a.o a.ho a.rs a.hrs a.red a.hred a.ss a.sr a.gs a.gr r.2.1 >>= fun _ =>
       k1_part4 (F := F) a.p a.hp a.o a.ho a.rs a.hrs a.red a.hred a.ss a.sr a.gs a.gr r.1 r.2.1 >>= fun v =>
       k1_part5 (F := F) a.p a.hp a.o a.ho a.rs a.hrs a.red a.hred a.ss a.sr a.gs a.gr r.1 r.2.1 v >>= fun _ =>
       loopP r.1 (finOp a r.1) [2, 3, 4, 5, 6, 7] (pure ⟨⟩)) := by
  rw [cc3__ar_body_eq_skeleton]
  unfold cc3__ar_body_skel
  rw [part2_same3, part3_same3, part4_same3, part5_same3]
  refine bind_congr fun r => bind_congr fun _ => bind_congr fun _ => bind_congr fun v => bind_congr fun _ => ?_
  obtain ⟨d, v2, v28⟩ := r
  show _ = stepIf d 2 _ (stepIf d 3 _ (stepIf d 4 _ (stepIf d 5 _ (stepIf d 6 _ (stepIf d 7 _ _)))))
  refine (fin_form a d 2 (cond_iff d 2) rfl _ rfl _ (k3_off39_eq d) (k3_off39_inb d) (k3_off40_eq d) (k3_off40_inb d) _).trans (congrArg (stepIf d 2 _) ?_)
  refine (fin_form a d 3 (cond_iff d 3) rfl _ rfl _ (k3_off41_eq d) (k3_off41_inb d) (k3_off42_eq d) (k3_off42_inb d) _).trans (congrArg (stepIf d 3 _) ?_)
  refine (fin_form a d 4 (cond_iff d 4) rfl _ rfl _ (k3_off43_eq d) (k3_off43_inb d) (k3_off44_eq d) (k3_off44_inb d) _).trans (congrArg (stepIf d 4 _) ?_)
  refine (fin_form a d 5 (cond_iff d 5) rfl _ rfl _ (k3_off45_eq d) (k3_off45_inb d) (k3_off46_eq d) (k3_off46_inb d) _).trans (congrArg (stepIf d 5 _) ?_)
  refine (fin_form a d 6 (cond_iff d 6) rfl _ rfl _ (k3_off47_eq d) (k3_off47_inb d) (k3_off48_eq d) (k3_off48_inb d) _).trans (congrArg (stepIf d 6 _) ?_)
  refine (fin_form a d 7 (cond_iff d 7) rfl _ rfl _ (k3_off49_eq d) (k3_off49_inb d) (k3_off50_eq d) (k3_off50_inb d) _).trans (congrArg (stepIf d 7 _) ?_)
  rfl

theorem body3_eq (a : Args) : cc3__ar_body (F := F) a.p a.hp a.o a.ho a.rs a.hrs a.red a.hred a.ss a.sr a.gs a.gr
    = (Prog.lift .deviceId >>= fun d => body (sig.barrier 1 rfl) a d) := by
  rw [tail_eq3, part1_eq3]
  refine (Prog.bind_assoc _ _ _).trans (bind_congr fun d => ?_)
  refine (loopP_bind _ _ _ _ _).trans (congrArg (loopP d _ peers) ?_)
  refine (Prog.bind_assoc _ _ _).trans (bind_congr fun _ => ?_)
  exact rest_eq a d

/-! ## Call 5: the first call's parts again, with another barrier -/

theorem part1_eq5 (a : Args) : k5_part1 (F := F) a.p a.hp a.o a.ho a.rs a.hrs a.red a.hred a.ss a.sr a.gs a.gr
    = (Prog.lift .deviceId >>= fun d => loopP d (sigOp (sig.barrier 2 rfl)) peers
        (semWaitWord (sig.barrier 2 rfl) 7#32 >>= fun _ => pure ⟨d, own d, Scalar.cmpi .ne (own d) 0#32⟩)) := by
  rw [k5_part1_eq_skeleton]
  unfold k5_part1_skel
  refine bind_congr fun d => ?_
  show _ = stepIf d 0 _ (stepIf d 1 _ (stepIf d 2 _ (stepIf d 3 _ (stepIf d 4 _ (stepIf d 5 _ (stepIf d 6 _ (stepIf d 7 _ _)))))))
  refine (sig_form d 0 (cond_iff d 0) k5_dev1_eq (k5_dev1_lt d) _ _).trans (congrArg (stepIf d 0 _) ?_)
  refine (sig_form d 1 (cond_iff d 1) k5_dev2_eq (k5_dev2_lt d) _ _).trans (congrArg (stepIf d 1 _) ?_)
  refine (sig_form d 2 (cond_iff d 2) k5_dev3_eq (k5_dev3_lt d) _ _).trans (congrArg (stepIf d 2 _) ?_)
  refine (sig_form d 3 (cond_iff d 3) k5_dev4_eq (k5_dev4_lt d) _ _).trans (congrArg (stepIf d 3 _) ?_)
  refine (sig_form d 4 (cond_iff d 4) k5_dev5_eq (k5_dev5_lt d) _ _).trans (congrArg (stepIf d 4 _) ?_)
  refine (sig_form d 5 (cond_iff d 5) k5_dev6_eq (k5_dev6_lt d) _ _).trans (congrArg (stepIf d 5 _) ?_)
  refine (sig_form d 6 (cond_iff d 6) k5_dev7_eq (k5_dev7_lt d) _ _).trans (congrArg (stepIf d 6 _) ?_)
  refine (sig_form d 7 (cond_iff d 7) k5_dev8_eq (k5_dev8_lt d) _ _).trans (congrArg (stepIf d 7 _) ?_)
  rfl

theorem part2_same5 : @k5_part2 = @k1_part2 := rfl

theorem part3_same5 : @k5_part3 = @k1_part3 := rfl

theorem part4_same5 : @k5_part4 = @k1_part4 := rfl

theorem part5_same5 : @k5_part5 = @k1_part5 := rfl

theorem tail_eq5 (a : Args) : cc5__ar_body (F := F) a.p a.hp a.o a.ho a.rs a.hrs a.red a.hred a.ss a.sr a.gs a.gr
    = (k5_part1 (F := F) a.p a.hp a.o a.ho a.rs a.hrs a.red a.hred a.ss a.sr a.gs a.gr >>= fun r =>
       k1_part2 (F := F) a.p a.hp a.o a.ho a.rs a.hrs a.red a.hred a.ss a.sr a.gs a.gr r.1 r.2.1 r.2.2 >>= fun _ =>
       k1_part3 (F := F) a.p a.hp a.o a.ho a.rs a.hrs a.red a.hred a.ss a.sr a.gs a.gr r.2.1 >>= fun _ =>
       k1_part4 (F := F) a.p a.hp a.o a.ho a.rs a.hrs a.red a.hred a.ss a.sr a.gs a.gr r.1 r.2.1 >>= fun v =>
       k1_part5 (F := F) a.p a.hp a.o a.ho a.rs a.hrs a.red a.hred a.ss a.sr a.gs a.gr r.1 r.2.1 v >>= fun _ =>
       loopP r.1 (finOp a r.1) [2, 3, 4, 5, 6, 7] (pure ⟨⟩)) := by
  rw [cc5__ar_body_eq_skeleton]
  unfold cc5__ar_body_skel
  rw [part2_same5, part3_same5, part4_same5, part5_same5]
  refine bind_congr fun r => bind_congr fun _ => bind_congr fun _ => bind_congr fun v => bind_congr fun _ => ?_
  obtain ⟨d, v2, v28⟩ := r
  show _ = stepIf d 2 _ (stepIf d 3 _ (stepIf d 4 _ (stepIf d 5 _ (stepIf d 6 _ (stepIf d 7 _ _)))))
  refine (fin_form a d 2 (cond_iff d 2) rfl _ rfl _ (k5_off39_eq d) (k5_off39_inb d) (k5_off40_eq d) (k5_off40_inb d) _).trans (congrArg (stepIf d 2 _) ?_)
  refine (fin_form a d 3 (cond_iff d 3) rfl _ rfl _ (k5_off41_eq d) (k5_off41_inb d) (k5_off42_eq d) (k5_off42_inb d) _).trans (congrArg (stepIf d 3 _) ?_)
  refine (fin_form a d 4 (cond_iff d 4) rfl _ rfl _ (k5_off43_eq d) (k5_off43_inb d) (k5_off44_eq d) (k5_off44_inb d) _).trans (congrArg (stepIf d 4 _) ?_)
  refine (fin_form a d 5 (cond_iff d 5) rfl _ rfl _ (k5_off45_eq d) (k5_off45_inb d) (k5_off46_eq d) (k5_off46_inb d) _).trans (congrArg (stepIf d 5 _) ?_)
  refine (fin_form a d 6 (cond_iff d 6) rfl _ rfl _ (k5_off47_eq d) (k5_off47_inb d) (k5_off48_eq d) (k5_off48_inb d) _).trans (congrArg (stepIf d 6 _) ?_)
  refine (fin_form a d 7 (cond_iff d 7) rfl _ rfl _ (k5_off49_eq d) (k5_off49_inb d) (k5_off50_eq d) (k5_off50_inb d) _).trans (congrArg (stepIf d 7 _) ?_)
  rfl

theorem body5_eq (a : Args) : cc5__ar_body (F := F) a.p a.hp a.o a.ho a.rs a.hrs a.red a.hred a.ss a.sr a.gs a.gr
    = (Prog.lift .deviceId >>= fun d => body (sig.barrier 2 rfl) a d) := by
  rw [tail_eq5, part1_eq5]
  refine (Prog.bind_assoc _ _ _).trans (bind_congr fun d => ?_)
  refine (loopP_bind _ _ _ _ _).trans (congrArg (loopP d _ peers) ?_)
  refine (Prog.bind_assoc _ _ _).trans (bind_congr fun _ => ?_)
  exact rest_eq a d

end Cert.KernelIdeal.AR
-- ==== Proof.KernelIdeal.Proto.lean ====
/- The protocol of the three all-reduces: their cells, what each unit of a cell hands over, and what a device owes.

   In call `j` device `c` announces to every other device `p` that `p` may write `c`'s slot `p` and `c`'s result
   columns `p`; after seven such announcements it sends each `p` its column block `p`, which lands in `p`'s slot `c`;
   it sums its eight slots and sends the sum to every `p`'s result columns `c`. Each copy uses one semaphore of the
   sender's (its source is free again) and one of the receiver's (its data has arrived). -/
module

public import proofs.«01_k».proof.Proof.KernelIdeal.Body
public import Idealize.ShloMosaic.Lib.Pipeline.Regions
public import Idealize.ShloMosaic.Lib.Pipeline.Kit
public import Idealize.ShloMosaic.Lib.Pipeline.BigSepL
public import Idealize.ShloMosaic.Lib.Rounds
public import Idealize.ShloMosaic.Lib.StableHlo
public import Idealize.ShloMosaic.Lib.Tactic
public import Idealize.ShloMosaic.Lib.ValueLayout
public import Idealize.ShloMosaic.Lib.ShareLeaves
public import Idealize.ShloMosaic.PureOps
public import Idealize.ShloMosaic.Lib.Pipeline.RegionTalk
public import Idealize.ShloMosaic.Harness.Basic

@[expose] public section

noncomputable section

namespace Cert.KernelIdeal.AR

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

/-- Two copies of the round records: the pipeline's and the all-reduces'. -/
abbrev UU : Type := URounds (GSem nD τ sig) Unit × URounds (GSem nD τ sig) (Dev nD)

local notation "𝕄" => MT nD τ sig Unit (Elt F) ℕ UU ℕ

abbrev EP : Emb (URounds (GSem nD τ sig) Unit) (MT nD τ sig Unit (Elt F) ℕ UU ℕ) := embL
abbrev ER : Emb (URounds (GSem nD τ sig) (Dev nD)) (MT nD τ sig Unit (Elt F) ℕ UU ℕ) := embR

/-! ## The three calls -/

/-- The buffers and semaphores of call `j`. -/
def args : Fin 3 → Args
  | 0 => ⟨.whole cc1_stg0_0, Memref.isWhole_whole _, .whole cc1_stg1_0, Memref.isWhole_whole _, .whole cc1_scratch0,
      Memref.isWhole_whole _, .whole cc1_scratch1, Memref.isWhole_whole _, cc1_scratch2, cc1_scratch3, cc1_scratch4, cc1_scratch5⟩
  | 1 => ⟨.whole cc3_stg0_0, Memref.isWhole_whole _, .whole cc3_stg1_0, Memref.isWhole_whole _, .whole cc3_scratch0,
      Memref.isWhole_whole _, .whole cc3_scratch1, Memref.isWhole_whole _, cc3_scratch2, cc3_scratch3, cc3_scratch4, cc3_scratch5⟩
  | 2 => ⟨.whole cc5_stg0_0, Memref.isWhole_whole _, .whole cc5_stg1_0, Memref.isWhole_whole _, .whole cc5_scratch0,
      Memref.isWhole_whole _, .whole cc5_scratch1, Memref.isWhole_whole _, cc5_scratch2, cc5_scratch3, cc5_scratch4, cc5_scratch5⟩

/-- The barrier semaphore of call `j`. -/
def bar : Fin 3 → Sem sig
  | 0 => sig.barrier 0 rfl
  | 1 => sig.barrier 1 rfl
  | 2 => sig.barrier 2 rfl

/-- The four semaphore arrays of a call, numbered: first copy left, first copy arrived, second copy left, second copy arrived. -/
def arr (j : Fin 3) : Fin 4 → DmaSems sig S8
  | 0 => (args j).ss
  | 1 => (args j).sr
  | 2 => (args j).gs
  | 3 => (args j).gr

/-- A semaphore of a call: its barrier, or the semaphore for peer `p` in one of the four arrays. -/
abbrev SCell := Fin 3 × Option (Fin 4 × Dev nD)

def locOf : SCell → SemLoc sig
  | (j, none) => .reg (bar j)
  | (j, some (k, p)) => .dma (semAt (arr j k) p)

theorem bar_val (j : Fin 3) : (bar j).val = j.val := by revert j; decide
theorem semAt_val (j : Fin 3) (k : Fin 4) (p : Dev nD) : (semAt (arr j k) p).val = 8 + 40 * j.val + 8 * k.val + p.val := by
  revert j k p; decide +kernel

theorem locOf_inj : Function.Injective locOf := by
  rintro ⟨j, x⟩ ⟨j', x'⟩ h
  match x, x', h with
  | none, none, h =>
    have h' : bar j = bar j' := by injection h
    have := congrArg Fin.val h'
    rw [bar_val, bar_val] at this
    rw [Fin.ext this]
  | none, some (k', p'), h => cases h
  | some (k, p), none, h => cases h
  | some (k, p), some (k', p'), h =>
    have h' : semAt (arr j k) p = semAt (arr j' k') p' := by injection h
    have := congrArg Fin.val h'
    rw [semAt_val, semAt_val] at this
    have hp := p.isLt; have hp' := p'.isLt; have hk := k.isLt; have hk' := k'.isLt
    have hn : nD = 8 := rfl
    have e1 : j = j' := Fin.ext (by omega)
    have e2 : k = k' := Fin.ext (by subst e1; omega)
    have e3 : p = p' := Fin.ext (by subst e1 e2; omega)
    rw [e1, e2, e3]

/-- A cell: a semaphore of a device. -/
def cell (x : Dev nD × SCell) : GSem nD τ sig := ((x.1 : Thread nD τ), locOf x.2)

theorem cell_inj : Function.Injective cell := by
  rintro ⟨d, x⟩ ⟨d', x'⟩ h
  have h1 : d = d' := congrArg (fun g : GSem nD τ sig => g.1.1) h
  have h2 : x = x' := locOf_inj (congrArg Prod.snd h)
  rw [h1, h2]

def cellE : (Dev nD × SCell) ↪ GSem nD τ sig := ⟨cell, cell_inj⟩

abbrev barC (j : Fin 3) (c : Dev nD) : GSem nD τ sig := ((c : Thread nD τ), .reg (bar j))
abbrev dmaC (j : Fin 3) (k : Fin 4) (c p : Dev nD) : GSem nD τ sig := ((c : Thread nD τ), .dma (semAt (arr j k) p))

theorem barC_eq (j : Fin 3) (c : Dev nD) : barC j c = cellE (c, (j, none)) := rfl
theorem dmaC_eq (j : Fin 3) (k : Fin 4) (c p : Dev nD) : dmaC j k c p = cellE (c, (j, some (k, p))) := rfl

/-- Which of the protocol's cells a cell is, if any. -/
def decode (g : GSem nD τ sig) : Option (Dev nD × SCell) := preimage? cellE g
theorem decode_bar (j : Fin 3) (c : Dev nD) : decode (barC j c) = some (c, (j, none)) := preimage?_emb cellE (c, (j, none))
theorem decode_dma (j : Fin 3) (k : Fin 4) (c p : Dev nD) : decode (dmaC j k c p) = some (c, (j, some (k, p))) := preimage?_emb cellE (c, (j, some (k, p)))

/-! ## The contents -/

/-- Column block `p` of an array. -/
def colOf (V : Vec F S64x2048 .f32) (p : Dev nD) : Vec F S64x256 .f32 := fun i => V ((colRect p).emb i)
/-- The eight slots of device `c`: slot `p` is column block `c` of `p`'s array. -/
def stack (V : Dev nD → Vec F S64x2048 .f32) (c : Dev nD) : Vec F S8x64x256 .f32 :=
  fun i => colOf (V (i 0)) c (ix2 (i 1) (i 2))
/-- Their sum. -/
def redOf (V : Dev nD → Vec F S64x2048 .f32) (c : Dev nD) : Vec F S64x256 .f32 := k1_pay2 (stack V c)

/-- The units one copy of a block credits. -/
abbrev N : ℕ := (col (args 0).o 0).view.dmaCredit
theorem N_pos : 0 < N := View.dmaCredit_pos _ (by decide)

/-- A buffer held whole at contents not named. -/
abbrev anyOf (c : Dev nD) {sh : Shape} (m : Memref sig .tc .vmem sh .f32) : sProp 𝕄 :=
  iprop(∃ X, owns (c : Thread nD τ) m fullShare X)
instance anyOf_storable (c : Dev nD) {sh : Shape} (m : Memref sig .tc .vmem sh .f32) :
    BI.Storable (upEmb : UEmb _ 𝕄) (anyOf (F := F) c m) := by unfold anyOf; infer_instance

/-- The share of the reduced block that the copy to `p` reads. -/
def redShare (p : Dev nD) : PosShare TreeShare := ShareLeaves.leaf 3 fullShare (Fin.cast (rfl : 8 = 2 ^ 3) p)

variable (PV : Fin 3 → Dev nD → Vec F S64x2048 .f32)

/-- What the announcement of `d` hands device `c` in call `j`: `d`'s slot `c` and `d`'s result columns `c`, to write;
    and that the two semaphores of `d` for `c` count. -/
def barPay (j : Fin 3) (c d : Dev nD) : sProp 𝕄 :=
  iprop(anyOf d (slot (args j).rs c) ∗ anyOf d (col (args j).o c) ∗ reached ER (dmaC j 1 d c) 0 ∗ reached ER (dmaC j 3 d c) 0)
/-- What the arrival on the semaphore `p` of an array hands its device. -/
def dmaPay (j : Fin 3) (c p : Dev nD) : Fin 4 → sProp 𝕄
  | 0 => owns (c : Thread nD τ) (col (args j).p p) fullShare (colOf (PV j c) p)
  | 1 => owns (c : Thread nD τ) (slot (args j).rs p) fullShare (colOf (PV j p) c)
  | 2 => owns (c : Thread nD τ) (args j).red (redShare p) (redOf (PV j) c)
  | 3 => owns (c : Thread nD τ) (col (args j).o p) fullShare (redOf (PV j) p)

instance dmaPay_storable (j : Fin 3) (c p : Dev nD) (k : Fin 4) :
    BI.Storable (upEmb : UEmb _ 𝕄) (dmaPay (F := F) PV j c p k) := by
  unfold dmaPay; split <;> infer_instance

def dutiesOf : Option (Dev nD × SCell) → Finset (Dev nD)
  | some (c, (_, none)) => Finset.univ.erase c
  | some (c, (_, some (_, p))) => if p = c then ∅ else {0}
  | none => ∅
def amountOf : Option (Dev nD × SCell) → ℕ
  | some (_, (_, none)) => 1
  | _ => N
def payOf (x : Option (Dev nD × SCell)) (d : Dev nD) : sProp 𝕄 :=
  match x with
  | some (c, (j, none)) => barPay j c d
  | some (c, (j, some (k, p))) => dmaPay PV j c p k
  | none => iprop(emp)

theorem amountOf_pos (x : Option (Dev nD × SCell)) : 0 < amountOf x := by
  unfold amountOf; split
  · exact Nat.one_pos
  · exact N_pos

/-- One round: every barrier takes one unit from each other device, every copy semaphore for another device one copy. -/
def Rd : Rounds.Schedule (GSem nD τ sig) (Dev nD) 𝕄 where
  duties g r := if r = 0 then dutiesOf (decode g) else ∅
  unitless _ := False
  amount g _ _ := amountOf (decode g)
  payload g _ d := payOf PV (decode g) d
  amount_pos g _ _ _ := amountOf_pos _

instance Rd_storable (g : GSem nD τ sig) (r : ℕ) (d : Dev nD) :
    BI.Storable (upEmb : UEmb _ 𝕄) ((Rd (F := F) PV).payload g r d) := by
  show BI.Storable upEmb (payOf PV (decode g) d)
  unfold payOf
  split
  · unfold barPay; infer_instance
  · exact dmaPay_storable PV _ _ _ _
  · infer_instance

variable (j : Fin 3) (c p : Dev nD)

theorem duties_bar : (Rd (F := F) PV).duties (barC j c) 0 = Finset.univ.erase c := by
  show (if (0 : ℕ) = 0 then dutiesOf (decode (barC j c)) else ∅) = _
  rw [if_pos rfl, decode_bar]; rfl
theorem duties_dma (k : Fin 4) (h : p ≠ c) : (Rd (F := F) PV).duties (dmaC j k c p) 0 = {0} := by
  show (if (0 : ℕ) = 0 then dutiesOf (decode (dmaC j k c p)) else ∅) = _
  rw [if_pos rfl, decode_dma]; exact if_neg h
theorem duties_own (k : Fin 4) : (Rd (F := F) PV).duties (dmaC j k c c) 0 = ∅ := by
  show (if (0 : ℕ) = 0 then dutiesOf (decode (dmaC j k c c)) else ∅) = _
  rw [if_pos rfl, decode_dma]; exact if_pos rfl
theorem duties_later (g : GSem nD τ sig) : ∀ r, 1 ≤ r → (Rd (F := F) PV).duties g r = ∅ :=
  fun r hr => if_neg (by omega)
theorem duties_own_all (k : Fin 4) : ∀ r, 0 ≤ r → (Rd (F := F) PV).duties (dmaC j k c c) r = ∅ := fun r _ => by
  by_cases h : r = 0
  · subst h; exact duties_own PV j c k
  · exact if_neg h

theorem amount_bar (r : ℕ) (d : Dev nD) : (Rd (F := F) PV).amount (barC j c) r d = 1 := by
  show amountOf (decode (barC j c)) = 1
  rw [decode_bar]; rfl
theorem amount_dma (k : Fin 4) (r : ℕ) (d : Dev nD) : (Rd (F := F) PV).amount (dmaC j k c p) r d = N := by
  show amountOf (decode (dmaC j k c p)) = N
  rw [decode_dma]; rfl
theorem payload_bar (r : ℕ) (d : Dev nD) : (Rd (F := F) PV).payload (barC j c) r d = barPay j c d := by
  show payOf PV (decode (barC j c)) d = _
  rw [decode_bar]; rfl
theorem payload_dma (k : Fin 4) (r : ℕ) (d : Dev nD) : (Rd (F := F) PV).payload (dmaC j k c p) r d = dmaPay PV j c p k := by
  show payOf PV (decode (dmaC j k c p)) d = _
  rw [decode_dma]; rfl

theorem expect_bar : (Rd (F := F) PV).expect (barC j c) 0 = 7 := by
  unfold Schedule.expect Schedule.amountOf
  rw [duties_bar, Finset.sum_congr rfl fun d _ => amount_bar PV j c 0 d]
  rw [Finset.sum_const, Finset.card_erase_of_mem (Finset.mem_univ c), Finset.card_univ, Fintype.card_fin]; rfl
theorem expect_dma (k : Fin 4) (h : p ≠ c) : (Rd (F := F) PV).expect (dmaC j k c p) 0 = N := by
  unfold Schedule.expect Schedule.amountOf; rw [duties_dma PV j c p k h, Finset.sum_singleton, amount_dma]

theorem rest_bar : bigSep ((Rd (F := F) PV).duties (barC j c) 0 \ ∅) (fun d => (Rd (F := F) PV).payload (barC j c) 0 d)
    = bigSep (Finset.univ.erase c) fun d => barPay (F := F) j c d := by
  rw [Finset.sdiff_empty, duties_bar]
  exact bigSep_congr fun d _ => payload_bar PV j c 0 d
theorem rest_dma (k : Fin 4) (h : p ≠ c) : bigSep ((Rd (F := F) PV).duties (dmaC j k c p) 0 \ ∅) (fun d => (Rd (F := F) PV).payload (dmaC j k c p) 0 d)
    = dmaPay PV j c p k := by
  rw [Finset.sdiff_empty, duties_dma PV j c p k h, bigSep_singleton, payload_dma]

end Cert.KernelIdeal.AR
-- ==== Proof.KernelIdeal.Dues.lean ====
/- What a device owes the others in each call, the levels that keep its waits safe, and the loop over the peers. -/
module

public import proofs.«01_k».proof.Proof.KernelIdeal.Proto

@[expose] public section

noncomputable section

namespace Cert.KernelIdeal.AR

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

abbrev Dues := CellTallies nD τ sig Unit

/-! ## Levels -/

def L (g : GSem nD τ sig) : Finset Unit := if g.1.2 = .tc then {()} else ∅
theorem L_tc (c : Dev nD) (sm : SemLoc sig) : L ((c : Thread nD τ), sm) = {()} := if_pos rfl
theorem mem_L (c : Dev nD) (sm : SemLoc sig) : () ∈ L ((c : Thread nD τ), sm) := by
  rw [L_tc]; exact Finset.mem_singleton_self _

/-- Later calls lie above earlier ones; in a call, the barrier below the first copies below the second ones. -/
def lvOf : Option (Dev nD × SCell) → ℕ
  | some (_, (j, none)) => 10 * j.val + 1
  | some (_, (j, some (1, _))) => 10 * j.val + 2
  | some (_, (j, some (3, _))) => 10 * j.val + 3
  | _ => 0
def lv (g : GSem nD τ sig) (_ : Unit) : ℕ := lvOf (decode g)

theorem lv_bar (j : Fin 3) (c : Dev nD) : lv (barC j c) () = 10 * j.val + 1 := by unfold lv; rw [decode_bar]; rfl
theorem lv_sr (j : Fin 3) (c p : Dev nD) : lv (dmaC j 1 c p) () = 10 * j.val + 2 := by unfold lv; rw [decode_dma]; rfl
theorem lv_gr (j : Fin 3) (c p : Dev nD) : lv (dmaC j 3 c p) () = 10 * j.val + 3 := by unfold lv; rw [decode_dma]; rfl
theorem lv_ss (j : Fin 3) (c p : Dev nD) : lv (dmaC j 0 c p) () = 0 := by unfold lv; rw [decode_dma]; rfl
theorem lv_gs (j : Fin 3) (c p : Dev nD) : lv (dmaC j 2 c p) () = 0 := by unfold lv; rw [decode_dma]; rfl

/-- All that is owed lies above level `n`. -/
def Above (n : ℕ) (O : Dues) : Prop := ∀ g u, 0 < O g u → u ∈ L g ∧ n < lv g u

theorem Above.zero (n : ℕ) : Above n 0 := fun g u h => absurd h (Nat.lt_irrefl 0)
theorem Above.add {n : ℕ} {O O' : Dues} (h : Above n O) (h' : Above n O') : Above n (O + O') := fun g u hg => by
  rw [Pi.add_apply, Finsupp.add_apply] at hg
  rcases Nat.add_pos_iff_pos_or_pos.mp hg with hg | hg
  · exact h g u hg
  · exact h' g u hg
theorem Above.tally {n : ℕ} (c : Dev nD) (sm : SemLoc sig) (k : ℕ) (h : n < lv ((c : Thread nD τ), sm) ()) :
    Above n (tallyAt ((c : Thread nD τ), sm) () k) := fun g u hg => by
  obtain ⟨rfl, rfl⟩ := Pipeline.tallyAt_pos hg
  exact ⟨mem_L c sm, h⟩
theorem Above.mono {n m : ℕ} {O : Dues} (h : Above n O) (hm : m ≤ n) : Above m O :=
  fun g u hg => ⟨(h g u hg).1, lt_of_le_of_lt hm (h g u hg).2⟩

theorem mayWait {n : ℕ} {O : Dues} (h : Above n O) (c : Dev nD) (sm : SemLoc sig) (hs : lv ((c : Thread nD τ), sm) () ≤ n) :
    (levAts L lv : sProp 𝕄) ⊢ MayWait (c : Thread nD τ) sm () O :=
  MayOwe.of_cut (L := L) (lev := lv) n (fun p hp => by rw [Finset.mem_singleton.mp hp]; exact mem_L c sm)
    (fun g u hg => (h g u hg).1) (fun p hp => by rw [Finset.mem_singleton.mp hp]; exact hs) (fun g u hg => (h g u hg).2)

/-! ## What is owed -/

/-- The dues `f p` for the peers of a list. -/
def dueL (f : Dev nD → Dues) (l : List (Dev nD)) : Dues := (l.map f).sum
theorem dueL_nil (f : Dev nD → Dues) : dueL f [] = 0 := rfl
theorem dueL_cons (f : Dev nD → Dues) (p : Dev nD) (l : List (Dev nD)) : dueL f (p :: l) = f p + dueL f l := by
  unfold dueL; rw [List.map_cons, List.sum_cons]
theorem Above.dueL {n : ℕ} {f : Dev nD → Dues} (h : ∀ p, Above n (f p)) (l : List (Dev nD)) : Above n (dueL f l) := by
  induction l with
  | nil => exact Above.zero n
  | cons p l ih => rw [dueL_cons]; exact (h p).add ih

theorem peers_eq : peers = List.finRange 8 := by decide
theorem dueL_peers (f : Dev nD → Dues) : dueL f peers = ∑ p, f p := by
  rw [peers_eq]; exact (Fin.sum_univ_def f).symm

def dueB (j : Fin 3) (c p : Dev nD) : Dues := if c = p then 0 else tallyAt (barC j p) () 1
def dueR (j : Fin 3) (c p : Dev nD) : Dues := if c = p then 0 else tallyAt (dmaC j 1 p c) () N
def dueG (j : Fin 3) (c p : Dev nD) : Dues := if c = p then 0 else tallyAt (dmaC j 3 p c) () N

/-- What device `c` owes in call `j`. -/
def dues (j : Fin 3) (c : Dev nD) : Dues := dueL (dueB j c) peers + (dueL (dueR j c) peers + dueL (dueG j c) peers)
/-- What it owes in the calls after `j`. -/
def after : Fin 3 → Dev nD → Dues
  | 0, c => dues 2 c + dues 1 c
  | 1, c => dues 2 c
  | 2, _ => 0

theorem above_dueB (j : Fin 3) (c p : Dev nD) : Above (10 * j.val) (dueB j c p) := by
  unfold dueB; split
  · exact Above.zero _
  · exact Above.tally p _ _ (by rw [lv_bar]; omega)
theorem above_dueR (j : Fin 3) (c p : Dev nD) : Above (10 * j.val + 1) (dueR j c p) := by
  unfold dueR; split
  · exact Above.zero _
  · exact Above.tally p _ _ (by rw [lv_sr]; omega)
theorem above_dueG (j : Fin 3) (c p : Dev nD) : Above (10 * j.val + 2) (dueG j c p) := by
  unfold dueG; split
  · exact Above.zero _
  · exact Above.tally p _ _ (by rw [lv_gr]; omega)
theorem above_dues (j : Fin 3) (c : Dev nD) : Above (10 * j.val) (dues j c) :=
  (Above.dueL (above_dueB j c) _).add (((Above.dueL (above_dueR j c) _).mono (by omega)).add ((Above.dueL (above_dueG j c) _).mono (by omega)))
theorem above_after (j : Fin 3) (c : Dev nD) : Above (10 * j.val + 3) (after j c) := by
  fin_cases j
  · exact ((above_dues 2 c).mono (by decide)).add ((above_dues 1 c).mono (by decide))
  · exact (above_dues 2 c).mono (by decide)
  · exact Above.zero _

/-! ## Families over the other devices -/

/-- `X p` for another device, nothing for the device itself. -/
def on (c : Dev nD) (X : Dev nD → sProp 𝕄) (p : Dev nD) : sProp 𝕄 := if c = p then iprop(emp) else X p
theorem on_self (c : Dev nD) (X : Dev nD → sProp 𝕄) : on c X c = iprop(emp) := if_pos rfl
theorem on_ne {c p : Dev nD} (h : c ≠ p) (X : Dev nD → sProp 𝕄) : on c X p = X p := if_neg h

theorem bigSepL_peers (X : Dev nD → sProp 𝕄) : bigSepL peers X = bigSep Finset.univ X :=
  (bigSep_univ_eq_bigSepL peers (by decide) (by decide) X).symm

/-- The own member and the others. -/
theorem split_own (c : Dev nD) (X : Dev nD → sProp 𝕄) : bigSep Finset.univ X = iprop(X c ∗ bigSepL peers (on c X)) := by
  rw [bigSepL_peers, bigSep_univ_at X c, bigSep_univ_at (on c X) c, on_self]
  rw [bigSep_congr (Ψ := X) (fun p hp => on_ne (Finset.ne_of_mem_erase hp).symm X)]
  exact congrArg (fun Y => iprop(X c ∗ Y)) (equiv_iff.mp emp_sep).symm
/-- The others alone. -/
theorem others_eq (c : Dev nD) (X : Dev nD → sProp 𝕄) : bigSep (Finset.univ.erase c) X = bigSepL peers (on c X) := by
  rw [bigSepL_peers, bigSep_univ_at (on c X) c, on_self]
  rw [bigSep_congr (Ψ := X) (fun p hp => on_ne (Finset.ne_of_mem_erase hp).symm X)]
  exact (equiv_iff.mp emp_sep).symm

theorem on_sep (c : Dev nD) (X Y : Dev nD → sProp 𝕄) (p : Dev nD) :
    on c (fun p => iprop(X p ∗ Y p)) p = iprop(on c X p ∗ on c Y p) := by
  unfold on; split
  · exact (equiv_iff.mp emp_sep).symm
  · rfl
/-- Two families over the others, joined. -/
theorem join (c : Dev nD) (X Y : Dev nD → sProp 𝕄) :
    bigSepL peers (on c fun p => iprop(X p ∗ Y p)) = iprop(bigSepL peers (on c X) ∗ bigSepL peers (on c Y)) := by
  rw [bigSepL_peers, bigSepL_peers, bigSepL_peers, ← bigSep_sep']
  exact bigSep_congr fun p _ => on_sep c X Y p
theorem on_mono {c : Dev nD} {X Y : Dev nD → sProp 𝕄} (h : ∀ p, c ≠ p → X p ⊢ Y p) (p : Dev nD) : on c X p ⊢ on c Y p := by
  unfold on; split
  · exact .rfl
  · next hp => exact h p hp
theorem others_mono {c : Dev nD} {X Y : Dev nD → sProp 𝕄} (h : ∀ p, c ≠ p → X p ⊢ Y p) :
    bigSepL peers (on c X) ⊢ bigSepL peers (on c Y) := by
  rw [bigSepL_peers, bigSepL_peers]; exact bigSep_mono fun p _ => on_mono h p

/-! ## The loop -/

abbrev 𝒱₀ : Variants := Variants.none

/-- The body's triple at device `c`. -/
abbrev runs (c : Dev nD) (k : PG (F := F) PUnit) (Q : PUnit → sProp 𝕄) : sProp 𝕄 :=
  wp frame (wpE (defs₀ (F := F)) 𝒱₀ (c : Thread nD τ) none) Set.univ k Q

theorem wp_loop (c : Dev nD) {C : sProp 𝕄} [BI.Persistent C] {S : List (Dev nD) → sProp 𝕄} {A B : Dev nD → sProp 𝕄}
    {op : Dev nD → PG (F := F) PUnit}
    (hstep : ∀ p l, c ≠ p → ∀ Q : PUnit → sProp 𝕄, iprop(C ∗ S (p :: l) ∗ A p ∗ (S l -∗ B p -∗ Q ⟨⟩)) ⊢ runs c (op p) Q)
    (hskip : ∀ l, S (c :: l) ⊢ S l) (k : PG (F := F) PUnit) (Q : PUnit → sProp 𝕄) (l : List (Dev nD)) :
    iprop(C ∗ S l ∗ bigSepL l (on c A) ∗ (S [] -∗ bigSepL l (on c B) -∗ runs c k Q)) ⊢ runs c (loopP c op l k) Q := by
  induction l with
  | nil =>
    iintro ⟨#HC, HS, HA, Hk⟩
    iapply Hk $$ HS
    iempintro
  | cons p l ih =>
    rw [bigSepL_cons', bigSepL_cons']
    show _ ⊢ runs c (stepIf c p (op p) (loopP c op l k)) Q
    unfold stepIf
    by_cases h : c = p
    · subst h
      rw [if_neg (not_not.mpr rfl), on_self, on_self]
      refine BIBase.Entails.trans ?_ ih
      iintro ⟨#HC, HS, ⟨-, HA⟩, Hk⟩
      isplitr; · iexact HC
      isplitl [HS]; · iapply hskip l; iexact HS
      isplitl [HA]; · iexact HA
      iintro HS HB
      iapply Hk $$ HS
      isplitr; · iempintro
      iexact HB
    · rw [if_pos h, on_ne h, on_ne h]
      show _ ⊢ wp _ _ _ (op p >>= fun _ => _) Q
      rw [wp_bind]
      refine BIBase.Entails.trans ?_ (hstep p l h _)
      iintro ⟨#HC, HS, ⟨Ha, HA⟩, Hk⟩
      isplitr; · iexact HC
      isplitl [HS]; · iexact HS
      isplitl [Ha]; · iexact Ha
      iintro HS Hb
      iapply ih
      isplitr; · iexact HC
      isplitl [HS]; · iexact HS
      isplitl [HA]; · iexact HA
      iintro HS HB
      iapply Hk $$ HS
      isplitl [Hb]; · iexact Hb
      iexact HB

end Cert.KernelIdeal.AR
-- ==== Proof.KernelIdeal.Ops.lean ====
/- The communicating steps of the all-reduce, each at a device `c` and a peer `p`. -/
module

public import proofs.«01_k».proof.Proof.KernelIdeal.Dues

@[expose] public section

noncomputable section

namespace Cert.KernelIdeal.AR

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (PV : Fin 3 → Dev nD → Vec F S64x2048 .f32) (K : GSem nD τ sig → ℕ)

theorem elim_univ {ι : Type} [Fintype ι] [DecidableEq ι] (Φ : ι → sProp 𝕄) (x : ι) : bigSep Finset.univ Φ ⊢ Φ x :=
  bigSep_elim (Finset.mem_univ x)

/-- What every device knows from the launch on: the invariants of all cells, that every barrier counts, and the levels. -/
def world : sProp 𝕄 :=
  iprop((bigSep Finset.univ fun x : Dev nD × SCell => cellInv ER (Rd PV) (K (cell x)) (cell x))
    ∗ (bigSep Finset.univ fun x : Dev nD × Fin 3 => reached ER (barC x.2 x.1) 0) ∗ levAts L lv)
/-- What device `c` knows in call `j`: that its own copy semaphores count. -/
def counting (j : Fin 3) (c : Dev nD) : sProp 𝕄 :=
  iprop(world PV K ∗ bigSep Finset.univ fun x : Fin 4 × Dev nD => reached ER (dmaC j x.1 c x.2) 0)

instance world_persistent : BI.Persistent (world (F := F) PV K) := by unfold world; infer_instance
instance counting_persistent (j : Fin 3) (c : Dev nD) : BI.Persistent (counting (F := F) PV K j c) := by unfold counting; infer_instance

theorem world_inv (x : Dev nD × SCell) : world (F := F) PV K ⊢ cellInv ER (Rd PV) (K (cell x)) (cell x) := by
  unfold world
  iintro ⟨H, -, -⟩
  iapply (elim_univ (fun x : Dev nD × SCell => cellInv ER (Rd (F := F) PV) (K (cell x)) (cell x)) x)
  iexact H
theorem world_reached (j : Fin 3) (c : Dev nD) : world (F := F) PV K ⊢ reached ER (barC j c) 0 := by
  unfold world
  iintro ⟨-, H, -⟩
  iapply (elim_univ (fun x : Dev nD × Fin 3 => (reached ER (barC x.2 x.1) 0 : sProp 𝕄)) (c, j))
  iexact H
theorem world_lev : world (F := F) PV K ⊢ levAts L lv := by
  unfold world
  iintro ⟨-, -, H⟩
  iexact H
theorem counting_world (j : Fin 3) (c : Dev nD) : counting (F := F) PV K j c ⊢ world PV K := by
  unfold counting
  iintro ⟨H, -⟩
  iexact H
theorem counting_inv (j : Fin 3) (c : Dev nD) (x : Dev nD × SCell) :
    counting (F := F) PV K j c ⊢ cellInv ER (Rd PV) (K (cell x)) (cell x) :=
  BIBase.Entails.trans (counting_world PV K j c) (world_inv PV K x)
theorem counting_reached (j : Fin 3) (c : Dev nD) (k : Fin 4) (p : Dev nD) :
    counting (F := F) PV K j c ⊢ reached ER (dmaC j k c p) 0 := by
  unfold counting
  iintro ⟨-, H⟩
  iapply (elim_univ (fun x : Fin 4 × Dev nD => (reached ER (dmaC j x.1 c x.2) 0 : sProp 𝕄)) (k, p))
  iexact H

/-- The device owes `O`. -/
abbrev owing (c : Dev nD) (O : Dues) : sProp 𝕄 := iprop(∃ W, owes (c : Thread nD τ) O W)

/-- Announce to `p`. -/
theorem sig_step (j : Fin 3) (c p : Dev nD) (h : c ≠ p) (O O' : Dues) (hO : O' = O + tallyAt (barC j p) () 1) (Q : PUnit → sProp 𝕄) :
    iprop(counting PV K j c ∗ owing c O' ∗ (anyOf c (slot (args j).rs p) ∗ anyOf c (col (args j).o p) ∗ dutyTok ER (barC j p) 0 c)
        ∗ (owing c O -∗ Q ⟨⟩)) ⊢ runs (F := F) c (sigOp (bar j) p) Q := by
  show _ ⊢ wp frame (wpE (defs₀ (F := F)) 𝒱₀ (c : Thread nD τ) none) Set.univ (.op (.semSignal (p, .tc) (bar j) ((1 : ℕ) : ℤ)) .ret) Q
  iintro ⟨#HC, ⟨%W, HO⟩, ⟨Hs, Hc, Ht⟩, Hk⟩
  iapply (Rounds.wp_signal 𝒱₀ ER (Rd PV) (c : Thread nD τ) none (dst := (p : Thread nD τ)) (sem := bar j) (r := 0) (d := c)
      (κ := K (barC j p)) (by rw [duties_bar]; exact Finset.mem_erase.mpr ⟨h, Finset.mem_univ _⟩) (amount_bar PV j p 0 c) () O hO)
    $$ [HO Hs Hc Ht]
  · isplitr; · iapply (counting_inv PV K j c (p, (j, none))); iexact HC
    isplitl [HO]; · iexact HO
    isplitl [Ht]; · iexact Ht
    isplitl [Hs Hc]
    · rw [payload_bar]; unfold barPay
      isplitl [Hs]; · iexact Hs
      isplitl [Hc]; · iexact Hc
      isplitr
      · iapply (counting_reached PV K j c 1 p); iexact HC
      · iapply (counting_reached PV K j c 3 p); iexact HC
    · iapply (world_reached PV K j p); iapply (counting_world PV K j c); iexact HC
  iintro HO
  rw [wp_ret]
  imodintro
  iapply Hk
  iexists W
  iexact HO

/-- Wait for all seven announcements. -/
theorem bar_step (j : Fin 3) (c : Dev nD) (O : Dues) (hA : Above (10 * j.val + 1) O) (k : PG (F := F) PUnit) (Q : PUnit → sProp 𝕄) :
    iprop(counting PV K j c ∗ owing c O ∗ cred (tallyAt (barC j c) () 7) ∗ atPos ER (barC j c) 0 ∅ 0
        ∗ (owing c O -∗ atPos ER (barC j c) 1 ∅ 0 -∗ bigSepL peers (on c fun d => barPay (F := F) j c d) -∗ runs c k Q))
      ⊢ runs (F := F) c (semWaitWord (bar j) 7#32 >>= fun _ => k) Q := by
  show _ ⊢ wp frame (wpE (defs₀ (F := F)) 𝒱₀ (c : Thread nD τ) none) Set.univ (.op (.semWait (bar j) ((7 : ℕ) : ℤ)) fun _ => k) Q
  iintro ⟨#HC, ⟨%W, HO⟩, Hc, Ha, Hk⟩
  iapply (Rounds.wp_wait_rest_token 𝒱₀ ER (Rd PV) (c : Thread nD τ) none (κ := K (barC j c))
      (wpE_semWait_eq 𝒱₀ (c : Thread nD τ) none Set.univ) (Set.mem_univ _) () (O := O) (W := W) (R := 0) (m := 0) (T := ∅)
      ((Nat.zero_add 7).trans (expect_bar PV j c).symm)) $$ [HO Hc Ha]
  · isplitr; · iapply (counting_inv PV K j c (c, (j, none))); iexact HC
    isplitl [Hc]; · iexact Hc
    isplitl [HO]; · iexact HO
    isplitr
    · iapply (mayWait hA c (.reg (bar j)) (le_of_eq (lv_bar j c))); iapply (world_lev PV K); iapply (counting_world PV K j c); iexact HC
    iexact Ha
  iintro ⟨HO, Ha, -, Hp⟩
  ihave Hp := (Entails.of_eq ((rest_bar PV j c).trans (others_eq c fun d => barPay (F := F) j c d))) $$ Hp
  iapply Hk $$ [HO] [Ha] [Hp]
  · iexists _; iexact HO
  · iexact Ha
  · iexact Hp

/-- Send a block to `p`: the copy takes a share of the source and the destination it was given, and leaves the credit of its
    own semaphore. -/
theorem send_step (j : Fin 3) (k k' : Fin 4) (c p : Dev nD) (h : c ≠ p) (src dst : Memref sig .tc .vmem S64x256 .f32)
    (q : PosShare TreeShare) (X : Vec F S64x256 .f32) (hsrc : src.view.WordExact) (hdst : dst.view.WordExact) (hty)
    (hN : dst.view.amount (.dma (semAt (arr j k') c)) = N)
    (hp : dmaPay PV j c p k = owns (c : Thread nD τ) src q X) (hp' : dmaPay PV j p c k' = owns (p : Thread nD τ) dst fullShare X)
    (O O' : Dues) (hO : O' = O + tallyAt (dmaC j k' p c) () N) (Q : PUnit → sProp 𝕄) :
    iprop(counting PV K j c ∗ owing c O' ∗ (owns (c : Thread nD τ) src q X ∗ anyOf p dst ∗ reached ER (dmaC j k' p c) 0
          ∗ dutyTok ER (dmaC j k c p) 0 0 ∗ dutyTok ER (dmaC j k' p c) 0 0)
        ∗ (owing c O -∗ cred (tallyAt (dmaC j k c p) () N) -∗ Q ⟨⟩))
      ⊢ runs (F := F) c (Prog.lift (.enqueueDma src (.remote (Dev.tc p) dst (.dma (semAt (arr j k) p))) (.dma (semAt (arr j k') c)) hsrc hdst hty)) Q := by
  unfold anyOf owns
  iintro ⟨#HC, ⟨%W, HO⟩, ⟨⟨%fs, %hfs, Hs⟩, ⟨%Y, %fd, %hfd, Hd⟩, #Hr, Ht, Ht'⟩, Hk⟩
  iapply (Rounds.wp_send_pointsTo 𝒱₀ ER (Rd PV) (c : Thread nD τ) none (c' := (p : Thread nD τ)) (src := src) (dst := dst)
      (sS := .dma (semAt (arr j k) p)) (sem := .dma (semAt (arr j k') c)) (q := q) (fs := fs) (κ₁ := K (dmaC j k c p)) (κ₂ := K (dmaC j k' p c))
      (r₁ := 0) (r₂ := 0) (d₁ := 0) (d₂ := 0) (fd := fd)
      (by rw [duties_dma PV j c p k h.symm]; exact Finset.mem_singleton_self _) (by rw [duties_dma PV j p c k' h]; exact Finset.mem_singleton_self _)
      () () N hN (amount_dma PV j c p k 0 0) (amount_dma PV j p c k' 0 0) O hO (W := W)
      (by
        rw [payload_dma, hp]; unfold owns
        iintro H; iexists fs
        isplitr; · ipureintro; exact hfs
        iexact H)
      (by
        rw [payload_dma, hp']; unfold owns
        iintro H; iexists _
        isplitr; swap; · iexact H
        ipureintro
        rw [View.read_write_univ]; exact hfs)) $$ [Hs Hd HO Ht Ht']
  · isplitr; · iapply (counting_inv PV K j c (c, (j, some (k, p)))); iexact HC
    isplitr; · iapply (counting_inv PV K j c (p, (j, some (k', c)))); iexact HC
    isplitl [Hs]; · iexact Hs
    isplitl [Hd]; · iexact Hd
    isplitl [HO]; · iexact HO
    isplitl [Ht]; · iexact Ht
    isplitr; · iapply (counting_reached PV K j c k p); iexact HC
    isplitl [Ht']; · iexact Ht'
    iexact Hr
  iintro ⟨Hc, HO⟩
  rw [wp_ret]
  imodintro
  iapply Hk $$ [HO] [Hc]
  · iexists _; iexact HO
  · iexact Hc

/-- Wait on one of the own copy semaphores. -/
theorem wait_step (j : Fin 3) (k : Fin 4) (c p : Dev nD) (h : c ≠ p) {sh sh' : Shape} {e e' : EltTy}
    (src : Memref sig .tc .vmem sh e) (dst : Memref sig .tc .vmem sh' e')
    (hsrc : src.view.WordExact) (hdst : dst.view.WordExact) (hN : dst.view.dmaCredit = N)
    (n : ℕ) (hl : lv (dmaC j k c p) () ≤ n) (O : Dues) (hA : Above n O) (Q : PUnit → sProp 𝕄) :
    iprop(counting PV K j c ∗ owing c O ∗ (cred (tallyAt (dmaC j k c p) () N) ∗ atPos ER (dmaC j k c p) 0 ∅ 0)
        ∗ (owing c O -∗ (dmaPay PV j c p k ∗ atPos ER (dmaC j k c p) 1 ∅ 0) -∗ Q ⟨⟩))
      ⊢ runs (F := F) c (Prog.lift (.waitDma2 (semAt (arr j k) p) src dst hsrc hdst)) Q := by
  iintro ⟨#HC, ⟨%W, HO⟩, ⟨Hc, Ha⟩, Hk⟩
  iapply (Rounds.wp_wait_rest_token 𝒱₀ ER (Rd PV) (c : Thread nD τ) none (κ := K (dmaC j k c p))
      (wpE_waitDma2_eq 𝒱₀ (c : Thread nD τ) none Set.univ) (Set.mem_univ _) () (O := O) (W := W) (R := 0) (m := 0) (T := ∅)
      ((Nat.zero_add _).trans (hN.trans (expect_dma PV j c p k h.symm).symm))) $$ [HO Hc Ha]
  · isplitr; · iapply (counting_inv PV K j c (c, (j, some (k, p)))); iexact HC
    isplitl [Hc]; · rw [hN]; iexact Hc
    isplitl [HO]; · iexact HO
    isplitr
    · iapply (mayWait hA c (.dma (semAt (arr j k) p)) hl); iapply (world_lev PV K); iapply (counting_world PV K j c); iexact HC
    iexact Ha
  iintro ⟨HO, Ha, -, Hp⟩
  ihave Hp := (Entails.of_eq (rest_dma PV j c p k h.symm)) $$ Hp
  rw [wp_ret]
  imodintro
  iapply Hk $$ [HO] [Ha Hp]
  · iexists _; iexact HO
  · isplitl [Hp]; · iexact Hp
    iexact Ha

/-! ## The steps of the body -/

variable (j : Fin 3) (c p : Dev nD)

theorem dueL_skip (f : Dev nD → Dues) (hf : f c = 0) (l : List (Dev nD)) : dueL f (c :: l) = dueL f l := by
  rw [dueL_cons, hf, zero_add]
theorem dueL_step (f : Dev nD → Dues) (p : Dev nD) (l : List (Dev nD)) (R : Dues) : dueL f (p :: l) + R = (dueL f l + R) + f p := by
  rw [dueL_cons, add_assoc, add_comm]

theorem credit_slot : (slot (args j).rs p).view.dmaCredit = N := rfl
theorem credit_col_o : (col (args j).o p).view.dmaCredit = N := rfl
theorem credit_col_p : (col (args j).p p).view.dmaCredit = N := rfl
theorem credit_red : (args j).red.view.dmaCredit = N := rfl

end Cert.KernelIdeal.AR
-- ==== Proof.KernelIdeal.Mem.lean ====
/- The buffers of an all-reduce cut into the blocks its copies move, and the loads and stores of whole blocks. -/
module

public import proofs.«01_k».proof.Proof.KernelIdeal.Ops
public import Idealize.ShloMosaic.Lib.VecWindow
public import Idealize.ShloMosaic.Lib.Memref

@[expose] public section

noncomputable section

namespace Cert.KernelIdeal.AR

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

abbrev own' (c : Dev nD) {sh : Shape} (m : Memref sig .tc .vmem sh .f32) (q : PosShare TreeShare) (X : Vec F sh .f32) : sProp 𝕄 :=
  owns (c : Thread nD τ) m q X

/-! ## Loads and stores -/

/-- A load of a block the device holds. -/
theorem load_block (c : Dev nD) {sh : Shape} (m : Memref sig .tc .vmem sh .f32) (r : Rect sh) (hr : ∀ a, r.stride a = 1)
    (q : PosShare TreeShare) (X : r.shape.Idx → Elt F .f32) (hl : m.view.LoadsAt r.toLoadRect) (k : (r.shape.Idx → Elt F .f32) → PG (F := F) PUnit)
    (Q : PUnit → sProp 𝕄) :
    iprop(own' c (m.slice r hr) q X ∗ (own' c (m.slice r hr) q X -∗ runs c (k X) Q))
      ⊢ runs (F := F) c (Prog.lift (.load m r.toLoadRect hl) >>= k) Q := by
  show _ ⊢ wp frame (wpE (defs₀ (F := F)) 𝒱₀ (c : Thread nD τ) none) Set.univ (.op (.load m r.toLoadRect hl) fun x => k x) Q
  unfold own' owns
  iintro ⟨⟨%f, %hf, H⟩, Hk⟩
  iapply (wp_load_rect 𝒱₀ (c : Thread nD τ) none Set.univ (m := m) (r := r) (f := f) (Finset.Subset.refl _)) $$ H
  iintro H
  rw [show (m.access r).read (Elt F) f = X from hf]
  iapply Hk
  iexists f
  isplitr; · ipureintro; exact hf
  iexact H

/-- A store of a block the device holds. -/
theorem store_block (c : Dev nD) {sh : Shape} (m : Memref sig .tc .vmem sh .f32) (r : Rect sh) (hr : ∀ a, r.stride a = 1)
    (w : r.shape.Idx → Elt F .f32) (hx : (m.access r).Stores Finset.univ) (hm : Finset.univ = Finset.univ ∨ ∀ a, r.stride a = 1)
    (k : PUnit → PG (F := F) PUnit) (Q : PUnit → sProp 𝕄) :
    iprop((∃ X, own' c (m.slice r hr) fullShare X) ∗ (own' c (m.slice r hr) fullShare w -∗ runs c (k ⟨⟩) Q))
      ⊢ runs (F := F) c (Prog.lift (.store m r w Finset.univ hx hm) >>= k) Q := by
  show _ ⊢ wp frame (wpE (defs₀ (F := F)) 𝒱₀ (c : Thread nD τ) none) Set.univ (.op (.store m r w Finset.univ hx hm) fun x => k x) Q
  unfold own' owns
  iintro ⟨⟨%X, %f, %hf, H⟩, Hk⟩
  iapply (wp_store 𝒱₀ (c : Thread nD τ) none Set.univ (m := m) (r := r) (w := w) (hx := hx) (hm := hm) (S := (m.access r).set) (f := f) (Finset.Subset.refl _)) $$ H
  iintro H
  iapply Hk
  iexists _
  isplitr; swap; · iexact H
  ipureintro
  exact View.read_write_univ _ _

/-- Holding a whole buffer is holding its full rectangle. -/
theorem own_full (c : Dev nD) {sh : Shape} (m : Memref sig .tc .vmem sh .f32) (off : Fin sh.rank → ℕ)
    (inb : ∀ a, off a + sh.size a ≤ sh.size a) (q : PosShare TreeShare) (X : sh.Idx → Elt F .f32) :
    (own' c (m.slice (Rect.unit off sh.size inb) (fun _ => rfl)) q X : sProp 𝕄) = own' c m q X := by
  have hset : (m.slice (Rect.unit off sh.size inb) (fun _ => rfl)).view.set = m.view.set := by
    refine (View.set_slice m.view (Rect.unit off sh.size inb)).trans ?_
    rw [← Rect.map_emb_univ,
      show (Rect.unit off sh.size inb).emb = Function.Embedding.refl _ from DFunLike.ext _ _ fun z => Rect.emb_unit_full inb z]
    exact congrArg _ (Finset.map_refl (s := Finset.univ))
  have hread : ∀ f, (m.slice (Rect.unit off sh.size inb) (fun _ => rfl)).view.read (Elt F) f = m.view.read (Elt F) f := fun f => by
    funext z
    show m.view.read (Elt F) f ((Rect.unit off sh.size inb).emb z) = _
    rw [Rect.emb_unit_full inb z]
  unfold own' owns
  rw [hset]
  simp only [hread]

/-! ## A slot with and without its leading axis -/

theorem slot_eq (c : Dev nD) (b : Memref sig .tc .vmem S8x64x256 .f32) (p : Dev nD) (q : PosShare TreeShare) (Y : Vec F S1x64x256 .f32) :
    (own' c (slot b p) q (fun i => Y (ix3 0 (i 0) (i 1))) : sProp 𝕄) = own' c (slot1 b p) q Y := by
  have hset : (slot b p).view.set = (slot1 b p).view.set := by
    exact View.set_reshape (v := (slot1 b p).view) _
  have hread : ∀ f, (slot b p).view.read (Elt F) f = fun i => (slot1 b p).view.read (Elt F) f (ix3 0 (i 0) (i 1)) := fun f => by
    funext i
    show (slot1 b p).view.read (Elt F) f (Shape.reshapeEquiv _ i) = _
    obtain ⟨x, y, rfl⟩ : ∃ (x : Fin 64) (y : Fin 256), i = ix2 x y := ⟨_, _, eq_ix2 i⟩
    exact congrArg _ (reshapeEquiv_ix2_1ab _ x y)
  unfold own' owns
  rw [hset]
  refine congrArg _ (funext fun f => congrArg (fun P : Prop => iprop(⌜P⌝ ∗ _)) ?_)
  rw [hread f]
  refine propext ⟨fun h => funext fun y => ?_, fun h => by rw [h]⟩
  obtain ⟨z, x, y, rfl⟩ : ∃ (z : Fin 1) (x : Fin 64) (y' : Fin 256), y = ix3 z x y' := ⟨_, _, _, eq_ix3 y⟩
  rw [Subsingleton.elim z 0]
  exact congrFun h (ix2 x y)

/-! ## Cutting and joining -/

theorem col_val (p : Dev nD) (j : S64x256.Idx) : (colRect p).emb j = ix2 (j 0) (⟨256 * p.val + (j 1).val, by
    have h := (j 1).isLt; have hp := p.isLt
    have e : S64x256.size 1 = 256 := rfl
    have e' : nD = 8 := rfl
    omega⟩ : Fin 2048) := by
  funext a
  refine Fin.ext ?_
  match a with
  | 0 => show 0 + 1 * (j 0).val = (j 0).val; omega
  | 1 => show 256 * p.val + 1 * (j 1).val = 256 * p.val + (j 1).val; omega
theorem slot_val (p : Dev nD) (j : S1x64x256.Idx) : (slotRect p).emb j = ix3 p (j 1) (j 2) := by
  funext a
  refine Fin.ext ?_
  match a with
  | 0 =>
    have h := (j 0).isLt
    have e : S1x64x256.size 0 = 1 := rfl
    show p.val + 1 * (j 0).val = p.val; omega
  | 1 => show 0 + 1 * (j 1).val = (j 1).val; omega
  | 2 => show 0 + 1 * (j 2).val = (j 2).val; omega

theorem col_disj (p p' : Dev nD) (h : p ≠ p') : Disjoint (colRect p).set (colRect p').set := by
  rw [Finset.disjoint_left]
  intro i hi hi'
  rw [← Rect.map_emb_univ] at hi hi'
  obtain ⟨y, -, rfl⟩ := Finset.mem_map.mp hi
  obtain ⟨y', -, e⟩ := Finset.mem_map.mp hi'
  have e1 : 256 * p'.val + 1 * (y' 1).val = 256 * p.val + 1 * (y 1).val := congrArg (fun z : S64x2048.Idx => (z 1).val) e
  have hy : (y 1).val < 256 := (y 1).isLt
  have hy' : (y' 1).val < 256 := (y' 1).isLt
  exact h (Fin.ext (by omega))
theorem col_cov : (Finset.univ : Finset (Dev nD)).biUnion (fun p => (colRect p).set) = Finset.univ := by
  refine Finset.eq_univ_of_forall fun i => ?_
  have hi : (i 1).val < 2048 := (i 1).isLt
  refine Finset.mem_biUnion.mpr ⟨⟨(i 1).val / 256, by show _ < 8; omega⟩, Finset.mem_univ _, ?_⟩
  rw [← Rect.map_emb_univ]
  refine Finset.mem_map.mpr ⟨ix2 (n0 := 64) (n1 := 256) (i 0) ⟨(i 1).val % 256, by omega⟩, Finset.mem_univ _, ?_⟩
  funext a
  refine Fin.ext ?_
  match a with
  | 0 => show 0 + 1 * (i 0).val = (i 0).val; omega
  | 1 => show 256 * ((i 1).val / 256) + 1 * ((i 1).val % 256) = (i 1).val; omega
theorem slot_disj (p p' : Dev nD) (h : p ≠ p') : Disjoint (slotRect p).set (slotRect p').set := by
  rw [Finset.disjoint_left]
  intro i hi hi'
  rw [← Rect.map_emb_univ] at hi hi'
  obtain ⟨y, -, rfl⟩ := Finset.mem_map.mp hi
  obtain ⟨y', -, e⟩ := Finset.mem_map.mp hi'
  have e1 : p'.val + 1 * (y' 0).val = p.val + 1 * (y 0).val := congrArg (fun z : S8x64x256.Idx => (z 0).val) e
  have hy : (y 0).val < 1 := (y 0).isLt
  have hy' : (y' 0).val < 1 := (y' 0).isLt
  exact h (Fin.ext (by omega))
theorem slot_cov : (Finset.univ : Finset (Dev nD)).biUnion (fun p => (slotRect p).set) = Finset.univ := by
  refine Finset.eq_univ_of_forall fun i => ?_
  refine Finset.mem_biUnion.mpr ⟨i 0, Finset.mem_univ _, ?_⟩
  rw [← Rect.map_emb_univ]
  refine Finset.mem_map.mpr ⟨ix3 (n0 := 1) (n1 := 64) (n2 := 256) 0 (i 1) (i 2), Finset.mem_univ _, ?_⟩
  exact (slot_val (i 0) _).trans (eq_ix3 (n0 := 8) (n1 := 64) (n2 := 256) i).symm

theorem cut_cols (c : Dev nD) (b : Memref sig .tc .vmem S64x2048 .f32) (q : PosShare TreeShare) (X : Vec F S64x2048 .f32) :
    (own' c b q X : sProp 𝕄) ⊢ bigSep Finset.univ fun p => own' c (col b p) q (colOf X p) :=
  owns_rects (c : Thread nD τ) b q colRect (fun _ _ => rfl) col_disj col_cov X
theorem join_cols (c : Dev nD) (b : Memref sig .tc .vmem S64x2048 .f32) (q : PosShare TreeShare) (X : Vec F S64x2048 .f32) :
    (bigSep Finset.univ fun p => own' c (col b p) q (colOf X p)) ⊢ (own' c b q X : sProp 𝕄) :=
  owns_of_rects (c : Thread nD τ) b q colRect (fun _ _ => rfl) col_disj col_cov X

/-- Slot `p` of the eight. -/
def slotOf (Y : Vec F S8x64x256 .f32) (p : Dev nD) : Vec F S64x256 .f32 := fun i => Y (ix3 p (i 0) (i 1))

theorem slot_part (c : Dev nD) (b : Memref sig .tc .vmem S8x64x256 .f32) (p : Dev nD) (q : PosShare TreeShare) (Y : Vec F S8x64x256 .f32) :
    (owns (c : Thread nD τ) (b.slice (slotRect p) (fun _ => rfl)) q (fun j => Y ((slotRect p).emb j)) : sProp 𝕄) = own' c (slot b p) q (slotOf Y p) := by
  refine (slot_eq c b p q (fun j => Y ((slotRect p).emb j))).symm.trans ?_
  exact congrArg (own' c (slot b p) q) (funext fun i => congrArg Y (slot_val p (ix3 0 (i 0) (i 1))))
theorem cut_slots (c : Dev nD) (b : Memref sig .tc .vmem S8x64x256 .f32) (q : PosShare TreeShare) (Y : Vec F S8x64x256 .f32) :
    (own' c b q Y : sProp 𝕄) ⊢ bigSep Finset.univ fun p => own' c (slot b p) q (slotOf Y p) :=
  BIBase.Entails.trans (owns_rects (c : Thread nD τ) b q slotRect (fun _ _ => rfl) slot_disj slot_cov Y)
    (Entails.of_eq (bigSep_congr fun p _ => slot_part c b p q Y))
theorem join_slots (c : Dev nD) (b : Memref sig .tc .vmem S8x64x256 .f32) (q : PosShare TreeShare) (Y : Vec F S8x64x256 .f32) :
    (bigSep Finset.univ fun p => own' c (slot b p) q (slotOf Y p)) ⊢ (own' c b q Y : sProp 𝕄) :=
  BIBase.Entails.trans (Entails.of_eq (bigSep_congr fun p _ => (slot_part c b p q Y).symm))
    (owns_of_rects (c : Thread nD τ) b q slotRect (fun _ _ => rfl) slot_disj slot_cov Y)

theorem bigSep_fin_cast {n m : ℕ} (h : m = n) (X : Fin n → sProp 𝕄) :
    bigSep Finset.univ X = bigSep Finset.univ fun i : Fin m => X (Fin.cast h i) := by
  subst h; rfl
/-- A buffer held whole is held in eight shares. -/
theorem whole_leaves (c : Dev nD) (b : Ref sig .tc) (f : b.ty.Contents (Elt F)) :
    (owns (c : Thread nD τ) (Memref.whole b) fullShare f : sProp 𝕄)
      = bigSep Finset.univ fun p : Dev nD => owns (c : Thread nD τ) (Memref.whole b) (redShare p) f := by
  rw [owns_whole, bigSep_congr (fun p _ => owns_whole (c : Thread nD τ) b (redShare p) f)]
  exact (ShareLeaves.pointsTo_leaves (ℓ := (c : Thread nD τ).loc b) Finset.univ f 3 fullShare).trans (bigSep_fin_cast rfl _)
theorem isWhole_leaves (c : Dev nD) {sp : Space} {sh : Shape} {e : EltTy} (m : Memref sig .tc sp sh e) (hm : m.IsWhole) (X : sh.Idx → Elt F e) :
    (owns (c : Thread nD τ) m fullShare X : sProp 𝕄) = bigSep Finset.univ fun p : Dev nD => owns (c : Thread nD τ) m (redShare p) X := by
  obtain ⟨b, h1, h2, h3, h⟩ := hm
  subst h1 h2 h3
  obtain rfl := eq_of_heq h
  exact whole_leaves c b X
/-- So is the reduced block. -/
theorem red_leaves (j : Fin 3) (c : Dev nD) (X : Vec F S64x256 .f32) :
    (own' c (args j).red fullShare X : sProp 𝕄) = bigSep Finset.univ fun p : Dev nD => own' c (args j).red (redShare p) X :=
  isWhole_leaves c (args j).red (args j).hred X

/-- The result of an all-reduce: the reduced blocks side by side. -/
def outOf (V : Dev nD → Vec F S64x2048 .f32) : Vec F S64x2048 .f32 := fun i =>
  redOf V ⟨(i 1).val / 256, by have h : (i 1).val < 2048 := (i 1).isLt; show _ < 8; omega⟩
    (ix2 (n0 := 64) (n1 := 256) (i 0) ⟨(i 1).val % 256, by omega⟩)
theorem colOf_outOf (V : Dev nD → Vec F S64x2048 .f32) (p : Dev nD) : colOf (outOf V) p = redOf V p := by
  funext i
  obtain ⟨x, y, rfl⟩ : ∃ (x : Fin 64) (y : Fin 256), i = ix2 x y := ⟨_, _, eq_ix2 i⟩
  have hy := y.isLt
  show redOf V _ _ = _
  have e1 : (⟨(((colRect p).emb (ix2 x y)) 1).val / 256, by
      have h : (((colRect p).emb (ix2 x y)) 1).val < 2048 := (((colRect p).emb (ix2 x y)) 1).isLt; show _ < 8; omega⟩ : Dev nD) = p := by
    refine Fin.ext ?_
    show (256 * p.val + 1 * y.val) / 256 = p.val
    omega
  have e2 : (ix2 (n0 := 64) (n1 := 256) (((colRect p).emb (ix2 x y)) 0) ⟨(((colRect p).emb (ix2 x y)) 1).val % 256, by omega⟩) = ix2 x y := by
    funext a
    refine Fin.ext ?_
    match a with
    | 0 => show 0 + 1 * x.val = x.val; omega
    | 1 => show (256 * p.val + 1 * y.val) % 256 = y.val; omega
  rw [e1]
  exact congrArg _ e2

theorem slotOf_stack (V : Dev nD → Vec F S64x2048 .f32) (c p : Dev nD) : slotOf (stack V c) p = colOf (V p) c := by
  funext i
  obtain ⟨x, y, rfl⟩ : ∃ (x : Fin 64) (y : Fin 256), i = ix2 x y := ⟨_, _, eq_ix2 i⟩
  rfl

end Cert.KernelIdeal.AR
-- ==== Proof.KernelIdeal.ArRun.lean ====
/- One all-reduce run on device `c`: its phases in order, then the whole body. -/
module

public import proofs.«01_k».proof.Proof.KernelIdeal.Mem

@[expose] public section

noncomputable section

namespace Cert.KernelIdeal.AR

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (PV : Fin 3 → Dev nD → Vec F S64x2048 .f32) (K : GSem nD τ sig → ℕ) (j : Fin 3) (c : Dev nD)

/-- A family over the other devices. -/
abbrev others (X : Dev nD → sProp 𝕄) : sProp 𝕄 := bigSepL peers (on c X)

/-! ## The loops -/

theorem signals (R : Dues) (k : PG (F := F) PUnit) (Q : PUnit → sProp 𝕄) :
    iprop(counting PV K j c ∗ owing c (dueL (dueB j c) peers + R)
        ∗ others c (fun p => iprop(anyOf c (slot (args j).rs p) ∗ anyOf c (col (args j).o p) ∗ dutyTok ER (barC j p) 0 c))
        ∗ (owing c R -∗ runs c k Q))
      ⊢ runs (F := F) c (loopP c (sigOp (bar j)) peers k) Q := by
  iintro ⟨#HC, HO, HA, Hk⟩
  iapply (wp_loop (F := F) c (C := counting PV K j c) (S := fun l => owing c (dueL (dueB j c) l + R))
    (A := fun p => iprop(anyOf c (slot (args j).rs p) ∗ anyOf c (col (args j).o p) ∗ dutyTok ER (barC j p) 0 c)) (B := fun _ => iprop(emp))
    (op := sigOp (bar j)) ?_ ?_ k Q peers)
  · intro p l h Q
    refine BIBase.Entails.trans ?_ (sig_step PV K j c p h (dueL (dueB j c) l + R) (dueL (dueB j c) (p :: l) + R)
      ((dueL_step _ p l R).trans (congrArg (_ + ·) (if_neg h))) Q)
    iintro ⟨HC, HO, HA, Hk⟩
    isplitl [HC]; · iexact HC
    isplitl [HO]; · iexact HO
    isplitl [HA]; · iexact HA
    iintro HO
    iapply Hk $$ HO
    iempintro
  · intro l
    rw [dueL_skip c _ (if_pos rfl)]
  · isplitr; · iexact HC
    isplitl [HO]; · iexact HO
    isplitl [HA]; · iexact HA
    iintro HO -
    iapply Hk
    rw [dueL_nil, zero_add]
    iexact HO

theorem sends1 (R : Dues) (k : PG (F := F) PUnit) (Q : PUnit → sProp 𝕄) :
    iprop(counting PV K j c ∗ owing c (dueL (dueR j c) peers + R)
        ∗ others c (fun p => iprop(own' c (col (args j).p p) fullShare (colOf (PV j c) p) ∗ anyOf p (slot (args j).rs c) ∗ reached ER (dmaC j 1 p c) 0
            ∗ dutyTok ER (dmaC j 0 c p) 0 0 ∗ dutyTok ER (dmaC j 1 p c) 0 0))
        ∗ (owing c R -∗ others c (fun p => cred (tallyAt (dmaC j 0 c p) () N)) -∗ runs c k Q))
      ⊢ runs (F := F) c (loopP c (sendOp (args j) c) peers k) Q := by
  iintro ⟨#HC, HO, HA, Hk⟩
  iapply (wp_loop (F := F) c (C := counting PV K j c) (S := fun l => owing c (dueL (dueR j c) l + R))
    (A := fun p => iprop(own' c (col (args j).p p) fullShare (colOf (PV j c) p) ∗ anyOf p (slot (args j).rs c) ∗ reached ER (dmaC j 1 p c) 0
            ∗ dutyTok ER (dmaC j 0 c p) 0 0 ∗ dutyTok ER (dmaC j 1 p c) 0 0)) (B := fun p => cred (tallyAt (dmaC j 0 c p) () N))
    (op := sendOp (args j) c) ?_ ?_ k Q peers)
  · intro p l h Q
    exact send_step PV K j 0 1 c p h (col (args j).p p) (slot (args j).rs c) fullShare (colOf (PV j c) p) _ _ _
      (credit_slot j c) rfl rfl (dueL (dueR j c) l + R) (dueL (dueR j c) (p :: l) + R)
      ((dueL_step _ p l R).trans (congrArg (_ + ·) (if_neg h))) Q
  · intro l
    rw [dueL_skip c _ (if_pos rfl)]
  · isplitr; · iexact HC
    isplitl [HO]; · iexact HO
    isplitl [HA]; · iexact HA
    iintro HO HB
    iapply Hk $$ [HO] [HB]
    · rw [dueL_nil, zero_add]
      iexact HO
    · iexact HB

theorem sends2 (R : Dues) (k : PG (F := F) PUnit) (Q : PUnit → sProp 𝕄) :
    iprop(counting PV K j c ∗ owing c (dueL (dueG j c) peers + R)
        ∗ others c (fun p => iprop(own' c (args j).red (redShare p) (redOf (PV j) c) ∗ anyOf p (col (args j).o c) ∗ reached ER (dmaC j 3 p c) 0
            ∗ dutyTok ER (dmaC j 2 c p) 0 0 ∗ dutyTok ER (dmaC j 3 p c) 0 0))
        ∗ (owing c R -∗ others c (fun p => cred (tallyAt (dmaC j 2 c p) () N)) -∗ runs c k Q))
      ⊢ runs (F := F) c (loopP c (agSendOp (args j) c) peers k) Q := by
  iintro ⟨#HC, HO, HA, Hk⟩
  iapply (wp_loop (F := F) c (C := counting PV K j c) (S := fun l => owing c (dueL (dueG j c) l + R))
    (A := fun p => iprop(own' c (args j).red (redShare p) (redOf (PV j) c) ∗ anyOf p (col (args j).o c) ∗ reached ER (dmaC j 3 p c) 0
            ∗ dutyTok ER (dmaC j 2 c p) 0 0 ∗ dutyTok ER (dmaC j 3 p c) 0 0)) (B := fun p => cred (tallyAt (dmaC j 2 c p) () N))
    (op := agSendOp (args j) c) ?_ ?_ k Q peers)
  · intro p l h Q
    exact send_step PV K j 2 3 c p h (args j).red (col (args j).o c) (redShare p) (redOf (PV j) c) _ _ _
      (credit_col_o j c) rfl rfl (dueL (dueG j c) l + R) (dueL (dueG j c) (p :: l) + R)
      ((dueL_step _ p l R).trans (congrArg (_ + ·) (if_neg h))) Q
  · intro l
    rw [dueL_skip c _ (if_pos rfl)]
  · isplitr; · iexact HC
    isplitl [HO]; · iexact HO
    isplitl [HA]; · iexact HA
    iintro HO HB
    iapply Hk $$ [HO] [HB]
    · rw [dueL_nil, zero_add]
      iexact HO
    · iexact HB

/-- A loop of waits, each on the own semaphore of array `k'` for the peer. -/
theorem waits (k' : Fin 4) (op : Dev nD → PG (F := F) PUnit) (O : Dues)
    (hop : ∀ p, c ≠ p → ∀ Q : PUnit → sProp 𝕄,
      iprop(counting PV K j c ∗ owing c O ∗ (cred (tallyAt (dmaC j k' c p) () N) ∗ atPos ER (dmaC j k' c p) 0 ∅ 0)
        ∗ (owing c O -∗ (dmaPay PV j c p k' ∗ atPos ER (dmaC j k' c p) 1 ∅ 0) -∗ Q ⟨⟩)) ⊢ runs (F := F) c (op p) Q)
    (k : PG (F := F) PUnit) (Q : PUnit → sProp 𝕄) :
    iprop(counting PV K j c ∗ owing c O ∗ others c (fun p => iprop(cred (tallyAt (dmaC j k' c p) () N) ∗ atPos ER (dmaC j k' c p) 0 ∅ 0))
        ∗ (owing c O -∗ others c (fun p => iprop(dmaPay PV j c p k' ∗ atPos ER (dmaC j k' c p) 1 ∅ 0)) -∗ runs c k Q))
      ⊢ runs (F := F) c (loopP c op peers k) Q :=
  wp_loop (F := F) c (C := counting PV K j c) (S := fun _ => owing c O)
    (A := fun p => iprop(cred (tallyAt (dmaC j k' c p) () N) ∗ atPos ER (dmaC j k' c p) 0 ∅ 0))
    (B := fun p => iprop(dmaPay PV j c p k' ∗ atPos ER (dmaC j k' c p) 1 ∅ 0)) (fun p _ h Q => hop p h Q) (fun _ => .rfl) k Q peers

theorem recvs (O : Dues) (hA : Above (10 * j.val + 2) O) (k : PG (F := F) PUnit) (Q : PUnit → sProp 𝕄) :
    iprop(counting PV K j c ∗ owing c O ∗ others c (fun p => iprop(cred (tallyAt (dmaC j 1 c p) () N) ∗ atPos ER (dmaC j 1 c p) 0 ∅ 0))
        ∗ (owing c O -∗ others c (fun p => iprop(dmaPay PV j c p 1 ∗ atPos ER (dmaC j 1 c p) 1 ∅ 0)) -∗ runs c k Q))
      ⊢ runs (F := F) c (loopP c (recvOp (args j) c) peers k) Q :=
  waits PV K j c 1 (recvOp (args j) c) O (fun p h Q => wait_step PV K j 1 c p h (slot (args j).rs p) (slot (args j).rs p) _ _ (credit_slot j p)
    _ (le_of_eq (lv_sr j c p)) O hA Q) k Q

theorem agRecvs (O : Dues) (hA : Above (10 * j.val + 3) O) (k : PG (F := F) PUnit) (Q : PUnit → sProp 𝕄) :
    iprop(counting PV K j c ∗ owing c O ∗ others c (fun p => iprop(cred (tallyAt (dmaC j 3 c p) () N) ∗ atPos ER (dmaC j 3 c p) 0 ∅ 0))
        ∗ (owing c O -∗ others c (fun p => iprop(dmaPay PV j c p 3 ∗ atPos ER (dmaC j 3 c p) 1 ∅ 0)) -∗ runs c k Q))
      ⊢ runs (F := F) c (loopP c (agRecvOp (args j) c) peers k) Q :=
  waits PV K j c 3 (agRecvOp (args j) c) O (fun p h Q => wait_step PV K j 3 c p h (args j).red (col (args j).o p) _ _ (credit_col_o j p)
    _ (le_of_eq (lv_gr j c p)) O hA Q) k Q

/-- The last loop waits for both copies to a peer to have left. -/
theorem finals (O : Dues) (hA : Above 0 O) (k : PG (F := F) PUnit) (Q : PUnit → sProp 𝕄) :
    iprop(counting PV K j c ∗ owing c O
        ∗ others c (fun p => iprop((cred (tallyAt (dmaC j 0 c p) () N) ∗ atPos ER (dmaC j 0 c p) 0 ∅ 0)
            ∗ (cred (tallyAt (dmaC j 2 c p) () N) ∗ atPos ER (dmaC j 2 c p) 0 ∅ 0)))
        ∗ (owing c O -∗ others c (fun p => iprop((dmaPay PV j c p 0 ∗ atPos ER (dmaC j 0 c p) 1 ∅ 0)
            ∗ (dmaPay PV j c p 2 ∗ atPos ER (dmaC j 2 c p) 1 ∅ 0))) -∗ runs c k Q))
      ⊢ runs (F := F) c (loopP c (finOp (args j) c) peers k) Q := by
  refine wp_loop (F := F) c (C := counting PV K j c) (S := fun _ => owing c O)
    (A := fun p => iprop((cred (tallyAt (dmaC j 0 c p) () N) ∗ atPos ER (dmaC j 0 c p) 0 ∅ 0)
            ∗ (cred (tallyAt (dmaC j 2 c p) () N) ∗ atPos ER (dmaC j 2 c p) 0 ∅ 0)))
    (B := fun p => iprop((dmaPay PV j c p 0 ∗ atPos ER (dmaC j 0 c p) 1 ∅ 0)
            ∗ (dmaPay PV j c p 2 ∗ atPos ER (dmaC j 2 c p) 1 ∅ 0))) (fun p _ h Q => ?_) (fun _ => .rfl) k Q peers
  unfold finOp
  show _ ⊢ wp _ _ _ (finOp1 (args j) c p >>= fun _ => finOp2 (args j) c p) Q
  rw [wp_bind]
  refine BIBase.Entails.trans ?_ (wait_step PV K j 0 c p h (slot (args j).rs c) (col (args j).p p) _ _ (credit_col_p j p)
    0 (le_of_eq (lv_ss j c p)) O hA _)
  iintro ⟨#HC, HO, ⟨H0, H2⟩, Hk⟩
  isplitr; · iexact HC
  isplitl [HO]; · iexact HO
  isplitl [H0]; · iexact H0
  iintro HO H0
  iapply (wait_step PV K j 2 c p h (col (args j).o c) (args j).red _ _ (credit_red j)
    0 (le_of_eq (lv_gs j c p)) O hA Q)
  isplitr; · iexact HC
  isplitl [HO]; · iexact HO
  isplitl [H2]; · iexact H2
  iintro HO H2
  iapply Hk $$ HO
  isplitl [H0]; · iexact H0
  iexact H2

/-! ## The device's own block -/

theorem ownSlot_rect (a : Args) (k : PG (F := F) PUnit) : ∃ hl hl' hs, ownSlot a c k =
    (Prog.lift (.load a.p (colRect c).toLoadRect hl) >>= fun v =>
      Prog.lift (.load a.rs (slotRect c).toLoadRect hl') >>= fun _ =>
      Prog.lift (.store a.rs (slotRect c) (k1_pay1 v) Finset.univ hs (.inl rfl)) >>= fun _ => k) := by
  unfold ownSlot
  generalize_proofs h1 h2 h3 h4 h5 h6
  revert h1 h2 h3 h4 h5 h6
  rw [k1_off17_eq c, k1_off18_eq c]
  intro h1 h2 h3 h4 h5 h6
  exact ⟨_, _, _, rfl⟩

theorem ownCol_rect (a : Args) (k : PG (F := F) PUnit) : ∃ hl hl' hs, ownCol a c k =
    (Prog.lift (.load a.red (Rect.unit (s := S64x256) ![0, 0] S64x256.size inb_S64x256_S64x256_0_0).toLoadRect hl) >>= fun v =>
      Prog.lift (.load a.o (colRect c).toLoadRect hl') >>= fun _ =>
      Prog.lift (.store a.o (colRect c) v Finset.univ hs (.inl rfl)) >>= fun _ => k) := by
  unfold ownCol
  generalize_proofs h1 h2 h3 h4 h5 h6
  revert h1 h2 h3 h4 h5 h6
  rw [k1_off17_eq c]
  intro h1 h2 h3 h4 h5 h6
  exact ⟨_, _, _, rfl⟩

theorem pay1_slot (v : Vec F S64x256 .f32) : (fun i : S64x256.Idx => k1_pay1 v (ix3 0 (i 0) (i 1))) = v := by
  funext i
  obtain ⟨x, y, rfl⟩ : ∃ (x : Fin 64) (y : Fin 256), i = ix2 x y := ⟨_, _, eq_ix2 i⟩
  unfold k1_pay1
  simp only [shapeCast_self]
  exact shapeCast_ab_1ab_apply v _ 0 x y

theorem ownSlot_run (v : Vec F S64x256 .f32) (k : PG (F := F) PUnit) (Q : PUnit → sProp 𝕄) :
    iprop(own' c (col (args j).p c) fullShare v ∗ anyOf c (slot (args j).rs c)
        ∗ (own' c (col (args j).p c) fullShare v -∗ own' c (slot (args j).rs c) fullShare v -∗ runs c k Q))
      ⊢ runs (F := F) c (ownSlot (args j) c k) Q := by
  obtain ⟨hl, hl', hs, e⟩ := ownSlot_rect (F := F) c (args j) k
  rw [e]
  iintro ⟨Hp, ⟨%X, Hs⟩, Hk⟩
  ihave Hs := (Entails.of_eq (slot_eq (F := F) c (args j).rs c fullShare (fun y => X (ix2 (n0 := 64) (n1 := 256) (y 1) (y 2))))) $$ [Hs]
  · iapply (Entails.of_eq (congrArg (own' c (slot (args j).rs c) fullShare) (funext fun i => congrArg X (eq_ix2 (n0 := 64) (n1 := 256) i)))) $$ Hs
  iapply (load_block (F := F) c (args j).p (colRect c) (fun _ => rfl) fullShare v hl _ Q)
  isplitl [Hp]; · iexact Hp
  iintro Hp
  iapply (load_block (F := F) c (args j).rs (slotRect c) (fun _ => rfl) fullShare _ hl' _ Q)
  isplitl [Hs]; · iexact Hs
  iintro Hs
  iapply (store_block (F := F) c (args j).rs (slotRect c) (fun _ => rfl) (k1_pay1 v) hs _ _ Q)
  isplitl [Hs]; · iexists _; iexact Hs
  iintro Hs
  iapply Hk $$ Hp
  iapply (Entails.of_eq (congrArg (own' c (slot (args j).rs c) fullShare) (pay1_slot v)))
  iapply (Entails.of_eq (slot_eq (F := F) c (args j).rs c fullShare (k1_pay1 v)).symm)
  iexact Hs

theorem reduce_run (Y : Vec F S8x64x256 .f32) (k : PG (F := F) PUnit) (Q : PUnit → sProp 𝕄) :
    iprop(own' c (args j).rs fullShare Y ∗ anyOf c (args j).red
        ∗ (own' c (args j).rs fullShare Y -∗ own' c (args j).red fullShare (k1_pay2 Y) -∗ runs c k Q))
      ⊢ runs (F := F) c (reduceOp (args j) k) Q := by
  unfold reduceOp
  iintro ⟨Hs, ⟨%X, Hr⟩, Hk⟩
  ihave Hs := (Entails.of_eq (own_full (F := F) c (args j).rs ![0, 0, 0] inb_S8x64x256_S8x64x256_0_0_0 fullShare Y).symm) $$ Hs
  ihave Hr := (Entails.of_eq (own_full (F := F) c (args j).red ![0, 0] inb_S64x256_S64x256_0_0 fullShare X).symm) $$ Hr
  iapply (load_block (F := F) c (args j).rs (Rect.unit (s := S8x64x256) ![0, 0, 0] S8x64x256.size inb_S8x64x256_S8x64x256_0_0_0) (fun _ => rfl) fullShare Y _ _ Q)
  isplitl [Hs]; · iexact Hs
  iintro Hs
  iapply (load_block (F := F) c (args j).red (Rect.unit (s := S64x256) ![0, 0] S64x256.size inb_S64x256_S64x256_0_0) (fun _ => rfl) fullShare X _ _ Q)
  isplitl [Hr]; · iexact Hr
  iintro Hr
  iapply (store_block (F := F) c (args j).red (Rect.unit (s := S64x256) ![0, 0] S64x256.size inb_S64x256_S64x256_0_0) (fun _ => rfl) (k1_pay2 Y) _ _ _ Q)
  isplitl [Hr]; · iexists _; iexact Hr
  iintro Hr
  iapply Hk $$ [Hs] [Hr]
  · iapply (Entails.of_eq (own_full (F := F) c (args j).rs ![0, 0, 0] inb_S8x64x256_S8x64x256_0_0_0 fullShare Y))
    iexact Hs
  · iapply (Entails.of_eq (own_full (F := F) c (args j).red ![0, 0] inb_S64x256_S64x256_0_0 fullShare (k1_pay2 Y)))
    iexact Hr

theorem ownCol_run (q : PosShare TreeShare) (v : Vec F S64x256 .f32) (k : PG (F := F) PUnit) (Q : PUnit → sProp 𝕄) :
    iprop(own' c (args j).red q v ∗ anyOf c (col (args j).o c)
        ∗ (own' c (args j).red q v -∗ own' c (col (args j).o c) fullShare v -∗ runs c k Q))
      ⊢ runs (F := F) c (ownCol (args j) c k) Q := by
  obtain ⟨hl, hl', hs, e⟩ := ownCol_rect (F := F) c (args j) k
  rw [e]
  iintro ⟨Hr, ⟨%X, Ho⟩, Hk⟩
  ihave Hr := (Entails.of_eq (own_full (F := F) c (args j).red ![0, 0] inb_S64x256_S64x256_0_0 q v).symm) $$ Hr
  iapply (load_block (F := F) c (args j).red (Rect.unit (s := S64x256) ![0, 0] S64x256.size inb_S64x256_S64x256_0_0) (fun _ => rfl) q v _ _ Q)
  isplitl [Hr]; · iexact Hr
  iintro Hr
  iapply (load_block (F := F) c (args j).o (colRect c) (fun _ => rfl) fullShare X hl' _ Q)
  isplitl [Ho]; · iexact Ho
  iintro Ho
  iapply (store_block (F := F) c (args j).o (colRect c) (fun _ => rfl) v hs _ _ Q)
  isplitl [Ho]; · iexists _; iexact Ho
  iintro Ho
  iapply Hk $$ [Hr] [Ho]
  · iapply (Entails.of_eq (own_full (F := F) c (args j).red ![0, 0] inb_S64x256_S64x256_0_0 q v))
    iexact Hr
  · iexact Ho

end Cert.KernelIdeal.AR
-- ==== Proof.KernelIdeal.ArBody.lean ====
/- The whole body of an all-reduce on device `c`: from the device's array of partial sums, its buffers at any contents and its part of the
   protocol, to the reduced array, everything else given back and every semaphore at zero. -/
module

public import proofs.«01_k».proof.Proof.KernelIdeal.ArRun

@[expose] public section

noncomputable section

namespace Cert.KernelIdeal.AR

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (PV : Fin 3 → Dev nD → Vec F S64x2048 .f32) (K : GSem nD τ sig → ℕ) (j : Fin 3) (c : Dev nD)

theorem meet (X Y : Dev nD → sProp 𝕄) : iprop(others c X ∗ others c Y) ⊢ others c (fun p => iprop(X p ∗ Y p)) :=
  Entails.of_eq (join c X Y).symm
theorem part (X Y : Dev nD → sProp 𝕄) : others c (fun p => iprop(X p ∗ Y p)) ⊢ iprop(others c X ∗ others c Y) :=
  Entails.of_eq (join c X Y)

/-- Positions on the semaphores of array `k`. -/
abbrev places (k : Fin 4) : sProp 𝕄 := bigSep Finset.univ fun p => atPos ER (dmaC j k c p) 0 ∅ 0
/-- The semaphores of array `k` at zero. -/
abbrev zeros (k : Fin 4) : sProp 𝕄 := bigSep Finset.univ fun p => semVal (dmaC j k c p) 0

/-- The rights to credit: each other device's barrier, and for each copy the two semaphores it uses. -/
def toks : sProp 𝕄 :=
  iprop(others c (fun p => dutyTok ER (barC j p) 0 c)
    ∗ (others c (fun p => dutyTok ER (dmaC j 0 c p) 0 0) ∗ others c (fun p => dutyTok ER (dmaC j 1 p c) 0 0))
    ∗ (others c (fun p => dutyTok ER (dmaC j 2 c p) 0 0) ∗ others c (fun p => dutyTok ER (dmaC j 3 p c) 0 0)))
/-- The credits the device waits for. -/
def creds : sProp 𝕄 :=
  iprop(cred (tallyAt (barC j c) () 7) ∗ others c (fun p => cred (tallyAt (dmaC j 1 c p) () N)) ∗ others c (fun p => cred (tallyAt (dmaC j 3 c p) () N)))

def arPre (R : Dues) : sProp 𝕄 :=
  iprop(counting PV K j c ∗ atPos ER (barC j c) 0 ∅ 0 ∗ (places j c 0 ∗ places j c 1 ∗ places j c 2 ∗ places j c 3)
    ∗ toks j c ∗ creds j c ∗ own' c (args j).p fullShare (PV j c) ∗ anyOf c (args j).o ∗ anyOf c (args j).rs ∗ anyOf c (args j).red
    ∗ owing c (dues j c + R))
def arPost (R : Dues) : sProp 𝕄 :=
  iprop(semVal (barC j c) 0 ∗ (zeros j c 0 ∗ zeros j c 1 ∗ zeros j c 2 ∗ zeros j c 3)
    ∗ own' c (args j).p fullShare (PV j c) ∗ own' c (args j).o fullShare (outOf (PV j)) ∗ anyOf c (args j).rs ∗ anyOf c (args j).red
    ∗ owing c R)

/-! ## Closing the cells -/

theorem close_bar : iprop(counting PV K j c ∗ atPos ER (barC j c) 1 ∅ 0) ⊢ (|={Set.univ}=> semVal (barC j c) 0 : sProp 𝕄) := by
  iintro ⟨#HC, Ha⟩
  iapply (Rounds.cell_close ER (Rd PV) (Set.mem_univ (K (barC j c))) id (duties_later PV (barC j c)))
  isplitr; · iapply (counting_inv PV K j c (c, (j, none))); iexact HC
  iexact Ha
theorem close_dma (k : Fin 4) (p : Dev nD) : iprop(counting PV K j c ∗ atPos ER (dmaC j k c p) 1 ∅ 0) ⊢ (|={Set.univ}=> semVal (dmaC j k c p) 0 : sProp 𝕄) := by
  iintro ⟨#HC, Ha⟩
  iapply (Rounds.cell_close ER (Rd PV) (Set.mem_univ (K (dmaC j k c p))) id (duties_later PV (dmaC j k c p)))
  isplitr; · iapply (counting_inv PV K j c (c, (j, some (k, p)))); iexact HC
  iexact Ha
theorem close_own (k : Fin 4) : iprop(counting PV K j c ∗ atPos ER (dmaC j k c c) 0 ∅ 0) ⊢ (|={Set.univ}=> semVal (dmaC j k c c) 0 : sProp 𝕄) := by
  iintro ⟨#HC, Ha⟩
  iapply (Rounds.cell_close ER (Rd PV) (Set.mem_univ (K (dmaC j k c c))) id (duties_own_all PV j c k))
  isplitr; · iapply (counting_inv PV K j c (c, (j, some (k, c)))); iexact HC
  iexact Ha

theorem mono_over {ι : Type} {s : Finset ι} {X Y : ι → sProp 𝕄} (h : ∀ p, X p ⊢ Y p) : bigSep s X ⊢ bigSep s Y :=
  bigSep_mono fun p _ => h p
theorem dup_over {ι : Type} [DecidableEq ι] (C : sProp 𝕄) [BI.Persistent C] (X : ι → sProp 𝕄) (s : Finset ι) :
    iprop(C ∗ bigSep s X) ⊢ bigSep s fun p => iprop(C ∗ X p) := by
  induction s using Finset.induction_on with
  | empty => iintro ⟨-, H⟩; iexact H
  | insert p s hp ih =>
    rw [bigSep_insert hp, bigSep_insert hp]
    show iprop(C ∗ X p ∗ bigSep s X) ⊢ iprop((C ∗ X p) ∗ bigSep s fun p => iprop(C ∗ X p))
    iintro ⟨#HC, Hp, Hs⟩
    isplitl [Hp]
    · isplitr; · iexact HC
      iexact Hp
    · iapply ih
      isplitr; · iexact HC
      iexact Hs

theorem close_all (k : Fin 4) :
    iprop(counting PV K j c ∗ atPos ER (dmaC j k c c) 0 ∅ 0 ∗ others c (fun p => atPos ER (dmaC j k c p) 1 ∅ 0))
      ⊢ (|={Set.univ}=> zeros j c k : sProp 𝕄) := by
  unfold zeros
  rw [bigSep_univ_at (fun p => (semVal (dmaC j k c p) 0 : sProp 𝕄)) c]
  iintro ⟨#HC, Ha, Hs⟩
  imod (close_own PV K j c k) $$ [Ha] with Ha
  · isplitr; · iexact HC
    iexact Ha
  ihave Hs := (Entails.of_eq (others_eq c (fun p => (atPos ER (dmaC j k c p) 1 ∅ 0 : sProp 𝕄))).symm) $$ Hs
  ihave Hs := (dup_over (counting PV K j c) (fun p => (atPos ER (dmaC j k c p) 1 ∅ 0 : sProp 𝕄)) (Finset.univ.erase c)) $$ [Hs]
  · isplitr; · iexact HC
    iexact Hs
  ihave Hs := (mono_over (s := Finset.univ.erase c) fun p => close_dma PV K j c k p) $$ Hs
  imod (bigSep_fupd (Finset.univ.erase c) (fun p => (semVal (dmaC j k c p) 0 : sProp 𝕄))) $$ Hs with Hs
  imodintro
  isplitl [Ha]; · iexact Ha
  iexact Hs

/-! ## The body -/

theorem above_R (R : Dues) (hR : Above (10 * j.val + 3) R) : Above (10 * j.val + 1) (dueL (dueR j c) peers + (dueL (dueG j c) peers + R)) :=
  (Above.dueL (above_dueR j c) _).add (((Above.dueL (above_dueG j c) _).mono (by omega)).add (hR.mono (by omega)))
theorem above_G (R : Dues) (hR : Above (10 * j.val + 3) R) : Above (10 * j.val + 2) (dueL (dueG j c) peers + R) :=
  (Above.dueL (above_dueG j c) _).add (hR.mono (by omega))

theorem done (Q : PUnit → sProp 𝕄) : (|={Set.univ}=> Q PUnit.unit) ⊢ runs (F := F) c (pure PUnit.unit) Q := .rfl

set_option maxHeartbeats 1600000 in
theorem ar_run (R : Dues) (hR : Above (10 * j.val + 3) R) (Q : PUnit → sProp 𝕄) :
    iprop(arPre PV K j c R ∗ (arPost PV j c R -∗ Q ⟨⟩)) ⊢ runs (F := F) c (body (bar j) (args j) c) Q := by
  unfold arPre toks creds body
  iintro ⟨⟨#HC, HaB, ⟨Ha0, Ha1, Ha2, Ha3⟩, ⟨HtB, ⟨Ht0, Ht1⟩, ⟨Ht2, Ht3⟩⟩, ⟨HcB, Hc1, Hc3⟩, Hp, ⟨%Xo, Ho⟩, ⟨%Xs, Hs⟩, Hred, HO⟩, Hk⟩
  -- the buffers in blocks; the own block of each apart
  ihave Hp := (cut_cols c (args j).p fullShare (PV j c)) $$ Hp
  ihave Hp := (Entails.of_eq (split_own c fun p => own' c (col (args j).p p) fullShare (colOf (PV j c) p))) $$ Hp
  icases Hp with ⟨Hpc, Hp⟩
  ihave Ho := (cut_cols c (args j).o fullShare Xo) $$ Ho
  ihave Ho := (mono_over (s := Finset.univ) fun (p : Dev nD) => (show own' c (col (args j).o p) fullShare (colOf Xo p) ⊢ anyOf c (col (args j).o p) from by
    iintro H; iexists _; iexact H)) $$ Ho
  ihave Ho := (Entails.of_eq (split_own c fun p => anyOf c (col (args j).o p))) $$ Ho
  icases Ho with ⟨Hoc, Ho⟩
  ihave Hs := (cut_slots c (args j).rs fullShare Xs) $$ Hs
  ihave Hs := (mono_over (s := Finset.univ) fun (p : Dev nD) => (show own' c (slot (args j).rs p) fullShare (slotOf Xs p) ⊢ anyOf c (slot (args j).rs p) from by
    iintro H; iexists _; iexact H)) $$ Hs
  ihave Hs := (Entails.of_eq (split_own c fun p => anyOf c (slot (args j).rs p))) $$ Hs
  icases Hs with ⟨Hsc, Hs⟩
  ihave Ha0 := (Entails.of_eq (split_own c fun p => (atPos ER (dmaC j 0 c p) 0 ∅ 0 : sProp 𝕄))) $$ Ha0
  icases Ha0 with ⟨Ha0c, Ha0⟩
  ihave Ha1 := (Entails.of_eq (split_own c fun p => (atPos ER (dmaC j 1 c p) 0 ∅ 0 : sProp 𝕄))) $$ Ha1
  icases Ha1 with ⟨Ha1c, Ha1⟩
  ihave Ha2 := (Entails.of_eq (split_own c fun p => (atPos ER (dmaC j 2 c p) 0 ∅ 0 : sProp 𝕄))) $$ Ha2
  icases Ha2 with ⟨Ha2c, Ha2⟩
  ihave Ha3 := (Entails.of_eq (split_own c fun p => (atPos ER (dmaC j 3 c p) 0 ∅ 0 : sProp 𝕄))) $$ Ha3
  icases Ha3 with ⟨Ha3c, Ha3⟩
  -- announce
  iapply (signals PV K j c (dueL (dueR j c) peers + (dueL (dueG j c) peers + R)) _ Q)
  isplitr; · iexact HC
  isplitl [HO]
  · rw [show dues j c + R = dueL (dueB j c) peers + (dueL (dueR j c) peers + (dueL (dueG j c) peers + R)) from by
      unfold dues; rw [add_assoc, add_assoc]]
    iexact HO
  isplitl [Hs Ho HtB]
  · iapply (meet c _ _)
    isplitl [Hs]; · iexact Hs
    iapply (meet c _ _)
    isplitl [Ho]; · iexact Ho
    iexact HtB
  iintro HO
  -- wait for the announcements
  iapply (bar_step PV K j c _ (above_R j c R hR) _ Q)
  isplitr; · iexact HC
  isplitl [HO]; · iexact HO
  isplitl [HcB]; · iexact HcB
  isplitl [HaB]; · iexact HaB
  iintro HO HaB Hpay
  unfold barPay
  ihave Hpay := (part c _ _) $$ Hpay
  icases Hpay with ⟨Hs, Hpay⟩
  ihave Hpay := (part c _ _) $$ Hpay
  icases Hpay with ⟨Ho, Hpay⟩
  ihave Hpay := (part c _ _) $$ Hpay
  icases Hpay with ⟨Hr1, Hr3⟩
  -- the first copies
  iapply (sends1 PV K j c (dueL (dueG j c) peers + R) _ Q)
  isplitr; · iexact HC
  isplitl [HO]; · iexact HO
  isplitl [Hp Hs Hr1 Ht0 Ht1]
  · iapply (meet c _ _)
    isplitl [Hp]; · iexact Hp
    iapply (meet c _ _)
    isplitl [Hs]; · iexact Hs
    iapply (meet c _ _)
    isplitl [Hr1]; · iexact Hr1
    iapply (meet c _ _)
    isplitl [Ht0]; · iexact Ht0
    iexact Ht1
  iintro HO Hc0
  -- the own block
  iapply (ownSlot_run j c (colOf (PV j c) c) _ Q)
  isplitl [Hpc]; · iexact Hpc
  isplitl [Hsc]; · iexact Hsc
  iintro Hpc Hsc
  -- the blocks of the others arrive
  iapply (recvs PV K j c _ (above_G j c R hR) _ Q)
  isplitr; · iexact HC
  isplitl [HO]; · iexact HO
  isplitl [Hc1 Ha1]
  · iapply (meet c _ _)
    isplitl [Hc1]; · iexact Hc1
    iexact Ha1
  iintro HO Hs
  ihave Hs := (part c _ _) $$ Hs
  icases Hs with ⟨Hs, Ha1⟩
  ihave Hs := (Entails.of_eq (split_own c fun p => own' c (slot (args j).rs p) fullShare (slotOf (stack (PV j) c) p)).symm) $$ [Hsc Hs]
  · isplitl [Hsc]; · rw [slotOf_stack]; iexact Hsc
    iapply (others_mono (c := c) (Y := fun p => own' c (slot (args j).rs p) fullShare (slotOf (stack (PV j) c) p)) (fun p _ => by
      rw [slotOf_stack]; exact BI.Entails.refl _)) $$ Hs
  ihave Hs := (join_slots c (args j).rs fullShare (stack (PV j) c)) $$ Hs
  -- their sum
  iapply (reduce_run j c (stack (PV j) c) _ Q)
  isplitl [Hs]; · iexact Hs
  isplitl [Hred]; · iexact Hred
  iintro Hs Hred
  ihave Hred := (Entails.of_eq (show own' c (args j).red fullShare (k1_pay2 (stack (PV j) c)) = _ from red_leaves j c (redOf (PV j) c))) $$ Hred
  ihave Hred := (Entails.of_eq (split_own c fun p => own' c (args j).red (redShare p) (redOf (PV j) c))) $$ Hred
  icases Hred with ⟨Hrc, Hred⟩
  -- the second copies
  iapply (sends2 PV K j c R _ Q)
  isplitr; · iexact HC
  isplitl [HO]; · iexact HO
  isplitl [Hred Ho Hr3 Ht2 Ht3]
  · iapply (meet c _ _)
    isplitl [Hred]; · iexact Hred
    iapply (meet c _ _)
    isplitl [Ho]; · iexact Ho
    iapply (meet c _ _)
    isplitl [Hr3]; · iexact Hr3
    iapply (meet c _ _)
    isplitl [Ht2]; · iexact Ht2
    iexact Ht3
  iintro HO Hc2
  iapply (ownCol_run j c (redShare c) (redOf (PV j) c) _ Q)
  isplitl [Hrc]; · iexact Hrc
  isplitl [Hoc]; · iexact Hoc
  iintro Hrc Hoc
  iapply (agRecvs PV K j c R hR _ Q)
  isplitr; · iexact HC
  isplitl [HO]; · iexact HO
  isplitl [Hc3 Ha3]
  · iapply (meet c _ _)
    isplitl [Hc3]; · iexact Hc3
    iexact Ha3
  iintro HO Ho
  ihave Ho := (part c _ _) $$ Ho
  icases Ho with ⟨Ho, Ha3⟩
  -- the copies have left
  iapply (finals PV K j c R (hR.mono (Nat.zero_le _)) _ Q)
  isplitr; · iexact HC
  isplitl [HO]; · iexact HO
  isplitl [Hc0 Ha0 Hc2 Ha2]
  · iapply (meet c _ _)
    isplitl [Hc0 Ha0]
    · iapply (meet c _ _)
      isplitl [Hc0]; · iexact Hc0
      iexact Ha0
    · iapply (meet c _ _)
      isplitl [Hc2]; · iexact Hc2
      iexact Ha2
  iintro HO H
  ihave H := (part c _ _) $$ H
  icases H with ⟨Hp, Hred⟩
  ihave Hp := (part c _ _) $$ Hp
  icases Hp with ⟨Hp, Ha0⟩
  ihave Hred := (part c _ _) $$ Hred
  icases Hred with ⟨Hred, Ha2⟩
  -- the end: every cell closed, the buffers whole again
  iapply (done c Q)
  imod (close_bar PV K j c) $$ [HaB] with HzB
  · isplitr; · iexact HC
    iexact HaB
  imod (close_all PV K j c 0) $$ [Ha0c Ha0] with Hz0
  · isplitr; · iexact HC
    isplitl [Ha0c]; · iexact Ha0c
    iexact Ha0
  imod (close_all PV K j c 1) $$ [Ha1c Ha1] with Hz1
  · isplitr; · iexact HC
    isplitl [Ha1c]; · iexact Ha1c
    iexact Ha1
  imod (close_all PV K j c 2) $$ [Ha2c Ha2] with Hz2
  · isplitr; · iexact HC
    isplitl [Ha2c]; · iexact Ha2c
    iexact Ha2
  imod (close_all PV K j c 3) $$ [Ha3c Ha3] with Hz3
  · isplitr; · iexact HC
    isplitl [Ha3c]; · iexact Ha3c
    iexact Ha3
  imodintro
  iapply Hk
  unfold arPost
  isplitl [HzB]; · iexact HzB
  isplitl [Hz0 Hz1 Hz2 Hz3]
  · isplitl [Hz0]; · iexact Hz0
    isplitl [Hz1]; · iexact Hz1
    isplitl [Hz2]; · iexact Hz2
    iexact Hz3
  isplitl [Hpc Hp]
  · iapply (join_cols c (args j).p fullShare (PV j c))
    iapply (Entails.of_eq (split_own c fun p => own' c (col (args j).p p) fullShare (colOf (PV j c) p)).symm)
    isplitl [Hpc]; · iexact Hpc
    iexact Hp
  isplitl [Hoc Ho]
  · iapply (join_cols c (args j).o fullShare (outOf (PV j)))
    iapply (Entails.of_eq (split_own c fun p => own' c (col (args j).o p) fullShare (colOf (outOf (PV j)) p)).symm)
    isplitl [Hoc]; · rw [colOf_outOf]; iexact Hoc
    iapply (others_mono (c := c) (Y := fun p => own' c (col (args j).o p) fullShare (colOf (outOf (PV j)) p)) (fun p _ => by
      rw [colOf_outOf]; exact BI.Entails.refl _)) $$ Ho
  isplitl [Hs]; · iexists _; iexact Hs
  isplitl [Hrc Hred]
  · iexists redOf (PV j) c
    iapply (Entails.of_eq (red_leaves j c (redOf (PV j) c)).symm)
    iapply (Entails.of_eq (split_own c fun p => own' c (args j).red (redShare p) (redOf (PV j) c)).symm)
    isplitl [Hrc]; · iexact Hrc
    iexact Hred
  iexact HO

end Cert.KernelIdeal.AR
-- ==== Proof.KernelIdeal.Layer.lean ====
/- The layer call, written once for its three sites: the run of its body at a grid point, what its result's buffer holds
   point by point, its proof data and its body obligation. The core may owe anything throughout: the body does not
   communicate. -/
module

public import proofs.«01_k».proof.Proof.KernelIdeal.Mem
public import proofs.«01_k».proof.Proof.Gen.KernelIdeal.Launch
public import proofs.«01_k».proof.Proof.Gen.KernelIdeal.Points
public import Idealize.ShloMosaic.Lib.Pipeline.Frame
public import Idealize.ShloMosaic.Lib.Pipeline.FrameBody
public import Idealize.ShloMosaic.Lib.Pipeline.ValueKit.Geometry
public import Idealize.ShloMosaic.Lib.WordCmp

@[expose] public section

noncomputable section

namespace Cert.KernelIdeal.AR

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation)

variable {F : FTy → Type} [FloatOps F]

local notation "𝕄" => MT nD τ sig Unit (Elt F) ℕ UU ℕ

/-! ## The body at a point -/

theorem first_iff : ∀ t : Fin grid0.N, k0_cond1 (grid0.coords t) = 1#1 ↔ t.val = 0 := by decide +kernel
theorem later_iff : ∀ t : Fin grid0.N, k0_cond2 (grid0.coords t) = 1#1 ↔ t.val ≠ 0 := by decide +kernel

/-- A load of a whole buffer. -/
theorem load_whole (c : Dev nD) {sh : Shape} (m : Memref sig .tc .vmem sh .f32) (off : Fin sh.rank → ℕ)
    (inb : ∀ a, off a + sh.size a ≤ sh.size a) (X : Vec F sh .f32) (hl : m.view.LoadsAt (Rect.unit off sh.size inb).toLoadRect)
    (k : Vec F sh .f32 → PG (F := F) PUnit) (Q : PUnit → sProp 𝕄) :
    iprop(own' c m fullShare X ∗ (own' c m fullShare X -∗ runs c (k X) Q))
      ⊢ runs (F := F) c (Prog.lift (.load m (Rect.unit off sh.size inb).toLoadRect hl) >>= k) Q := by
  rw [← own_full c m off inb fullShare X]
  exact load_block c m (Rect.unit off sh.size inb) (fun _ => rfl) fullShare X hl k Q

/-- A store over a whole buffer. -/
theorem store_whole (c : Dev nD) {sh : Shape} (m : Memref sig .tc .vmem sh .f32) (off : Fin sh.rank → ℕ)
    (inb : ∀ a, off a + sh.size a ≤ sh.size a) (X w : Vec F sh .f32) (hx : (m.access (Rect.unit off sh.size inb)).Stores Finset.univ)
    (hm : Finset.univ = Finset.univ ∨ ∀ a, (Rect.unit off sh.size inb).stride a = 1)
    (k : PUnit → PG (F := F) PUnit) (Q : PUnit → sProp 𝕄) :
    iprop(own' c m fullShare X ∗ (own' c m fullShare w -∗ runs c (k ⟨⟩) Q))
      ⊢ runs (F := F) c (Prog.lift (.store m (Rect.unit off sh.size inb) w Finset.univ hx hm) >>= k) Q := by
  rw [← own_full c m off inb fullShare X, ← own_full c m off inb fullShare w]
  refine BIBase.Entails.trans ?_ (store_block c m (Rect.unit off sh.size inb) (fun _ => rfl) w hx hm k Q)
  iintro ⟨H, Hk⟩
  isplitl [H]; · iexists X; iexact H
  iexact Hk

/-- A run that is over. -/
theorem runs_ret (c : Dev nD) (Q : PUnit → sProp 𝕄) : Q ⟨⟩ ⊢ runs (F := F) c (pure ⟨⟩) Q := by
  show _ ⊢ wp frame _ _ (Prog.ret ⟨⟩) Q
  rw [wp_ret]
  iintro H
  imodintro; iexact H

/-- The partial product that a point contributes, at the first point. -/
theorem layer_first (c : Dev nD) (i : grid0.Coords) (h1 : k0_cond1 i = 1#1) (h2 : ¬k0_cond2 i = 1#1)
    (a1 : Memref sig .tc .vmem S64x2048 .f32) (ha1 : a1.IsWhole) (a2 : Memref sig .tc .vmem S2048x512 .f32) (ha2 : a2.IsWhole)
    (a3 : Memref sig .tc .vmem S512x2048 .f32) (ha3 : a3.IsWhole) (a4 : Memref sig .tc .vmem S64x2048 .f32) (ha4 : a4.IsWhole)
    (x : Vec F S64x2048 .f32) (w : Vec F S2048x512 .f32) (v : Vec F S512x2048 .f32) (o : Vec F S64x2048 .f32) (Q : PUnit → sProp 𝕄) :
    iprop(own' c a1 fullShare x ∗ own' c a2 fullShare w ∗ own' c a3 fullShare v ∗ own' c a4 fullShare o
        ∗ (iprop(own' c a1 fullShare x ∗ own' c a2 fullShare w ∗ own' c a3 fullShare v ∗ own' c a4 fullShare (k0_pay1 x w v)) -∗ Q ⟨⟩))
      ⊢ runs (F := F) c (cc0__layer_body i a1 ha1 a2 ha2 a3 ha3 a4 ha4) Q := by
  rw [cc0__layer_body_eq_skeleton]; unfold cc0__layer_body_skel
  simp only [dif_pos h1, dif_neg h2]
  iintro ⟨H1, H2, H3, H4, Hk⟩
  iapply (load_whole c a1); isplitl [H1]; · iexact H1
  iintro H1
  iapply (load_whole c a2); isplitl [H2]; · iexact H2
  iintro H2
  iapply (load_whole c a3); isplitl [H3]; · iexact H3
  iintro H3
  iapply (load_whole c a4); isplitl [H4]; · iexact H4
  iintro H4
  iapply (store_whole c a4); isplitl [H4]; · iexact H4
  iintro H4
  iapply (runs_ret c)
  iapply Hk
  isplitl [H1]; · iexact H1
  isplitl [H2]; · iexact H2
  isplitl [H3]; · iexact H3
  iexact H4

/-- The same at a later point: added to what the buffer holds. -/
theorem layer_later (c : Dev nD) (i : grid0.Coords) (h1 : ¬k0_cond1 i = 1#1) (h2 : k0_cond2 i = 1#1)
    (a1 : Memref sig .tc .vmem S64x2048 .f32) (ha1 : a1.IsWhole) (a2 : Memref sig .tc .vmem S2048x512 .f32) (ha2 : a2.IsWhole)
    (a3 : Memref sig .tc .vmem S512x2048 .f32) (ha3 : a3.IsWhole) (a4 : Memref sig .tc .vmem S64x2048 .f32) (ha4 : a4.IsWhole)
    (x : Vec F S64x2048 .f32) (w : Vec F S2048x512 .f32) (v : Vec F S512x2048 .f32) (o : Vec F S64x2048 .f32) (Q : PUnit → sProp 𝕄) :
    iprop(own' c a1 fullShare x ∗ own' c a2 fullShare w ∗ own' c a3 fullShare v ∗ own' c a4 fullShare o
        ∗ (iprop(own' c a1 fullShare x ∗ own' c a2 fullShare w ∗ own' c a3 fullShare v ∗ own' c a4 fullShare (k0_pay2 x w v o)) -∗ Q ⟨⟩))
      ⊢ runs (F := F) c (cc0__layer_body i a1 ha1 a2 ha2 a3 ha3 a4 ha4) Q := by
  rw [cc0__layer_body_eq_skeleton]; unfold cc0__layer_body_skel
  simp only [dif_neg h1, dif_pos h2]
  iintro ⟨H1, H2, H3, H4, Hk⟩
  iapply (load_whole c a1); isplitl [H1]; · iexact H1
  iintro H1
  iapply (load_whole c a2); isplitl [H2]; · iexact H2
  iintro H2
  iapply (load_whole c a3); isplitl [H3]; · iexact H3
  iintro H3
  iapply (load_whole c a4); isplitl [H4]; · iexact H4
  iintro H4
  iapply (load_whole c a4); isplitl [H4]; · iexact H4
  iintro H4
  iapply (store_whole c a4); isplitl [H4]; · iexact H4
  iintro H4
  iapply (runs_ret c)
  iapply Hk
  isplitl [H1]; · iexact H1
  isplitl [H2]; · iexact H2
  isplitl [H3]; · iexact H3
  iexact H4

/-! ## A site of the layer call -/

/-- The arrays of a site, its staging buffers and their semaphores. -/
structure Arrays where
  x : Memref sig .tc .hbm S64x2048 .f32
  w : Memref sig .tc .hbm S2048x4096 .f32
  v : Memref sig .tc .hbm S4096x2048 .f32
  o : Memref sig .tc .hbm S64x2048 .f32
  hx : x.IsWhole
  hw : w.IsWhole
  hv : v.IsWhole
  ho : o.IsWhole
  sx : Fin 1 → Memref sig .tc .vmem S64x2048 .f32
  sw : Fin 2 → Memref sig .tc .vmem S2048x512 .f32
  sv : Fin 2 → Memref sig .tc .vmem S512x2048 .f32
  so : Fin 1 → Memref sig .tc .vmem S64x2048 .f32
  hsx : ∀ j, (sx j).IsWhole
  hsw : ∀ j, (sw j).IsWhole
  hsv : ∀ j, (sv j).IsWhole
  hso : ∀ j, (so j).IsWhole
  dx : Fin 1 → DmaSem sig
  dw : Fin 2 → DmaSem sig
  dv : Fin 2 → DmaSem sig
  d_o : Fin 1 → DmaSem sig

/-- Its windows. -/
abbrev Arrays.win (a : Arrays) : Fin 4 → Window sig grid0 := fun
  | 0 => Window.ofSpec a.x S64x2048.size cc0_transform_0 reads0_0 false true 1 a.sx a.dx hrank0 hreads0_0 hinb0_0 nbuf0_0 a.hx hwx0_0 a.hsx
  | 1 => Window.ofSpec a.w S2048x512.size cc0_transform_1 reads0_1 false false 2 a.sw a.dw hrank0 hreads0_1 hinb0_1 nbuf0_1 a.hw hwx0_1 a.hsw
  | 2 => Window.ofSpec a.v S512x2048.size cc0_transform_2 reads0_2 false false 2 a.sv a.dv hrank0 hreads0_2 hinb0_2 nbuf0_2 a.hv hwx0_2 a.hsv
  | 3 => Window.ofSpec a.o S64x2048.size cc0_transform_3 reads0_3 true true 1 a.so a.d_o hrank0 hreads0_3 hinb0_3 nbuf0_3 a.ho hwx0_3 a.hso
  | ⟨_ + 4, h⟩ => absurd h (Nat.not_lt.2 (Nat.le_add_left _ _))

/-- A site: the arrays, and the label under which the pipeline calls the body there. -/
structure Site where
  a : Arrays
  body : Λ₀.Label
  args : Fin grid0.N → ((w : Fin 4) → Fin (a.win w).nbuf) → Λ₀.Args body

abbrev Site.cfg (s : Site) : Cfg sig Λ₀ where
  grid := grid0
  W := 4
  win := s.a.win
  body := s.body
  bodyArgs := s.args
  idle := idle0

abbrev site0 : Site where
  a := ⟨Memref.whole main_arg0, Memref.whole main_arg1, Memref.whole main_arg4, Memref.whole main_v1,
    Memref.isWhole_whole _, Memref.isWhole_whole _, Memref.isWhole_whole _, Memref.isWhole_whole _,
    stage0_0, stage0_1, stage0_2, stage0_3, hstage0_0, hstage0_1, hstage0_2, hstage0_3, sem0_0, sem0_1, sem0_2, sem0_3⟩
  body := 0
  args t s := (t, s)
abbrev site1 : Site where
  a := ⟨Memref.whole main_v2, Memref.whole main_arg2, Memref.whole main_arg5, Memref.whole main_v3,
    Memref.isWhole_whole _, Memref.isWhole_whole _, Memref.isWhole_whole _, Memref.isWhole_whole _,
    stage2_0, stage2_1, stage2_2, stage2_3, hstage2_0, hstage2_1, hstage2_2, hstage2_3, sem2_0, sem2_1, sem2_2, sem2_3⟩
  body := 2
  args t s := (t, s)
abbrev site2 : Site where
  a := ⟨Memref.whole main_v4, Memref.whole main_arg3, Memref.whole main_arg6, Memref.whole main_v5,
    Memref.isWhole_whole _, Memref.isWhole_whole _, Memref.isWhole_whole _, Memref.isWhole_whole _,
    stage4_0, stage4_1, stage4_2, stage4_3, hstage4_0, hstage4_1, hstage4_2, hstage4_3, sem4_0, sem4_1, sem4_2, sem4_3⟩
  body := 4
  args t s := (t, s)

theorem site0_cfg : site0.cfg = cfg0 := rfl
theorem site1_cfg : site1.cfg = cfg2 := rfl
theorem site2_cfg : site2.cfg = cfg4 := rfl

/-! ## The proof data of a site -/

theorem live3 : ∀ i : grid0.Coords, idle0 3 i = false := by decide +kernel

/-- What the arrays of a site hold. -/
abbrev Site.Held (F : FTy → Type) (s : Site) (c : Dev nD) := (w : Fin 4) → Buf (Elt F) ((s.a.win w).arr.view.loc (c.tc : Thread nD τ))

/-- The block of an input at a point. -/
abbrev Site.blk (s : Site) (c : Dev nD) (A : s.Held F c) (w : Fin 4) (t : Fin grid0.N) : ((s.a.win w).xblock (grid0.coords t)).Idx → Elt F (s.a.win w).elt :=
  ((s.a.win w).blk t).view.read (Elt F) (A w)

/-- What the result's buffer holds after a point. -/
def Site.acc (s : Site) (c : Dev nD) (A : s.Held F c) : (n : ℕ) → n < grid0.N → Vec F S64x2048 .f32
  | 0, h => k0_pay1 (s.blk c A 0 ⟨0, h⟩) (s.blk c A 1 ⟨0, h⟩) (s.blk c A 2 ⟨0, h⟩)
  | n + 1, h => k0_pay2 (s.blk c A 0 ⟨n + 1, h⟩) (s.blk c A 1 ⟨n + 1, h⟩) (s.blk c A 2 ⟨n + 1, h⟩)
      (Site.acc s c A n (Nat.lt_of_succ_lt h))

section Data

variable (s : Site) (c : Dev nD) (A : s.Held F c)

variable (D : CellTallies nD τ sig Unit)

/-- The proof data: the core owes `D` throughout and carries the buffers the call does not touch. -/
def Site.dat : Dat τ (Elt F) Unit ℕ UU ℕ s.cfg c where
  A w := A w
  after w t := match w with
    | ⟨0, _⟩ => s.blk c A 0 t
    | ⟨1, _⟩ => s.blk c A 1 t
    | ⟨2, _⟩ => s.blk c A 2 t
    | ⟨3, _⟩ => s.acc c A t.val t.isLt
  Φ _ := Pipeline.scopedRest s.cfg.spec c
  q _ := fullShare
  owed _ := D

theorem Site.before0 (t : Fin grid0.N) (d) : (s.dat c A D).before (0 : Fin 4) t d = s.blk c A 0 t :=
  ((s.dat c A D).before_in_eq_fetched (0 : Fin 4) rfl (fun _ => rfl) (fun _ _ _ => rfl)
    (fun t => by unfold Dat.blockOf; dsimp only [Site.dat]) t d).trans (by unfold Dat.fetched Dat.blockOf; dsimp only [Site.dat]; rfl)
theorem Site.before1 (t : Fin grid0.N) (d) : (s.dat c A D).before (1 : Fin 4) t d = s.blk c A 1 t :=
  ((s.dat c A D).before_in_eq_fetched (1 : Fin 4) rfl (fun _ => rfl) (fun _ _ _ => rfl)
    (fun t => by unfold Dat.blockOf; dsimp only [Site.dat]) t d).trans (by unfold Dat.fetched Dat.blockOf; dsimp only [Site.dat]; rfl)
theorem Site.before2 (t : Fin grid0.N) (d) : (s.dat c A D).before (2 : Fin 4) t d = s.blk c A 2 t :=
  ((s.dat c A D).before_in_eq_fetched (2 : Fin 4) rfl (fun _ => rfl) (fun _ _ _ => rfl)
    (fun t => by unfold Dat.blockOf; dsimp only [Site.dat]) t d).trans (by unfold Dat.fetched Dat.blockOf; dsimp only [Site.dat]; rfl)

theorem Site.flush3 (t : Fin grid0.N) : (s.a.win 3).flush t = true ↔ t.val % 8 = 7 :=
  Pipeline.Window.flush_const (s.a.win 3) rfl (fun _ _ => rfl) (n := 8) (by decide) rfl t

/-- At a later point the result's buffer holds what the point before left. -/
theorem Site.before3 (t : Fin grid0.N) (ht : t.val ≠ 0) (d) :
    (s.dat c A D).before (3 : Fin 4) t d = s.acc c A (t.val - 1) (Nat.lt_of_le_of_lt (Nat.sub_le _ _) t.isLt) := by
  refine ((s.dat c A D).before_out_kept (3 : Fin 4) rfl t ht ?_ live3 (fun _ _ => rfl) d).trans ?_
  swap; · dsimp only [Site.dat]
  have h8 : t.val < 8 := t.isLt
  rw [Bool.eq_false_iff]
  intro h
  have := (s.flush3 _).mp h
  dsimp only at this
  omega

theorem Site.acc_first (t : Fin grid0.N) (ht : t.val = 0) :
    s.acc c A t.val t.isLt = k0_pay1 (s.blk c A 0 t) (s.blk c A 1 t) (s.blk c A 2 t) := by
  obtain ⟨n, hn⟩ := t
  cases n with
  | zero => rfl
  | succ n => exact absurd ht (Nat.succ_ne_zero n)

theorem Site.acc_later (t : Fin grid0.N) (ht : t.val ≠ 0) :
    s.acc c A t.val t.isLt = k0_pay2 (s.blk c A 0 t) (s.blk c A 1 t) (s.blk c A 2 t)
      (s.acc c A (t.val - 1) (Nat.lt_of_le_of_lt (Nat.sub_le _ _) t.isLt)) := by
  obtain ⟨n, hn⟩ := t
  cases n with
  | zero => exact absurd rfl ht
  | succ n => rfl

/-- The row of the body table at a site. -/
def Site.Row : Prop := ∀ t : Fin grid0.N, defs₀ (F := F) .tc s.body (s.args t (s.cfg.slots t))
  = cc0__layer_body (grid0.coords t) ((s.cfg.win (0 : Fin 4)).stage (s.cfg.slots t 0)) (s.a.hsx _) ((s.cfg.win (1 : Fin 4)).stage (s.cfg.slots t 1)) (s.a.hsw _)
      ((s.cfg.win (2 : Fin 4)).stage (s.cfg.slots t 2)) (s.a.hsv _) ((s.cfg.win (3 : Fin 4)).stage (s.cfg.slots t 3)) (s.a.hso _)

theorem Site.leaves (w : Fin 4) (t : Fin grid0.N) (h : s.cfg.idle w (grid0.coords t) = false) :
    (s.dat c A D).leavesExact w t
      = owns (c : Thread nD τ) ((s.cfg.win w).stage (s.cfg.slots t w)) fullShare ((s.dat c A D).after w t) := by
  unfold Dat.leavesExact; rw [h]

/-- The body at a point, from what the pipeline calls it with to what the pipeline takes back. -/
theorem Site.sound (t : Fin grid0.N) :
    iprop((s.dat c A D).Φ t.castSucc ∗ (s.dat c A D).owesAt () t.castSucc
        ∗ (∃ d, owns (c : Thread nD τ) ((s.cfg.win (0 : Fin 4)).stage (s.cfg.slots t 0)) fullShare ((s.dat c A D).before (0 : Fin 4) t d))
        ∗ (∃ d, owns (c : Thread nD τ) ((s.cfg.win (1 : Fin 4)).stage (s.cfg.slots t 1)) fullShare ((s.dat c A D).before (1 : Fin 4) t d))
        ∗ (∃ d, owns (c : Thread nD τ) ((s.cfg.win (2 : Fin 4)).stage (s.cfg.slots t 2)) fullShare ((s.dat c A D).before (2 : Fin 4) t d))
        ∗ (∃ d, owns (c : Thread nD τ) ((s.cfg.win (3 : Fin 4)).stage (s.cfg.slots t 3)) fullShare ((s.dat c A D).before (3 : Fin 4) t d)))
      ⊢ wp frame (wpE (defs₀ (F := F)) 𝒱₀ (c : Thread nD τ) none) Set.univ
          (cc0__layer_body (grid0.coords t) ((s.cfg.win (0 : Fin 4)).stage (s.cfg.slots t 0)) (s.a.hsx _) ((s.cfg.win (1 : Fin 4)).stage (s.cfg.slots t 1)) (s.a.hsw _)
            ((s.cfg.win (2 : Fin 4)).stage (s.cfg.slots t 2)) (s.a.hsv _) ((s.cfg.win (3 : Fin 4)).stage (s.cfg.slots t 3)) (s.a.hso _))
          (fun _ => iprop((s.dat c A D).Φ t.succ ∗ (s.dat c A D).owesAt () t.succ
            ∗ (s.dat c A D).leavesExact (0 : Fin 4) t ∗ (s.dat c A D).leavesExact (1 : Fin 4) t ∗ (s.dat c A D).leavesExact (2 : Fin 4) t
            ∗ (s.dat c A D).leavesExact (3 : Fin 4) t)) := by
  rw [s.leaves c A D (0 : Fin 4) t rfl, s.leaves c A D (1 : Fin 4) t rfl, s.leaves c A D (2 : Fin 4) t rfl, s.leaves c A D (3 : Fin 4) t (live3 _)]
  rw [show (s.dat c A D).Φ t.succ = (s.dat c A D).Φ t.castSucc from rfl,
    show (s.dat c A D).owesAt () t.succ = (s.dat c A D).owesAt () t.castSucc from rfl,
    show (s.dat c A D).after (0 : Fin 4) t = s.blk c A 0 t from by dsimp only [Site.dat],
    show (s.dat c A D).after (1 : Fin 4) t = s.blk c A 1 t from by dsimp only [Site.dat],
    show (s.dat c A D).after (2 : Fin 4) t = s.blk c A 2 t from by dsimp only [Site.dat],
    show (s.dat c A D).after (3 : Fin 4) t = s.acc c A t.val t.isLt from by dsimp only [Site.dat]]
  simp only [s.before0 c A D, s.before1 c A D, s.before2 c A D]
  by_cases ht : t.val = 0
  · rw [s.acc_first c A t ht]
    iintro ⟨HΦ, Ho, ⟨%d0, H0⟩, ⟨%d1, H1⟩, ⟨%d2, H2⟩, ⟨%d3, H3⟩⟩
    iapply (layer_first c (grid0.coords t) ((first_iff t).mpr ht) (fun h => (later_iff t).mp h ht))
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3
  · rw [s.acc_later c A t ht]
    simp only [s.before3 c A D t ht]
    iintro ⟨HΦ, Ho, ⟨%d0, H0⟩, ⟨%d1, H1⟩, ⟨%d2, H2⟩, ⟨%d3, H3⟩⟩
    iapply (layer_later c (grid0.coords t) (fun h => ht ((first_iff t).mp h)) ((later_iff t).mpr ht))
    isplitl [H0]; · iexact H0
    isplitl [H1]; · iexact H1
    isplitl [H2]; · iexact H2
    isplitl [H3]; · iexact H3
    iintro ⟨H0, H1, H2, H3⟩
    isplitl [HΦ]; · iexact HΦ
    isplitl [Ho]; · iexact Ho
    isplitl [H0]; · iexact H0
    isplitl [H1]; · iexact H1
    isplitl [H2]; · iexact H2
    iexact H3

theorem Site.body_obligation (hrow : s.Row (F := F)) :
    BodyObligation (s.dat c A D) (defs₀ (F := F)) 𝒱₀ () Set.univ := fun t => by
  rw [bigSep_W0, bigSep_W0, hrow]
  exact triple_restated (s.sound c A D t) rfl .rfl fun _ => .rfl

theorem Site.whole3 : (s.a.win 3).WholeAt (⟨7, by decide⟩ : Fin grid0.N) := by
  have h : ((cfg0.win 3).WholeAt (⟨7, by decide⟩ : Fin grid0.N)) := by decide +kernel
  exact h

/-- The result's array after the call. -/
theorem Site.result : s.a.o.view.read (Elt F) ((s.dat c A D).arrAt (3 : Fin 4) s.cfg.N) = s.acc c A 7 (by decide) := by
  funext j
  refine (View.read_apply _ _).trans ?_
  refine (congrArg (_root_.cast _) ((s.dat c A D).arrAt_emb_eq_after_last (3 : Fin 4) (⟨7, by decide⟩ : Fin grid0.N) s.whole3 j)).trans ?_
  rw [cast_cast]
  rfl

end Data

theorem site0_row : site0.Row (F := F) := fun t => by unfold defs₀; rw [Defs.onTc_tc]
theorem site1_row : site1.Row (F := F) := fun t => by unfold defs₀; rw [Defs.onTc_tc]; rfl
theorem site2_row : site2.Row (F := F) := fun t => by unfold defs₀; rw [Defs.onTc_tc]; rfl

end Cert.KernelIdeal.AR

end
-- ==== Proof.KernelIdeal.Talk.lean ====
/- An all-reduce call among the program's calls: its windows (the device's partial sums, the reduced array), what the device
   carries through its one grid point, and the body's obligation there. -/
module

public import proofs.«01_k».proof.Proof.KernelIdeal.ArBody
public import proofs.«01_k».proof.Proof.KernelIdeal.Layer

@[expose] public section

noncomputable section

namespace Cert.KernelIdeal.AR

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation)

variable {F : FTy → Type} [FloatOps F]

local notation "𝕄" => MT nD τ sig Unit (Elt F) ℕ UU ℕ

/-! ## The three calls -/

/-- The arrays of an all-reduce call and the semaphores that its staging copies complete on. -/
structure Ends where
  pa : Memref sig .tc .hbm S64x2048 .f32
  oa : Memref sig .tc .hbm S64x2048 .f32
  hpa : pa.IsWhole
  hoa : oa.IsWhole
  dp : DmaSem sig
  d_o : DmaSem sig

/-- Its windows. -/
abbrev Ends.win (e : Ends) (j : Fin 3) : Fin 2 → Window sig Pipeline.Grid.none := fun
  | 0 => Window.whole e.pa false false (args j).p e.dp e.hpa (args j).hp
  | 1 => Window.whole e.oa true false (args j).o e.d_o e.hoa (args j).ho
  | ⟨_ + 2, h⟩ => absurd h (Nat.not_lt.2 (Nat.le_add_left _ _))

/-- An all-reduce call: which of the three, its arrays, and the label of its body. -/
structure Talk where
  j : Fin 3
  e : Ends
  lbl : Λ₀.Label
  row : Fin Pipeline.Grid.none.N → ((w : Fin 2) → Fin (e.win j w).nbuf) → Λ₀.Args lbl

abbrev Talk.cfg (s : Talk) : Cfg sig Λ₀ where
  grid := Pipeline.Grid.none
  W := 2
  win := s.e.win s.j
  body := s.lbl
  bodyArgs := s.row

abbrev talk0 : Talk where
  j := 0
  e := ⟨Memref.whole main_v1, Memref.whole main_v2, Memref.isWhole_whole _, Memref.isWhole_whole _, sem1_0 0, sem1_1 0⟩
  lbl := 1
  row t s := (t, s)
abbrev talk1 : Talk where
  j := 1
  e := ⟨Memref.whole main_v3, Memref.whole main_v4, Memref.isWhole_whole _, Memref.isWhole_whole _, sem3_0 0, sem3_1 0⟩
  lbl := 3
  row t s := (t, s)
abbrev talk2 : Talk where
  j := 2
  e := ⟨Memref.whole main_v5, Memref.whole main_v6, Memref.isWhole_whole _, Memref.isWhole_whole _, sem5_0 0, sem5_1 0⟩
  lbl := 5
  row t s := (t, s)

theorem talk0_cfg : talk0.cfg = cfg1 := rfl
theorem talk1_cfg : talk1.cfg = cfg3 := rfl
theorem talk2_cfg : talk2.cfg = cfg5 := rfl

/-- The row of the body table at a call: the device asks its name and runs the all-reduce. -/
def Talk.Row (s : Talk) : Prop := ∀ t : Fin Pipeline.Grid.none.N, defs₀ (F := F) .tc s.lbl (s.row t (s.cfg.slots t))
  = (Prog.lift .deviceId >>= fun d => body (bar s.j) (args s.j) d)

theorem talk0_row : talk0.Row (F := F) := fun t => by
  refine Eq.trans ?_ (body1_eq (args 0))
  unfold defs₀; rw [Defs.onTc_tc]; rfl
theorem talk1_row : talk1.Row (F := F) := fun t => by
  refine Eq.trans ?_ (body3_eq (args 1))
  unfold defs₀; rw [Defs.onTc_tc]; rfl
theorem talk2_row : talk2.Row (F := F) := fun t => by
  refine Eq.trans ?_ (body5_eq (args 2))
  unfold defs₀; rw [Defs.onTc_tc]; rfl

/-- The call's two scratch buffers among the buffers it may use. -/
def Talk.Scratch (s : Talk) : Prop := ∃ X : Dev nD → sProp 𝕄, ∀ c : Dev nD,
  (Pipeline.scopedRest s.cfg.spec c : sProp 𝕄) = iprop((anyOf c (args s.j).rs ∗ anyOf c (args s.j).red) ∗ X c)

theorem anyOf_whole (c : Dev nD) (b : Ref sig .tc) :
    (iprop(∃ f : Buf (Elt F) ((c : Thread nD τ).loc b), ((c : Thread nD τ).loc b) ↦{fullShare} f) : sProp 𝕄)
      = iprop(∃ X : b.ty.Contents (Elt F), owns (c : Thread nD τ) (Memref.whole b) fullShare X) := by
  congr 1; funext f; exact (owns_whole (c : Thread nD τ) b fullShare f).symm

theorem talk0_scratch : talk0.Scratch (F := F) := ⟨fun c => Pipeline.scopedRestBut spec1 c [cc1_scratch0, cc1_scratch1], fun c => by
  refine (scopedRest1_split c).trans ?_
  rw [anyOf_whole, anyOf_whole]; rfl⟩
theorem talk1_scratch : talk1.Scratch (F := F) := ⟨fun c => Pipeline.scopedRestBut spec3 c [cc3_scratch0, cc3_scratch1], fun c => by
  refine (scopedRest3_split c).trans ?_
  rw [anyOf_whole, anyOf_whole]; rfl⟩
theorem talk2_scratch : talk2.Scratch (F := F) := ⟨fun c => Pipeline.scopedRestBut spec5 c [cc5_scratch0, cc5_scratch1], fun c => by
  refine (scopedRest5_split c).trans ?_
  rw [anyOf_whole, anyOf_whole]; rfl⟩

/-! ## What a device carries -/

/-- The semaphores that call `j` allocates, by array and peer. -/
abbrev osem (j : Fin 3) (x : Fin 4 × Dev nD) : SemLoc sig := .dma (semAt (arr j x.1) x.2)

/-- A device's part of the protocol of call `j` before the call. -/
def seed (PV : Fin 3 → Dev nD → Vec F S64x2048 .f32) (j : Fin 3) (c : Dev nD) : sProp 𝕄 :=
  iprop(∃ K, world PV K ∗ atPos ER (barC j c) 0 ∅ 0
    ∗ (bigSep Finset.univ fun x : Fin 4 × Dev nD => openTok ER (dmaC j x.1 c x.2)) ∗ toks j c ∗ creds j c)
/-- The same when the call has its semaphores. -/
def ready (PV : Fin 3 → Dev nD → Vec F S64x2048 .f32) (j : Fin 3) (c : Dev nD) : sProp 𝕄 :=
  iprop(∃ K, counting PV K j c ∗ atPos ER (barC j c) 0 ∅ 0
    ∗ (places j c 0 ∗ places j c 1 ∗ places j c 2 ∗ places j c 3) ∗ toks j c ∗ creds j c)

theorem bigSep_four (Ψ : Fin 4 → sProp 𝕄) : bigSep Finset.univ Ψ = iprop(Ψ 0 ∗ Ψ 1 ∗ Ψ 2 ∗ Ψ 3) :=
  bigSep_univ_eq_bigSepL [(0 : Fin 4), (1 : Fin 4), (2 : Fin 4), (3 : Fin 4)] (by decide) (by decide) Ψ

/-- Something for each array and peer, array by array. -/
theorem bigSep_arrays (Ψ : Fin 4 × Dev nD → sProp 𝕄) : bigSep Finset.univ Ψ
    = iprop((bigSep Finset.univ fun p => Ψ (0, p)) ∗ (bigSep Finset.univ fun p => Ψ (1, p))
        ∗ (bigSep Finset.univ fun p => Ψ (2, p)) ∗ (bigSep Finset.univ fun p => Ψ (3, p))) := by
  rw [bigSep_univ_prod, bigSep_four]

theorem open_one (PV : Fin 3 → Dev nD → Vec F S64x2048 .f32) (K : GSem nD τ sig → ℕ) (j : Fin 3) (c : Dev nD) (x : Fin 4 × Dev nD) :
    iprop(world PV K ∗ (openTok ER (dmaC j x.1 c x.2) ∗ semVal (dmaC j x.1 c x.2) 0))
      ⊢ iprop(|={Set.univ}=> (atPos ER (dmaC j x.1 c x.2) 0 ∅ 0 ∗ reached ER (dmaC j x.1 c x.2) 0)) := by
  iintro ⟨#HW, Ht, Hs⟩
  iapply (cell_open ER (Rd PV) (g := dmaC j x.1 c x.2) (κ := K (cell (c, (j, some x)))) (Set.mem_univ _))
  isplitr; · iapply (world_inv PV K (c, (j, some x))); iexact HW
  isplitl [Ht]; · iexact Ht
  iexact Hs

/-- With its semaphores at zero the device opens their cells. -/
theorem seed_ready (PV : Fin 3 → Dev nD → Vec F S64x2048 .f32) (j : Fin 3) (c : Dev nD) :
    iprop(seed PV j c ∗ (Pipeline.ownSems0 (osem j) c : sProp 𝕄)) ⊢ (|={Set.univ}=> ready PV j c : sProp 𝕄) := by
  unfold seed ready Pipeline.ownSems0
  iintro ⟨⟨%K, #HW, Hb, Ho, Ht, Hc⟩, Hz⟩
  ihave H := (dup_over (world PV K) (fun x : Fin 4 × Dev nD => iprop(openTok ER (dmaC j x.1 c x.2) ∗ semVal (dmaC j x.1 c x.2) 0)) Finset.univ) $$ [Ho Hz]
  · isplitr; · iexact HW
    iapply (Entails.of_eq (bigSep_sep' Finset.univ (fun x : Fin 4 × Dev nD => (openTok ER (dmaC j x.1 c x.2) : sProp 𝕄)) _).symm)
    isplitl [Ho]; · iexact Ho
    iexact Hz
  ihave H := (mono_over (s := Finset.univ) fun x : Fin 4 × Dev nD => open_one PV K j c x) $$ H
  imod (bigSep_fupd Finset.univ (fun x : Fin 4 × Dev nD => iprop(atPos ER (dmaC j x.1 c x.2) 0 ∅ 0 ∗ reached ER (dmaC j x.1 c x.2) 0))) $$ H with H
  ihave H := (Entails.of_eq (bigSep_sep' Finset.univ (fun x : Fin 4 × Dev nD => (atPos ER (dmaC j x.1 c x.2) 0 ∅ 0 : sProp 𝕄)) _)) $$ H
  icases H with ⟨Hp, #Hr⟩
  ihave Hp := (Entails.of_eq (bigSep_arrays (fun x : Fin 4 × Dev nD => (atPos ER (dmaC j x.1 c x.2) 0 ∅ 0 : sProp 𝕄)))) $$ Hp
  imodintro
  iexists K
  isplitr
  · unfold counting
    isplitr; · iexact HW
    iexact Hr
  isplitl [Hb]; · iexact Hb
  isplitl [Hp]; · iexact Hp
  isplitl [Ht]; · iexact Ht
  iexact Hc

/-! ## The proof data of a call -/

/-- What the arrays of a call hold. -/
abbrev Talk.Held (F : FTy → Type) (s : Talk) (c : Dev nD) := (w : Fin 2) → Buf (Elt F) ((s.e.win s.j w).arr.view.loc (c.tc : Thread nD τ))

/-- What the call reads of its first array. -/
abbrev Talk.input (s : Talk) (c : Dev nD) (A : s.Held F c) : Vec F S64x2048 .f32 :=
  ((s.e.win s.j (0 : Fin 2)).blk ⟨0, Nat.one_pos⟩).view.read (Elt F) (A 0)

section Data

variable (s : Talk) (c : Dev nD) (A : s.Held F c) (PV : Fin 3 → Dev nD → Vec F S64x2048 .f32)

/-- The proof data: before its only point the device holds its part of the protocol and owes what the call and the later ones
    announce and send; afterwards its semaphores are at zero and it owes what the later calls do. -/
def Talk.dat : Dat τ (Elt F) Unit ℕ UU ℕ s.cfg c where
  A w := A w
  after w t := match w with
    | ⟨0, _⟩ => PV s.j c
    | ⟨1, _⟩ => outOf (PV s.j)
  Φ t := if t.val = 0
    then iprop(Pipeline.scopedRest s.cfg.spec c ∗ (∃ r, prngReg c r) ∗ ready PV s.j c)
    else iprop(Pipeline.scopedRest s.cfg.spec c ∗ (∃ r, prngReg c r) ∗ semVal (barC s.j c) 0
      ∗ (zeros s.j c 0 ∗ zeros s.j c 1 ∗ zeros s.j c 2 ∗ zeros s.j c 3))
  q _ := fullShare
  owed t := if t.val = 0 then dues s.j c + after s.j c else after s.j c

theorem Talk.input_before (hin : PV s.j c = s.input c A) (t : Fin Pipeline.Grid.none.N) (d) : (s.dat c A PV).before (0 : Fin 2) t d = PV s.j c := by
  obtain rfl : t = ⟨0, Nat.one_pos⟩ := Fin.ext (Nat.lt_one_iff.mp t.isLt)
  exact ((s.dat c A PV).before_fetched (0 : Fin 2) _ rfl d).trans hin.symm

theorem Talk.leaves (w : Fin 2) (t : Fin Pipeline.Grid.none.N) :
    (s.dat c A PV).leavesExact w t
      = owns (c : Thread nD τ) ((s.cfg.win w).stage (s.cfg.slots t w)) fullShare ((s.dat c A PV).after w t) := by
  unfold Dat.leavesExact; rfl

theorem owes_any (c : Dev nD) (O : Dues) (B : Set (SemLoc sig × Unit)) (hB : ∀ x, x ∈ B) :
    iprop(∃ W, ⌜↑W ⊆ B⌝ ∗ owes (c : Thread nD τ) O W) = (owing c O : sProp 𝕄) := by
  have h1 : iprop(∃ W, ⌜↑W ⊆ B⌝ ∗ owes (c : Thread nD τ) O W) ⊢ (owing c O : sProp 𝕄) := by
    iintro ⟨%W, -, HO⟩; iexists W; iexact HO
  have h2 : (owing c O : sProp 𝕄) ⊢ iprop(∃ W, ⌜↑W ⊆ B⌝ ∗ owes (c : Thread nD τ) O W) := by
    iintro ⟨%W, HO⟩; iexists W
    isplitr; · ipureintro; exact fun _ _ => hB _
    iexact HO
  exact BI.equiv_iff.mp ⟨h1, h2⟩
theorem Talk.start : (s.dat c A PV).Φ (Fin.castSucc ⟨0, Nat.one_pos⟩)
    = iprop(Pipeline.scopedRest s.cfg.spec c ∗ (∃ r, prngReg c r) ∗ ready PV s.j c) := by
  dsimp only [Talk.dat]; exact if_pos rfl
theorem Talk.finish : (s.dat c A PV).Φ (Fin.succ ⟨0, Nat.one_pos⟩)
    = iprop(Pipeline.scopedRest s.cfg.spec c ∗ (∃ r, prngReg c r) ∗ semVal (barC s.j c) 0
      ∗ (zeros s.j c 0 ∗ zeros s.j c 1 ∗ zeros s.j c 2 ∗ zeros s.j c 3)) := by
  dsimp only [Talk.dat]; exact if_neg Nat.one_ne_zero
theorem Talk.owed_start : (s.dat c A PV).owed (Fin.castSucc ⟨0, Nat.one_pos⟩) = dues s.j c + after s.j c := by
  dsimp only [Talk.dat]; exact if_pos rfl
theorem Talk.owed_finish : (s.dat c A PV).owed (Fin.succ ⟨0, Nat.one_pos⟩) = after s.j c := by
  dsimp only [Talk.dat]; exact if_neg Nat.one_ne_zero
theorem Talk.owes_start : (s.dat c A PV).owesAt () (Fin.castSucc ⟨0, Nat.one_pos⟩) = owing c (dues s.j c + after s.j c) := by
  unfold Dat.owesAt Pipeline.owesWithin Dat.bound
  rw [s.owed_start c A PV]
  exact owes_any c _ _ fun _ => Or.inl trivial
theorem Talk.owes_finish : (s.dat c A PV).owesAt () (Fin.succ ⟨0, Nat.one_pos⟩) = owing c (after s.j c) := by
  unfold Dat.owesAt Pipeline.owesWithin Dat.bound
  rw [s.owed_finish c A PV]
  exact owes_any c _ _ fun _ => Or.inl trivial

/-- The body at the point. -/
theorem Talk.sound (hin : PV s.j c = s.input c A) (hs : s.Scratch (F := F)) (t : Fin Pipeline.Grid.none.N) :
    iprop((s.dat c A PV).Φ t.castSucc ∗ (s.dat c A PV).owesAt () t.castSucc
        ∗ (∃ d, owns (c : Thread nD τ) (args s.j).p fullShare ((s.dat c A PV).before (0 : Fin 2) t d))
        ∗ (∃ d, owns (c : Thread nD τ) (args s.j).o fullShare ((s.dat c A PV).before (1 : Fin 2) t d)))
      ⊢ runs (F := F) c (Prog.lift .deviceId >>= fun d => body (bar s.j) (args s.j) d)
          (fun _ => iprop((s.dat c A PV).Φ t.succ ∗ (s.dat c A PV).owesAt () t.succ
            ∗ (s.dat c A PV).leavesExact (0 : Fin 2) t ∗ (s.dat c A PV).leavesExact (1 : Fin 2) t)) := by
  obtain ⟨X, hX⟩ := hs
  obtain rfl : t = ⟨0, Nat.one_pos⟩ := Fin.ext (Nat.lt_one_iff.mp t.isLt)
  rw [s.leaves c A PV (0 : Fin 2), s.leaves c A PV (1 : Fin 2)]
  simp only [s.input_before c A PV hin]
  show _ ⊢ wp frame (wpE (defs₀ (F := F)) 𝒱₀ (c : Thread nD τ) none) Set.univ (.op .deviceId fun d => body (bar s.j) (args s.j) d) _
  rw [wp_deviceId]
  rw [s.start c A PV, s.finish c A PV, s.owes_start c A PV, s.owes_finish c A PV, hX c]
  unfold ready
  iintro ⟨⟨⟨⟨Hrs, Hred⟩, HX⟩, Hr, %K, HC, Hb, Hpl, Ht, Hc⟩, HO, ⟨%d0, H0⟩, ⟨%d1, H1⟩⟩
  iapply (ar_run PV K s.j c (after s.j c) (above_after s.j c) _)
  unfold arPre arPost
  isplitl [Hrs Hred HC Hb Hpl Ht Hc HO H0 H1]
  · isplitl [HC]; · iexact HC
    isplitl [Hb]; · iexact Hb
    isplitl [Hpl]; · iexact Hpl
    isplitl [Ht]; · iexact Ht
    isplitl [Hc]; · iexact Hc
    isplitl [H0]; · iexact H0
    isplitl [H1]; · iexists _; iexact H1
    isplitl [Hrs]; · iexact Hrs
    isplitl [Hred]; · iexact Hred
    iexact HO
  iintro ⟨Hb, Hz, H0, H1, Hrs, Hred, HO⟩
  isplitl [Hrs Hred HX Hr Hb Hz]
  · isplitl [Hrs Hred HX]
    · isplitl [Hrs Hred]
      · isplitl [Hrs]; · iexact Hrs
        iexact Hred
      iexact HX
    isplitl [Hr]; · iexact Hr
    isplitl [Hb]; · iexact Hb
    iexact Hz
  isplitl [HO]; · iexact HO
  isplitl [H0]; · iexact H0
  iexact H1

theorem Talk.body_obligation (hin : PV s.j c = s.input c A) (hs : s.Scratch (F := F)) (hrow : s.Row (F := F)) :
    BodyObligation (s.dat c A PV) (defs₀ (F := F)) 𝒱₀ () Set.univ := fun t => by
  rw [bigSep_W1, bigSep_W1, hrow]
  exact triple_restated (s.sound c A PV hin hs t) rfl .rfl fun _ => .rfl

end Data

end Cert.KernelIdeal.AR

end
-- ==== Proof.KernelIdeal.Chain.lean ====
/- The contents of the program's arrays between its six calls, and the calls' proof data at them. -/
module

public import proofs.«01_k».proof.Proof.KernelIdeal.Talk
public import proofs.«01_k».proof.Proof.Gen.KernelIdeal.Regions

@[expose] public section

noncomputable section

namespace Cert.KernelIdeal.AR

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation)

variable {F : FTy → Type} [FloatOps F]

local notation "𝕄" => MT nD τ sig Unit (Elt F) ℕ UU ℕ

/-! ## Results of a call as whole arrays -/

section Whole

variable (c : Dev nD)

theorem none_flush (w : Window sig Pipeline.Grid.none) (h : w.isOut = true) (t : Fin Pipeline.Grid.none.N) : w.flush t = true := by
  unfold Window.flush
  rw [h, Bool.true_and, Bool.or_eq_true]
  left
  exact decide_eq_true (by have := t.isLt; have hN : Pipeline.Grid.none.N = 1 := rfl; omega)

theorem Talk.whole1 (s : Talk) : (s.e.win s.j 1).WholeAt (⟨0, Nat.one_pos⟩ : Fin Pipeline.Grid.none.N) :=
  ⟨none_flush _ rfl _, fun t _ => Fin.ext (Nat.lt_one_iff.mp t.isLt), fun a => ⟨rfl, rfl⟩⟩

/-- The reduced array after the call. -/
theorem Talk.result (s : Talk) (A : s.Held F c) (PV : Fin 3 → Dev nD → Vec F S64x2048 .f32) :
    s.e.oa.view.read (Elt F) ((s.dat c A PV).arrAt (1 : Fin 2) s.cfg.N) = outOf (PV s.j) := by
  funext j
  refine (View.read_apply _ _).trans ?_
  refine (congrArg (_root_.cast _) ((s.dat c A PV).arrAt_emb_eq_after_last (1 : Fin 2) (⟨0, Nat.one_pos⟩ : Fin Pipeline.Grid.none.N) s.whole1 j)).trans ?_
  rw [cast_cast]
  rfl

/-- What the call reads is all of its first array. -/
theorem Talk.input_eq (s : Talk) (A : s.Held F c) : s.input c A = s.e.pa.view.read (Elt F) (A 0) := by
  funext j
  refine (View.read_apply _ _).trans (Eq.trans ?_ (View.read_apply _ _).symm)
  congr 2
  show s.e.pa.view.emb (((s.e.win s.j 0).rect ⟨0, Nat.one_pos⟩).emb j) = _
  congr 1; funext a; apply Fin.ext
  rw [Window.rect_emb_val_of_index_zero _ _ _ rfl]

end Whole

/-! ## The contents between calls -/

/-- The arrays of a layer call and of an all-reduce call at given contents of a device. -/
abbrev Site.from (s : Site) (c : Dev nD) (W : Valuation τ sig (Elt F)) : s.Held F c :=
  fun w => W (Proc.devRef .tc (Pipeline.arrRef s.cfg.spec w))
abbrev Talk.from (s : Talk) (c : Dev nD) (W : Valuation τ sig (Elt F)) : s.Held F c :=
  fun w => W (Proc.devRef .tc (Pipeline.arrRef s.cfg.spec w))

/-- A device's partial sums of a layer, from what the device holds. -/
def Site.sums (s : Site) (c : Dev nD) (W : Valuation τ sig (Elt F)) : Vec F S64x2048 .f32 := s.acc c (s.from c W) 7 (by decide)

variable (m : (ℓ : Loc nD τ sig) → Buf (Elt F) ℓ)

def w0 (c : Dev nD) : Valuation τ sig (Elt F) := fun b => m (c, b)
def p0 (c : Dev nD) : Vec F S64x2048 .f32 := site0.sums c (w0 m c)
def w1 (c : Dev nD) : Valuation τ sig (Elt F) := Function.update (w0 m c) main_v1 (p0 m c)
def w2 (c : Dev nD) : Valuation τ sig (Elt F) := Function.update (w1 m c) main_v2 (outOf (p0 m))
def p1 (c : Dev nD) : Vec F S64x2048 .f32 := site1.sums c (w2 m c)
def w3 (c : Dev nD) : Valuation τ sig (Elt F) := Function.update (w2 m c) main_v3 (p1 m c)
def w4 (c : Dev nD) : Valuation τ sig (Elt F) := Function.update (w3 m c) main_v4 (outOf (p1 m))
def p2 (c : Dev nD) : Vec F S64x2048 .f32 := site2.sums c (w4 m c)
def w5 (c : Dev nD) : Valuation τ sig (Elt F) := Function.update (w4 m c) main_v5 (p2 m c)
def w6 (c : Dev nD) : Valuation τ sig (Elt F) := Function.update (w5 m c) main_v6 (outOf (p2 m))

/-- The partial sums of the three layers. -/
def PV : Fin 3 → Dev nD → Vec F S64x2048 .f32
  | 0 => p0 m
  | 1 => p1 m
  | 2 => p2 m

/-- The calls' proof data. -/
def pdats : (p : Fin 6) → (c : Dev nD) → Dat τ (Elt F) Unit ℕ UU ℕ (cfgs p) c
  | 0, c => site0.dat c (site0.from c (w0 m c)) (dues 0 c + after 0 c)
  | 1, c => talk0.dat c (talk0.from c (w1 m c)) (PV m)
  | 2, c => site1.dat c (site1.from c (w2 m c)) (dues 1 c + after 1 c)
  | 3, c => talk1.dat c (talk1.from c (w3 m c)) (PV m)
  | 4, c => site2.dat c (site2.from c (w4 m c)) (dues 2 c + after 2 c)
  | 5, c => talk2.dat c (talk2.from c (w5 m c)) (PV m)

theorem at_new (W : Valuation τ sig (Elt F)) (r : Ref sig .tc) (X) : Function.update W (Proc.devRef .tc r) X (Proc.devRef .tc r) = X :=
  Function.update_self ..
theorem at_old (W : Valuation τ sig (Elt F)) (r r' : Ref sig .tc) (h : r' ≠ r) (X) :
    Function.update W (Proc.devRef .tc r) X (Proc.devRef .tc r') = W (Proc.devRef .tc r') :=
  Function.update_of_ne (fun e => h (Proc.devRef_injective _ e)) ..

theorem in0 (c : Dev nD) : PV m 0 c = talk0.input c (talk0.from c (w1 m c)) := by
  rw [talk0.input_eq]; exact (at_new (w0 m c) main_v1 (p0 m c)).symm
theorem in1 (c : Dev nD) : PV m 1 c = talk1.input c (talk1.from c (w3 m c)) := by
  rw [talk1.input_eq]; exact (at_new (w2 m c) main_v3 (p1 m c)).symm
theorem in2 (c : Dev nD) : PV m 2 c = talk2.input c (talk2.from c (w5 m c)) := by
  rw [talk2.input_eq]; exact (at_new (w4 m c) main_v5 (p2 m c)).symm

/-- What each call leaves in its arrays is what the next contents say. -/
theorem left0 (c : Dev nD) (w : Fin 4) : (pdats m 0 c).arrAt w grid0.N = w1 m c (Proc.devRef .tc (Pipeline.arrRef cfg0.spec w)) := by
  match w with
  | 0 => exact ((pdats m 0 c).arrAt_in (0 : Fin 4) rfl _).trans (at_old (w0 m c) main_v1 main_arg0 (by decide) _).symm
  | 1 => exact ((pdats m 0 c).arrAt_in (1 : Fin 4) rfl _).trans (at_old (w0 m c) main_v1 main_arg1 (by decide) _).symm
  | 2 => exact ((pdats m 0 c).arrAt_in (2 : Fin 4) rfl _).trans (at_old (w0 m c) main_v1 main_arg4 (by decide) _).symm
  | 3 => exact (site0.result c _ _).trans (at_new (w0 m c) main_v1 (p0 m c)).symm
theorem left1 (c : Dev nD) (w : Fin 2) : (pdats m 1 c).arrAt w grid1.N = w2 m c (Proc.devRef .tc (Pipeline.arrRef cfg1.spec w)) := by
  match w with
  | 0 => exact ((pdats m 1 c).arrAt_in (0 : Fin 2) rfl _).trans (at_old (w1 m c) main_v2 main_v1 (by decide) _).symm
  | 1 => exact (talk0.result c _ (PV m)).trans (at_new (w1 m c) main_v2 (outOf (p0 m))).symm
theorem left2 (c : Dev nD) (w : Fin 4) : (pdats m 2 c).arrAt w grid0.N = w3 m c (Proc.devRef .tc (Pipeline.arrRef cfg2.spec w)) := by
  match w with
  | 0 => exact ((pdats m 2 c).arrAt_in (0 : Fin 4) rfl _).trans (at_old (w2 m c) main_v3 main_v2 (by decide) _).symm
  | 1 => exact ((pdats m 2 c).arrAt_in (1 : Fin 4) rfl _).trans (at_old (w2 m c) main_v3 main_arg2 (by decide) _).symm
  | 2 => exact ((pdats m 2 c).arrAt_in (2 : Fin 4) rfl _).trans (at_old (w2 m c) main_v3 main_arg5 (by decide) _).symm
  | 3 => exact (site1.result c _ _).trans (at_new (w2 m c) main_v3 (p1 m c)).symm
theorem left3 (c : Dev nD) (w : Fin 2) : (pdats m 3 c).arrAt w grid1.N = w4 m c (Proc.devRef .tc (Pipeline.arrRef cfg3.spec w)) := by
  match w with
  | 0 => exact ((pdats m 3 c).arrAt_in (0 : Fin 2) rfl _).trans (at_old (w3 m c) main_v4 main_v3 (by decide) _).symm
  | 1 => exact (talk1.result c _ (PV m)).trans (at_new (w3 m c) main_v4 (outOf (p1 m))).symm
theorem left4 (c : Dev nD) (w : Fin 4) : (pdats m 4 c).arrAt w grid0.N = w5 m c (Proc.devRef .tc (Pipeline.arrRef cfg4.spec w)) := by
  match w with
  | 0 => exact ((pdats m 4 c).arrAt_in (0 : Fin 4) rfl _).trans (at_old (w4 m c) main_v5 main_v4 (by decide) _).symm
  | 1 => exact ((pdats m 4 c).arrAt_in (1 : Fin 4) rfl _).trans (at_old (w4 m c) main_v5 main_arg3 (by decide) _).symm
  | 2 => exact ((pdats m 4 c).arrAt_in (2 : Fin 4) rfl _).trans (at_old (w4 m c) main_v5 main_arg6 (by decide) _).symm
  | 3 => exact (site2.result c _ _).trans (at_new (w4 m c) main_v5 (p2 m c)).symm
theorem left5 (c : Dev nD) (w : Fin 2) : (pdats m 5 c).arrAt w grid1.N = w6 m c (Proc.devRef .tc (Pipeline.arrRef cfg5.spec w)) := by
  match w with
  | 0 => exact ((pdats m 5 c).arrAt_in (0 : Fin 2) rfl _).trans (at_old (w5 m c) main_v6 main_v5 (by decide) _).symm
  | 1 => exact (talk2.result c _ (PV m)).trans (at_new (w5 m c) main_v6 (outOf (p2 m))).symm

end Cert.KernelIdeal.AR

end
-- ==== Proof.KernelIdeal.Segs.lean ====
/- The six calls as segments of a device's run: what the device holds before and after each. -/
module

public import proofs.«01_k».proof.Proof.KernelIdeal.Chain

@[expose] public section

noncomputable section

namespace Cert.KernelIdeal.AR

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation RegionSeg)

variable {F : FTy → Type} [FloatOps F]

local notation "𝕄" => MT nD τ sig Unit (Elt F) ℕ UU ℕ

/-! ## A device between two calls -/

/-- A device between two calls: its arrays at `W`, the random-number register at any value, its part `P` of the protocol,
    and what it owes. -/
def St (c : Dev nD) (W : Valuation τ sig (Elt F)) (P : sProp 𝕄) (O : Dues) : sProp 𝕄 :=
  iprop(StableHlo.held (c.tc : Thread nD τ) (Pipeline.ucRefs τ sig) W ∗ (∃ r, prngReg c r) ∗ P ∗ owing c O)

theorem St_mono (c : Dev nD) (W : Valuation τ sig (Elt F)) {P P' : sProp 𝕄} {O O' : Dues} (h : P ⊢ P') (hO : O = O') : St c W P O ⊢ St c W P' O' := by
  subst hO
  unfold St
  iintro ⟨Hh, Hr, HP, HO⟩
  isplitl [Hh]; · iexact Hh
  isplitl [Hr]; · iexact Hr
  isplitl [HP]; · iapply h; iexact HP
  iexact HO

/-- The arrays of a layer call taken out, and put back at new contents. -/
theorem into_layer (c : Dev nD) {T : Finset (DevRef τ sig)} (hT : T ⊆ Pipeline.ucRefs τ sig) (W : Valuation τ sig (Elt F)) (P : sProp 𝕄) (O : Dues) :
     St c W P O ⊢ iprop(StableHlo.held (c.tc : Thread nD τ) T W ∗ emp
    ∗ (StableHlo.held (c.tc : Thread nD τ) (Pipeline.ucRefs τ sig \ T) W ∗ (∃ r, prngReg c r) ∗ P) ∗ owing c O) := by
  unfold St
  rw [StableHlo.held_sub_split (c.tc : Thread nD τ) hT W]
  iintro ⟨⟨Ht, Hs⟩, Hr, HP, HO⟩
  isplitl [Ht]; · iexact Ht
  isplitr; · iempintro
  isplitr [HO]
  · isplitl [Hs]; · iexact Hs
    isplitl [Hr]; · iexact Hr
    iexact HP
  iexact HO
theorem from_layer (c : Dev nD) {T : Finset (DevRef τ sig)} (hT : T ⊆ Pipeline.ucRefs τ sig) (W W' : Valuation τ sig (Elt F)) (P : sProp 𝕄) (O : Dues)
    (hrest : ∀ b ∈ Pipeline.ucRefs τ sig \ T, W' b = W b) :
     iprop(StableHlo.held (c.tc : Thread nD τ) T W' ∗ emp
    ∗ (StableHlo.held (c.tc : Thread nD τ) (Pipeline.ucRefs τ sig \ T) W ∗ (∃ r, prngReg c r) ∗ P) ∗ owing c O) ⊢ St c W' P O := by
  unfold St
  rw [StableHlo.held_sub_split (c.tc : Thread nD τ) hT W', StableHlo.held_congr (c.tc : Thread nD τ) (V := W') (V' := W) hrest]
  iintro ⟨Ht, -, ⟨Hs, Hr, HP⟩, HO⟩
  isplitl [Ht Hs]
  · isplitl [Ht]; · iexact Ht
    iexact Hs
  isplitl [Hr]; · iexact Hr
  isplitl [HP]; · iexact HP
  iexact HO

/-- The same for an all-reduce call, which takes the part `P` of the protocol. -/
theorem into_talk (c : Dev nD) {T : Finset (DevRef τ sig)} (hT : T ⊆ Pipeline.ucRefs τ sig) (W : Valuation τ sig (Elt F)) (P R : sProp 𝕄) (O : Dues) :
     St c W iprop(P ∗ R) O ⊢ iprop(StableHlo.held (c.tc : Thread nD τ) T W ∗ (∃ r, prngReg c r)
    ∗ (StableHlo.held (c.tc : Thread nD τ) (Pipeline.ucRefs τ sig \ T) W ∗ R) ∗ P ∗ owing c O) := by
  unfold St
  rw [StableHlo.held_sub_split (c.tc : Thread nD τ) hT W]
  iintro ⟨⟨Ht, Hs⟩, Hr, ⟨HP, HR⟩, HO⟩
  isplitl [Ht]; · iexact Ht
  isplitl [Hr]; · iexact Hr
  isplitl [Hs HR]
  · isplitl [Hs]; · iexact Hs
    iexact HR
  isplitl [HP]; · iexact HP
  iexact HO
theorem from_talk (c : Dev nD) {T : Finset (DevRef τ sig)} (hT : T ⊆ Pipeline.ucRefs τ sig) (W : Valuation τ sig (Elt F)) (P R : sProp 𝕄) (O : Dues) :
     iprop(StableHlo.held (c.tc : Thread nD τ) T W ∗ (∃ r, prngReg c r)
    ∗ (StableHlo.held (c.tc : Thread nD τ) (Pipeline.ucRefs τ sig \ T) W ∗ R) ∗ P ∗ owing c O) ⊢ St c W iprop(P ∗ R) O := by
  unfold St
  rw [StableHlo.held_sub_split (c.tc : Thread nD τ) hT W]
  iintro ⟨Ht, Hr, ⟨Hs, HR⟩, HP, HO⟩
  isplitl [Ht Hs]
  · isplitl [Ht]; · iexact Ht
    iexact Hs
  isplitl [Hr]; · iexact Hr
  isplitl [HP HR]
  · isplitl [HP]; · iexact HP
    iexact HR
  iexact HO

/-! ## Levels -/

/-- A staging semaphore is none of the protocol's. -/
theorem lv_staging (c : Dev nD) (s : DmaSem sig) (h : s.val % 40 < 8) : lv ((c : Thread nD τ), .dma s) () ≤ 0 := by
  have hne : decode ((c : Thread nD τ), .dma s) = none := by
    refine preimage?_eq_none_of_not_mem fun hm => ?_
    obtain ⟨⟨d, j, x⟩, -, e⟩ := Finset.mem_map.mp hm
    have e2 : locOf (j, x) = .dma s := congrArg Prod.snd e
    match x, e2 with
    | none, e2 => cases e2
    | some (k, p), e2 =>
      have e3 : semAt (arr j k) p = s := by injection e2
      have hv := semAt_val j k p
      rw [e3] at hv
      have hp := p.isLt; have hk := k.isLt; have hn : nD = 8 := rfl
      omega
  unfold lv; rw [hne]; exact Nat.le_refl 0

theorem mem_L_any (c : Dev nD) (s : SemLoc sig) : () ∈ L ((c : Thread nD τ), s) := mem_L c s

theorem above_all (j : Fin 3) (c : Dev nD) : Above 0 (dues j c + after j c) :=
  ((above_dues j c).mono (Nat.zero_le _)).add ((above_after j c).mono (Nat.zero_le _))

theorem above_split (j : Fin 3) (c : Dev nD) {n : ℕ} (t : Fin n) :
    Above 0 (if t.val = 0 then dues j c + after j c else after j c) := by
  split
  · exact above_all j c
  · exact (above_after j c).mono (Nat.zero_le _)

/-! ## The calls -/

/-- A layer call carries only the buffers it does not stage. -/
theorem layer_in (c : Dev nD) (s : Site) (A : s.Held F c) (D : Dues) :
    iprop(Pipeline.scopedRest s.cfg.spec c ∗ emp) ⊢ (s.dat c A D).Φ 0 := by
  dsimp only [Site.dat]
  iintro ⟨H, -⟩; iexact H
theorem layer_out (c : Dev nD) (s : Site) (A : s.Held F c) (D : Dues) :
    (s.dat c A D).Φ (Fin.last _) ⊢ iprop(Pipeline.scopedRest s.cfg.spec c ∗ emp) := by
  dsimp only [Site.dat]
  iintro H; isplitl [H]; · iexact H
  iempintro

theorem low0 : ∀ (w : Fin 4) (s : Fin (cfg0.win w).nbuf), ((cfg0.win w).sem s).val % 40 < 8 := by decide +kernel
theorem low1 : ∀ (w : Fin 2) (s : Fin (cfg1.win w).nbuf), ((cfg1.win w).sem s).val % 40 < 8 := by decide +kernel
theorem low2 : ∀ (w : Fin 4) (s : Fin (cfg2.win w).nbuf), ((cfg2.win w).sem s).val % 40 < 8 := by decide +kernel
theorem low3 : ∀ (w : Fin 2) (s : Fin (cfg3.win w).nbuf), ((cfg3.win w).sem s).val % 40 < 8 := by decide +kernel
theorem low4 : ∀ (w : Fin 4) (s : Fin (cfg4.win w).nbuf), ((cfg4.win w).sem s).val % 40 < 8 := by decide +kernel
theorem low5 : ∀ (w : Fin 2) (s : Fin (cfg5.win w).nbuf), ((cfg5.win w).sem s).val % 40 < 8 := by decide +kernel

variable (m : (ℓ : Loc nD τ sig) → Buf (Elt F) ℓ)

theorem kit0 : Pipeline.PLaunchFacts (nD := nD) (τ := τ) (pcfgs (F := F)) 0 :=
  ⟨fun a => by rw [Subsingleton.elim a adm]; exact cellOf_inj, winFacts0, Pipeline.PreFacts.none _, block_pos0, arr_whole0, stage_whole0⟩
theorem kit1 : Pipeline.PLaunchFacts (nD := nD) (τ := τ) (pcfgs (F := F)) 1 :=
  ⟨fun a => by rw [Subsingleton.elim a adm]; exact cellOf_inj, winFacts1, Pipeline.PreFacts.none _, block_pos1, arr_whole1, stage_whole1⟩
theorem kit2 : Pipeline.PLaunchFacts (nD := nD) (τ := τ) (pcfgs (F := F)) 2 :=
  ⟨fun a => by rw [Subsingleton.elim a adm]; exact cellOf_inj, winFacts2, Pipeline.PreFacts.none _, block_pos2, arr_whole2, stage_whole2⟩
theorem kit3 : Pipeline.PLaunchFacts (nD := nD) (τ := τ) (pcfgs (F := F)) 3 :=
  ⟨fun a => by rw [Subsingleton.elim a adm]; exact cellOf_inj, winFacts3, Pipeline.PreFacts.none _, block_pos3, arr_whole3, stage_whole3⟩
theorem kit4 : Pipeline.PLaunchFacts (nD := nD) (τ := τ) (pcfgs (F := F)) 4 :=
  ⟨fun a => by rw [Subsingleton.elim a adm]; exact cellOf_inj, winFacts4, Pipeline.PreFacts.none _, block_pos4, arr_whole4, stage_whole4⟩
theorem kit5 : Pipeline.PLaunchFacts (nD := nD) (τ := τ) (pcfgs (F := F)) 5 :=
  ⟨fun a => by rw [Subsingleton.elim a adm]; exact cellOf_inj, winFacts5, Pipeline.PreFacts.none _, block_pos5, arr_whole5, stage_whole5⟩

/-- The buffers of a device that a call does not work on. -/
abbrev off (k : Fin 6) : Finset (DevRef τ sig) := Pipeline.ucRefs τ sig \ Pipeline.arrRefs (cfgs k).spec

theorem arr_mem {gr W : ℕ} (win : Fin W → Pipeline.WinSpec sig gr) (w : Fin W) :
    Proc.devRef .tc (Pipeline.arrRef win w) ∈ (Pipeline.arrRefs win : Finset (DevRef τ sig)) :=
  Finset.mem_map_of_mem _ (Finset.mem_image_of_mem _ (Finset.mem_univ w))

/-- A call changes only its own arrays. -/
theorem other0 (c : Dev nD) : ∀ b ∈ off 0, w1 m c b = w0 m c b := fun b hb =>
  Function.update_of_ne (fun e => (Finset.mem_sdiff.mp hb).2 (by rw [e]; exact arr_mem (cfgs 0).spec (3 : Fin 4))) ..
theorem other1 (c : Dev nD) : ∀ b ∈ off 1, w2 m c b = w1 m c b := fun b hb =>
  Function.update_of_ne (fun e => (Finset.mem_sdiff.mp hb).2 (by rw [e]; exact arr_mem (cfgs 1).spec (1 : Fin 2))) ..
theorem other2 (c : Dev nD) : ∀ b ∈ off 2, w3 m c b = w2 m c b := fun b hb =>
  Function.update_of_ne (fun e => (Finset.mem_sdiff.mp hb).2 (by rw [e]; exact arr_mem (cfgs 2).spec (3 : Fin 4))) ..
theorem other3 (c : Dev nD) : ∀ b ∈ off 3, w4 m c b = w3 m c b := fun b hb =>
  Function.update_of_ne (fun e => (Finset.mem_sdiff.mp hb).2 (by rw [e]; exact arr_mem (cfgs 3).spec (1 : Fin 2))) ..
theorem other4 (c : Dev nD) : ∀ b ∈ off 4, w5 m c b = w4 m c b := fun b hb =>
  Function.update_of_ne (fun e => (Finset.mem_sdiff.mp hb).2 (by rw [e]; exact arr_mem (cfgs 4).spec (3 : Fin 4))) ..
theorem other5 (c : Dev nD) : ∀ b ∈ off 5, w6 m c b = w5 m c b := fun b hb =>
  Function.update_of_ne (fun e => (Finset.mem_sdiff.mp hb).2 (by rw [e]; exact arr_mem (cfgs 5).spec (1 : Fin 2))) ..

set_option backward.isDefEq.respectTransparency.types false in
def reg0 (P : Dev nD → sProp 𝕄) : RegionSeg (pcfgs (F := F)) adm (pdats m) () defs₀ 𝒱₀ L lv 0 :=
  RegionSeg.ofHeld (pcfgs (F := F)) adm (pdats m) () defs₀ 𝒱₀ L lv 0 (fun c => dues 0 c + after 0 c)
    (fun _ => iprop(emp)) (fun _ => iprop(emp)) kit0 rfl
    (fun c => (site0.body_obligation c _ _ site0_row).loose) (fun _ _ => rfl) (fun _ => rfl)
    (fun c w => (pdats m 0 c).share_full (fun _ => rfl) w)
    (fun c => layer_in c site0 _ _) (fun c => layer_out c site0 _ _)
    (fun _ => 0) ⟨fun c w s => mem_L_any c _, fun c w s => lv_staging c _ (low0 w s), fun c g i h => above_all 0 c g i h⟩
    (fun c => iprop(StableHlo.held (c.tc : Thread nD τ) (off 0) (w0 m c) ∗ (∃ r, prngReg c r) ∗ P c))
    (w0 m) (w1 m) (fun _ _ => rfl) (fun c w => left0 m c w)

set_option backward.isDefEq.respectTransparency.types false in
def reg2 (P : Dev nD → sProp 𝕄) : RegionSeg (pcfgs (F := F)) adm (pdats m) () defs₀ 𝒱₀ L lv 2 :=
  RegionSeg.ofHeld (pcfgs (F := F)) adm (pdats m) () defs₀ 𝒱₀ L lv 2 (fun c => dues 1 c + after 1 c)
    (fun _ => iprop(emp)) (fun _ => iprop(emp)) kit2 rfl
    (fun c => (site1.body_obligation c _ _ site1_row).loose) (fun _ _ => rfl) (fun _ => rfl)
    (fun c w => (pdats m 2 c).share_full (fun _ => rfl) w)
    (fun c => layer_in c site1 _ _) (fun c => layer_out c site1 _ _)
    (fun _ => 0) ⟨fun c w s => mem_L_any c _, fun c w s => lv_staging c _ (low2 w s), fun c g i h => above_all 1 c g i h⟩
    (fun c => iprop(StableHlo.held (c.tc : Thread nD τ) (off 2) (w2 m c) ∗ (∃ r, prngReg c r) ∗ P c))
    (w2 m) (w3 m) (fun _ _ => rfl) (fun c w => left2 m c w)

set_option backward.isDefEq.respectTransparency.types false in
def reg4 (P : Dev nD → sProp 𝕄) : RegionSeg (pcfgs (F := F)) adm (pdats m) () defs₀ 𝒱₀ L lv 4 :=
  RegionSeg.ofHeld (pcfgs (F := F)) adm (pdats m) () defs₀ 𝒱₀ L lv 4 (fun c => dues 2 c + after 2 c)
    (fun _ => iprop(emp)) (fun _ => iprop(emp)) kit4 rfl
    (fun c => (site2.body_obligation c _ _ site2_row).loose) (fun _ _ => rfl) (fun _ => rfl)
    (fun c w => (pdats m 4 c).share_full (fun _ => rfl) w)
    (fun c => layer_in c site2 _ _) (fun c => layer_out c site2 _ _)
    (fun _ => 0) ⟨fun c w s => mem_L_any c _, fun c w s => lv_staging c _ (low4 w s), fun c g i h => above_all 2 c g i h⟩
    (fun c => iprop(StableHlo.held (c.tc : Thread nD τ) (off 4) (w4 m c) ∗ (∃ r, prngReg c r) ∗ P c))
    (w4 m) (w5 m) (fun _ _ => rfl) (fun c w => left4 m c w)

theorem add_after (j : Fin 3) (c : Dev nD) (s : Talk) (hs : s.j = j) (A : s.Held F c) (PV : Fin 3 → Dev nD → Vec F S64x2048 .f32) :
    (s.dat c A PV).owed 0 = after j c + dues j c := by
  subst hs; exact (s.owed_start c A PV).trans (add_comm _ _)

/-- Before the point: the call's semaphores opened, with what the device may use. -/
theorem talk_in (c : Dev nD) (s : Talk) (A : s.Held F c) (PV : Fin 3 → Dev nD → Vec F S64x2048 .f32) (W : Valuation τ sig (Elt F)) :
    iprop(Pipeline.scopedRest s.cfg.spec c ∗ (∃ r, prngReg c r) ∗ StableHlo.held (c.tc : Thread nD τ) ∅ W ∗ ready PV s.j c)
      ⊢ (s.dat c A PV).Φ (Fin.castSucc ⟨0, Nat.one_pos⟩) := by
  rw [s.start c A PV]
  iintro ⟨Hs, Hr, -, HX⟩
  isplitl [Hs]; · iexact Hs
  isplitl [Hr]; · iexact Hr
  iexact HX
/-- After it: they are at zero. -/
theorem talk_out (c : Dev nD) (s : Talk) (A : s.Held F c) (PV : Fin 3 → Dev nD → Vec F S64x2048 .f32) (W : Valuation τ sig (Elt F)) :
    (s.dat c A PV).Φ (Fin.succ ⟨0, Nat.one_pos⟩)
      ⊢ iprop(Pipeline.scopedRest s.cfg.spec c ∗ (∃ r, prngReg c r) ∗ StableHlo.held (c.tc : Thread nD τ) ∅ W
        ∗ Pipeline.ownSems0 (osem s.j) c ∗ semVal (barC s.j c) 0) := by
  rw [s.finish c A PV]
  unfold StableHlo.held Pipeline.ownSems0
  rw [bigSep_empty, bigSep_arrays]
  iintro ⟨Hs, Hr, Hb, Hz⟩
  isplitl [Hs]; · iexact Hs
  isplitl [Hr]; · iexact Hr
  isplitr; · iempintro
  isplitl [Hz]; · iexact Hz
  iexact Hb

theorem talk_open (c : Dev nD) (j : Fin 3) (PV : Fin 3 → Dev nD → Vec F S64x2048 .f32) :
    iprop(seed PV j c ∗ Pipeline.ownSems0 (osem j) c ∗ levAts L lv) ⊢ (|={Set.univ}=> ready PV j c : sProp 𝕄) := by
  iintro ⟨Hs, Hz, -⟩
  iapply (seed_ready PV j c)
  isplitl [Hs]; · iexact Hs
  iexact Hz

theorem own1 : Pipeline.OwnSemFacts spec1 (osem 0) := by decide +kernel

set_option backward.isDefEq.respectTransparency.types false in
def reg1 (R : Dev nD → sProp 𝕄) : RegionSeg (pcfgs (F := F)) adm (pdats m) () defs₀ 𝒱₀ L lv 1 :=
  RegionSeg.ofTalk (pcfgs (F := F)) adm (pdats m) () defs₀ 𝒱₀ L lv 1 (osem 0) own1 ∅ (off 1) (Finset.empty_subset _) kit1 rfl
    (fun c => (talk0.body_obligation c _ (PV m) (in0 m c) talk0_scratch talk0_row).loose)
    (fun c => after 0 c) (fun c => dues 0 c) (fun c => add_after 0 c talk0 rfl _ (PV m)) (fun c => talk0.owed_finish c _ (PV m)) (fun _ => rfl)
    (fun c w => (pdats m 1 c).share_full (fun _ => rfl) w)
    (w1 m) (w2 m) (fun c b hb => other1 m c b (by rw [Finset.sdiff_empty] at hb; exact hb))
    (fun c => seed (PV m) 0 c) (fun c => semVal (barC 0 c) 0) (fun c => ready (PV m) 0 c) (fun c => semVal (barC 0 c) 0)
    (fun c => talk_open c 0 (PV m)) (fun c => talk_in c talk0 _ (PV m) _) (fun c => talk_out c talk0 _ (PV m) _)
    (fun c => by iintro H; imodintro; iexact H)
    (fun _ => 0) ⟨fun c w s => mem_L_any c _, fun c w s => lv_staging c _ (low1 w s), fun c t g i h => above_split 0 c t g i h⟩
    R (fun _ _ => rfl) (fun c w => left1 m c w)

theorem own3 : Pipeline.OwnSemFacts spec3 (osem 1) := by decide +kernel

set_option backward.isDefEq.respectTransparency.types false in
def reg3 (R : Dev nD → sProp 𝕄) : RegionSeg (pcfgs (F := F)) adm (pdats m) () defs₀ 𝒱₀ L lv 3 :=
  RegionSeg.ofTalk (pcfgs (F := F)) adm (pdats m) () defs₀ 𝒱₀ L lv 3 (osem 1) own3 ∅ (off 3) (Finset.empty_subset _) kit3 rfl
    (fun c => (talk1.body_obligation c _ (PV m) (in1 m c) talk1_scratch talk1_row).loose)
    (fun c => after 1 c) (fun c => dues 1 c) (fun c => add_after 1 c talk1 rfl _ (PV m)) (fun c => talk1.owed_finish c _ (PV m)) (fun _ => rfl)
    (fun c w => (pdats m 3 c).share_full (fun _ => rfl) w)
    (w3 m) (w4 m) (fun c b hb => other3 m c b (by rw [Finset.sdiff_empty] at hb; exact hb))
    (fun c => seed (PV m) 1 c) (fun c => semVal (barC 1 c) 0) (fun c => ready (PV m) 1 c) (fun c => semVal (barC 1 c) 0)
    (fun c => talk_open c 1 (PV m)) (fun c => talk_in c talk1 _ (PV m) _) (fun c => talk_out c talk1 _ (PV m) _)
    (fun c => by iintro H; imodintro; iexact H)
    (fun _ => 0) ⟨fun c w s => mem_L_any c _, fun c w s => lv_staging c _ (low3 w s), fun c t g i h => above_split 1 c t g i h⟩
    R (fun _ _ => rfl) (fun c w => left3 m c w)

theorem own5 : Pipeline.OwnSemFacts spec5 (osem 2) := by decide +kernel

set_option backward.isDefEq.respectTransparency.types false in
def reg5 (R : Dev nD → sProp 𝕄) : RegionSeg (pcfgs (F := F)) adm (pdats m) () defs₀ 𝒱₀ L lv 5 :=
  RegionSeg.ofTalk (pcfgs (F := F)) adm (pdats m) () defs₀ 𝒱₀ L lv 5 (osem 2) own5 ∅ (off 5) (Finset.empty_subset _) kit5 rfl
    (fun c => (talk2.body_obligation c _ (PV m) (in2 m c) talk2_scratch talk2_row).loose)
    (fun c => after 2 c) (fun c => dues 2 c) (fun c => add_after 2 c talk2 rfl _ (PV m)) (fun c => talk2.owed_finish c _ (PV m)) (fun _ => rfl)
    (fun c w => (pdats m 5 c).share_full (fun _ => rfl) w)
    (w5 m) (w6 m) (fun c b hb => other5 m c b (by rw [Finset.sdiff_empty] at hb; exact hb))
    (fun c => seed (PV m) 2 c) (fun c => semVal (barC 2 c) 0) (fun c => ready (PV m) 2 c) (fun c => semVal (barC 2 c) 0)
    (fun c => talk_open c 2 (PV m)) (fun c => talk_in c talk2 _ (PV m) _) (fun c => talk_out c talk2 _ (PV m) _)
    (fun c => by iintro H; imodintro; iexact H)
    (fun _ => 0) ⟨fun c w s => mem_L_any c _, fun c w s => lv_staging c _ (low5 w s), fun c t g i h => above_split 2 c t g i h⟩
    R (fun _ _ => rfl) (fun c w => left5 m c w)

end Cert.KernelIdeal.AR

end
-- ==== Proof.KernelIdeal.Deal.lean ====
/- The launch: the protocol's cells, tokens and credits, made once and dealt to the devices. -/
module

public import proofs.«01_k».proof.Proof.KernelIdeal.Talk

@[expose] public section

noncomputable section

namespace Cert.KernelIdeal.AR

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation RegionSeg)

variable {F : FTy → Type} [FloatOps F]

local notation "𝕄" => MT nD τ sig Unit (Elt F) ℕ UU ℕ

/-! ## A device between two calls -/

/-! ## Cells and tokens -/

theorem barC_inj : Function.Injective fun x : Dev nD × Fin 3 => barC x.2 x.1 := fun x y h => by
  have h' : (x.1, ((x.2, none) : SCell)) = (y.1, (y.2, none)) := cell_inj h
  exact Prod.ext (congrArg (fun z : Dev nD × SCell => z.1) h') (congrArg (fun z : Dev nD × SCell => z.2.1) h')

theorem dmaC_inj : Function.Injective fun x : (Dev nD × Fin 3) × (Fin 4 × Dev nD) => dmaC x.1.2 x.2.1 x.1.1 x.2.2 := fun x y h => by
  have h' : (x.1.1, ((x.1.2, some x.2) : SCell)) = (y.1.1, (y.1.2, some y.2)) := cell_inj h
  have h2 : (some x.2 : Option (Fin 4 × Dev nD)) = some y.2 := congrArg (fun z : Dev nD × SCell => z.2.2) h'
  exact Prod.ext (Prod.ext (congrArg (fun z : Dev nD × SCell => z.1) h') (congrArg (fun z : Dev nD × SCell => z.2.1) h')) (Option.some.inj h2)

/-- The barrier cells, counting from the launch; the copy cells, which count when their call opens them. -/
def barS : Finset (GSem nD τ sig) := Finset.univ.map ⟨_, barC_inj⟩
def dmaS : Finset (GSem nD τ sig) := Finset.univ.map ⟨_, dmaC_inj⟩

theorem bar_mem (j : Fin 3) (c : Dev nD) : barC j c ∈ barS := Finset.mem_map.mpr ⟨(c, j), Finset.mem_univ _, rfl⟩
theorem dma_mem (j : Fin 3) (k : Fin 4) (c p : Dev nD) : dmaC j k c p ∈ dmaS := Finset.mem_map.mpr ⟨((c, j), (k, p)), Finset.mem_univ _, rfl⟩

theorem cells_apart : Disjoint barS dmaS := by
  rw [Finset.disjoint_left]
  rintro g h h'
  obtain ⟨x, -, rfl⟩ := Finset.mem_map.mp h
  obtain ⟨y, -, e⟩ := Finset.mem_map.mp h'
  have e' : (y.1.1, ((y.1.2, some y.2) : SCell)) = (x.1, (x.2, none)) := cell_inj e
  cases congrArg (fun z : Dev nD × SCell => z.2.2) e'

theorem cell_mem (x : Dev nD × SCell) : cell x ∈ barS ∪ dmaS := by
  rcases x with ⟨c, j, _ | ⟨k, p⟩⟩
  · exact Finset.mem_union_left _ (bar_mem j c)
  · exact Finset.mem_union_right _ (dma_mem j k c p)

/-- The cell that device `c` credits for peer `p` in call `j`: the announcement, and the two ends of the two copies. -/
def tokAt (c : Dev nD) (j : Fin 3) : Fin 5 → Dev nD → (Dev nD × SCell) × Dev nD
  | 0, p => ((p, (j, none)), c)
  | 1, p => ((c, (j, some (0, p))), 0)
  | 2, p => ((p, (j, some (1, c))), 0)
  | 3, p => ((c, (j, some (2, p))), 0)
  | 4, p => ((p, (j, some (3, c))), 0)
def sortOf : Option (Fin 4 × Dev nD) → Fin 5
  | none => 0
  | some (k, _) => k.succ
theorem tokAt_j (c : Dev nD) (j : Fin 3) (k : Fin 5) (p : Dev nD) : (tokAt c j k p).1.2.1 = j := by fin_cases k <;> rfl
theorem tokAt_k (c : Dev nD) (j : Fin 3) (k : Fin 5) (p : Dev nD) : sortOf (tokAt c j k p).1.2.2 = k := by fin_cases k <;> rfl
theorem tokAt_c (c c' : Dev nD) (j : Fin 3) (k : Fin 5) (p p' : Dev nD) (h : tokAt c j k p = tokAt c' j k p') : c = c' ∧ p = p' := by
  fin_cases k <;> simp [tokAt] at h <;> first | exact h | exact h.symm

abbrev TokIx := (Dev nD × Fin 3) × (Fin 5 × Dev nD)
def tok (x : TokIx) : GSem nD τ sig × ℕ × Dev nD := (cell (tokAt x.1.1 x.1.2 x.2.1 x.2.2).1, 0, (tokAt x.1.1 x.1.2 x.2.1 x.2.2).2)
theorem tok_inj : Function.Injective tok := by
  rintro ⟨⟨c, j⟩, k, p⟩ ⟨⟨c', j'⟩, k', p'⟩ h
  have h1 : (tokAt c j k p).1 = (tokAt c' j' k' p').1 := cell_inj (congrArg Prod.fst h)
  have h2 : (tokAt c j k p).2 = (tokAt c' j' k' p').2 := congrArg (fun z : GSem nD τ sig × ℕ × Dev nD => z.2.2) h
  obtain rfl : j = j' := by rw [← tokAt_j c j k p, h1, tokAt_j]
  obtain rfl : k = k' := by rw [← tokAt_k c j k p, h1, tokAt_k]
  obtain ⟨rfl, rfl⟩ := tokAt_c c c' j k p p' (Prod.ext h1 h2)
  rfl
def tokS : Finset (GSem nD τ sig × ℕ × Dev nD) := Finset.univ.map ⟨tok, tok_inj⟩

theorem bigSep_five (Ψ : Fin 5 → sProp 𝕄) : bigSep Finset.univ Ψ = iprop(Ψ 0 ∗ Ψ 1 ∗ Ψ 2 ∗ Ψ 3 ∗ Ψ 4) :=
  bigSep_univ_eq_bigSepL [(0 : Fin 5), (1 : Fin 5), (2 : Fin 5), (3 : Fin 5), (4 : Fin 5)] (by decide) (by decide) Ψ
theorem bigSep_three (Ψ : Fin 3 → sProp 𝕄) : bigSep Finset.univ Ψ = iprop(Ψ 0 ∗ Ψ 1 ∗ Ψ 2) :=
  bigSep_univ_eq_bigSepL [(0 : Fin 3), (1 : Fin 3), (2 : Fin 3)] (by decide) (by decide) Ψ

theorem drop_own (c : Dev nD) (X : Dev nD → sProp 𝕄) : bigSep Finset.univ X ⊢ others c X := by
  rw [split_own c X]
  iintro ⟨-, H⟩
  iexact H

theorem deal_toks : bigSep tokS (fun x => (dutyTok ER x.1 x.2.1 x.2.2 : sProp 𝕄))
    ⊢ bigSep Finset.univ fun x : Dev nD × Fin 3 => (toks x.2 x.1 : sProp 𝕄) := by
  unfold tokS
  rw [bigSep_map, bigSep_univ_prod]
  refine mono_over fun x => ?_
  rw [bigSep_univ_prod, bigSep_five]
  unfold toks
  iintro ⟨H0, H1, H2, H3, H4⟩
  isplitl [H0]; · iapply (drop_own x.1 fun p => (dutyTok ER (barC x.2 p) 0 x.1 : sProp 𝕄)); iexact H0
  isplitl [H1 H2]
  · isplitl [H1]; · iapply (drop_own x.1 fun p => (dutyTok ER (dmaC x.2 0 x.1 p) 0 0 : sProp 𝕄)); iexact H1
    iapply (drop_own x.1 fun p => (dutyTok ER (dmaC x.2 1 p x.1) 0 0 : sProp 𝕄)); iexact H2
  · isplitl [H3]; · iapply (drop_own x.1 fun p => (dutyTok ER (dmaC x.2 2 x.1 p) 0 0 : sProp 𝕄)); iexact H3
    iapply (drop_own x.1 fun p => (dutyTok ER (dmaC x.2 3 p x.1) 0 0 : sProp 𝕄)); iexact H4

theorem deal_pos : bigSep barS (fun g => (atPos ER g 0 ∅ 0 : sProp 𝕄))
    ⊢ bigSep Finset.univ fun x : Dev nD × Fin 3 => (atPos ER (barC x.2 x.1) 0 ∅ 0 : sProp 𝕄) := by
  unfold barS
  rw [bigSep_map]
  exact .rfl
theorem deal_reached : bigSep barS (fun g => (reached ER g 0 : sProp 𝕄))
    ⊢ bigSep Finset.univ fun x : Dev nD × Fin 3 => (reached ER (barC x.2 x.1) 0 : sProp 𝕄) := by
  unfold barS
  rw [bigSep_map]
  exact .rfl
theorem deal_vals : (bigSep Finset.univ fun x : Dev nD × Fin 3 => (semVal (barC x.2 x.1) 0 : sProp 𝕄))
    ⊢ bigSep barS (fun g => (semVal g 0 : sProp 𝕄)) := by
  unfold barS
  rw [bigSep_map]
  exact .rfl
theorem deal_open : bigSep dmaS (fun g => (openTok ER g : sProp 𝕄))
    ⊢ bigSep Finset.univ fun x : Dev nD × Fin 3 => bigSep Finset.univ fun y : Fin 4 × Dev nD => (openTok ER (dmaC x.2 y.1 x.1 y.2) : sProp 𝕄) := by
  unfold dmaS
  rw [bigSep_map, bigSep_univ_prod]
  exact .rfl

theorem spread {ι : Type} [Fintype ι] [DecidableEq ι] (C : sProp 𝕄) [BI.Persistent C] (Φ : ι → sProp 𝕄) (h : ∀ x, C ⊢ Φ x) :
    C ⊢ bigSep Finset.univ Φ :=
  BIBase.Entails.trans (bigSep_of_persistent Finset.univ C) (mono_over h)

theorem deal_invs (PV : Fin 3 → Dev nD → Vec F S64x2048 .f32) (K : GSem nD τ sig → ℕ) :
    (bigSep (barS ∪ dmaS) fun g => cellInv ER (Rd (F := F) PV) (K g) g)
      ⊢ bigSep Finset.univ fun x : Dev nD × SCell => cellInv ER (Rd (F := F) PV) (K (cell x)) (cell x) :=
  spread _ _ fun x => bigSep_elim (cell_mem x)

/-! ## The credits -/

/-- Tallies on a device's own cells only. -/
def Home (c : Dev nD) (T : Dues) : Prop := ∀ g : GSem nD τ sig, g.1 ≠ (c : Thread nD τ) → T g = 0
theorem Home.zero (c : Dev nD) : Home c 0 := fun _ _ => rfl
theorem Home.add {c : Dev nD} {T T' : Dues} (h : Home c T) (h' : Home c T') : Home c (T + T') := fun g hg => by
  rw [Pi.add_apply, h g hg, h' g hg, add_zero]
theorem Home.sum {c : Dev nD} {f : Dev nD → Dues} (h : ∀ p, Home c (f p)) : Home c (∑ p, f p) := fun g hg => by
  rw [Finset.sum_apply]; exact Finset.sum_eq_zero fun p _ => h p g hg
theorem Home.tally (c : Dev nD) (s : SemLoc sig) (n : ℕ) : Home c (tallyAt ((c : Thread nD τ), s) () n) := fun g hg =>
  tallyAt_ne_cell (fun h => hg (congrArg Prod.fst h)) () n

/-- What device `c` waits for in call `j`. -/
def want (j : Fin 3) (c : Dev nD) : Dues := tallyAt (barC j c) () 7 + ((∑ p, dueR j p c) + ∑ p, dueG j p c)

theorem want_home (j : Fin 3) (c : Dev nD) : Home c (want j c) :=
  (Home.tally c _ 7).add ((Home.sum fun p => by unfold dueR; split; exacts [Home.zero c, Home.tally c _ _]).add
    (Home.sum fun p => by unfold dueG; split; exacts [Home.zero c, Home.tally c _ _]))

theorem sum_bar (j : Fin 3) (p : Dev nD) : ∑ d, dueB j d p = tallyAt (barC j p) () 7 := by
  have h : ∀ s : Finset (Dev nD), (∑ d ∈ s, tallyAt (barC j p) () 1 : Dues) = tallyAt (barC j p) () s.card := fun s => by
    induction s using Finset.induction_on with
    | empty => rw [Finset.sum_empty, Finset.card_empty, tallyAt_zero]
    | insert a s ha ih => rw [Finset.sum_insert ha, ih, tallyAt_add, Finset.card_insert_of_notMem ha, Nat.add_comm]
  rw [← Finset.add_sum_erase _ _ (Finset.mem_univ p), show dueB j p p = 0 from if_pos rfl, zero_add]
  rw [Finset.sum_congr rfl fun d hd => (show dueB j d p = tallyAt (barC j p) () 1 from if_neg (Finset.ne_of_mem_erase hd)), h]
  rw [Finset.card_erase_of_mem (Finset.mem_univ p), Finset.card_univ, Fintype.card_fin]
  rfl

theorem sum_dues (j : Fin 3) : ∑ d, dues j d = ∑ d, want j d := by
  unfold dues want
  rw [Finset.sum_congr rfl fun d _ => by rw [dueL_peers, dueL_peers, dueL_peers]]
  rw [Finset.sum_add_distrib, Finset.sum_add_distrib, Finset.sum_add_distrib, Finset.sum_add_distrib]
  rw [Finset.sum_comm (f := fun d p => dueB j d p), Finset.sum_comm (f := fun d p => dueR j d p), Finset.sum_comm (f := fun d p => dueG j d p)]
  rw [Finset.sum_congr rfl fun p _ => sum_bar j p]

/-- What a device owes at the launch. -/
def owed₀ (c : Dev nD) : Dues := dues 0 c + after 0 c
def wants (c : Dev nD) : Dues := want 0 c + (want 2 c + want 1 c)

theorem launch_creds (c : Dev nD) : (Pipeline.launchCred owed₀ c : sProp 𝕄) = cred (wants c) := by
  refine Pipeline.launchCred_of_sum owed₀ wants ?_ (fun d g h => ?_) c
  · show ∑ d, (dues 0 d + (dues 2 d + dues 1 d)) = ∑ d, (want 0 d + (want 2 d + want 1 d))
    rw [Finset.sum_add_distrib, Finset.sum_add_distrib, Finset.sum_add_distrib, Finset.sum_add_distrib, sum_dues, sum_dues, sum_dues]
  · by_contra hg
    exact h (((want_home 0 d).add ((want_home 2 d).add (want_home 1 d))) g hg)

theorem cred_two (T T' : Dues) : (cred (T + T') : sProp 𝕄) ⊢ iprop(cred T ∗ cred T') := (cred_add T T').1

theorem want_creds (j : Fin 3) (c : Dev nD) : (cred (want j c) : sProp 𝕄) ⊢ creds j c := by
  have hR (p : Dev nD) : (cred (dueR j p c) : sProp 𝕄) ⊢ on c (fun p => cred (tallyAt (dmaC j 1 c p) () N)) p := by
    unfold dueR on
    by_cases h : p = c
    · subst h; rw [if_pos rfl, if_pos rfl, cred_zero]
    · rw [if_neg h, if_neg (Ne.symm h)]
  have hG (p : Dev nD) : (cred (dueG j p c) : sProp 𝕄) ⊢ on c (fun p => cred (tallyAt (dmaC j 3 c p) () N)) p := by
    unfold dueG on
    by_cases h : p = c
    · subst h; rw [if_pos rfl, if_pos rfl, cred_zero]
    · rw [if_neg h, if_neg (Ne.symm h)]
  unfold want creds others
  rw [bigSepL_peers, bigSepL_peers]
  iintro H
  ihave H' := (cred_two _ _) $$ H
  icases H' with ⟨HB, H⟩
  ihave H' := (cred_two _ _) $$ H
  icases H' with ⟨HR, HG⟩
  isplitl [HB]; · iexact HB
  isplitl [HR]
  · iapply (mono_over hR)
    iapply (Entails.of_eq (Pipeline.cred_finsetSum Finset.univ fun p => dueR j p c)); iexact HR
  · iapply (mono_over hG)
    iapply (Entails.of_eq (Pipeline.cred_finsetSum Finset.univ fun p => dueG j p c)); iexact HG

theorem deal_creds (c : Dev nD) : (Pipeline.launchCred owed₀ c : sProp 𝕄) ⊢ bigSep Finset.univ fun j : Fin 3 => creds j c := by
  rw [launch_creds, bigSep_three]
  unfold wants
  iintro H
  ihave H' := (cred_two _ _) $$ H
  icases H' with ⟨H0, H⟩
  ihave H' := (cred_two _ _) $$ H
  icases H' with ⟨H2, H1⟩
  isplitl [H0]; · iapply (want_creds 0 c); iexact H0
  isplitl [H1]; · iapply (want_creds 1 c); iexact H1
  iapply (want_creds 2 c); iexact H2

end Cert.KernelIdeal.AR

end
-- ==== Proof.KernelIdeal.Run.lean ====
/- The run: the six calls one after the other, from the launch to the end. -/
module

public import proofs.«01_k».proof.Proof.KernelIdeal.Segs
public import proofs.«01_k».proof.Proof.KernelIdeal.Deal

@[expose] public section

noncomputable section

namespace Cert.KernelIdeal.AR

open Idealize.ShloMosaic Cert.KernelIdeal Cert.KernelIdeal.Gen
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx
open Idealize.ShloMosaic.Pipeline (Dat Cfg Window BodyObligation RegionSeg)

variable {F : FTy → Type} [FloatOps F]

local notation "𝕄" => MT nD τ sig Unit (Elt F) ℕ UU ℕ

/-! ## A device between two calls -/

variable (m : (ℓ : Loc nD τ sig) → Buf (Elt F) ℓ) (ρ : Dev nD → PrngReg)

/-! ## From one call to the next -/

/-- A device's part of the protocol of call `j` before it, and the barrier at zero after it. -/
abbrev sd (j : Fin 3) (c : Dev nD) : sProp 𝕄 := seed (PV m) j c
abbrev bz (j : Fin 3) (c : Dev nD) : sProp 𝕄 := semVal (barC j c) 0

def P0 (c : Dev nD) : sProp 𝕄 := iprop(sd m 0 c ∗ (sd m 1 c ∗ sd m 2 c))
def P1 (c : Dev nD) : sProp 𝕄 := iprop(bz 0 c ∗ (sd m 1 c ∗ sd m 2 c))
def P1' (c : Dev nD) : sProp 𝕄 := iprop(sd m 1 c ∗ (bz 0 c ∗ sd m 2 c))
def P2 (c : Dev nD) : sProp 𝕄 := iprop(bz 1 c ∗ (bz 0 c ∗ sd m 2 c))
def P2' (c : Dev nD) : sProp 𝕄 := iprop(sd m 2 c ∗ (bz 1 c ∗ bz 0 c))
def P3 (c : Dev nD) : sProp 𝕄 := iprop(bz 2 c ∗ (bz 1 c ∗ bz 0 c))

theorem P1_turn (c : Dev nD) : P1 m c ⊢ P1' m c := by
  unfold P1 P1'
  iintro ⟨Hb, Hs, Ht⟩
  isplitl [Hs]; · iexact Hs
  isplitl [Hb]; · iexact Hb
  iexact Ht
theorem P2_turn (c : Dev nD) : P2 m c ⊢ P2' m c := by
  unfold P2 P2'
  iintro ⟨Hb, Hs, Ht⟩
  isplitl [Ht]; · iexact Ht
  isplitl [Hb]; · iexact Hb
  iexact Hs

abbrev R0 := reg0 m (P0 m)
abbrev R1 := reg1 m (fun c => iprop(sd m 1 c ∗ sd m 2 c))
abbrev R2 := reg2 m (P1' m)
abbrev R3 := reg3 m (fun c => iprop(bz 0 c ∗ sd m 2 c))
abbrev R4 := reg4 m (P2' m)
abbrev R5 := reg5 m (fun c => iprop(bz 1 c ∗ bz 0 c))

theorem sub0 : Pipeline.arrRefs (τ := τ) spec0 ⊆ Pipeline.ucRefs τ sig := Pipeline.arrRefs_sub_ucRefs _ winFacts0.arr_unscoped
theorem sub1 : Pipeline.arrRefs (τ := τ) spec1 ⊆ Pipeline.ucRefs τ sig := Pipeline.arrRefs_sub_ucRefs _ winFacts1.arr_unscoped
theorem sub2 : Pipeline.arrRefs (τ := τ) spec2 ⊆ Pipeline.ucRefs τ sig := Pipeline.arrRefs_sub_ucRefs _ winFacts2.arr_unscoped
theorem sub3 : Pipeline.arrRefs (τ := τ) spec3 ⊆ Pipeline.ucRefs τ sig := Pipeline.arrRefs_sub_ucRefs _ winFacts3.arr_unscoped
theorem sub4 : Pipeline.arrRefs (τ := τ) spec4 ⊆ Pipeline.ucRefs τ sig := Pipeline.arrRefs_sub_ucRefs _ winFacts4.arr_unscoped
theorem sub5 : Pipeline.arrRefs (τ := τ) spec5 ⊆ Pipeline.ucRefs τ sig := Pipeline.arrRefs_sub_ucRefs _ winFacts5.arr_unscoped

theorem in_R0 (c : Dev nD) : St c (w0 m c) (P0 m c) (owed₀ c) ⊢ (R0 m).pre c := into_layer c sub0 _ _ _
theorem out_R0 (c : Dev nD) : (R0 m).post c ⊢ St c (w1 m c) (P0 m c) (after 0 c + dues 0 c) :=
  BIBase.Entails.trans (from_layer c sub0 (w0 m c) (w1 m c) (P0 m c) (dues 0 c + after 0 c) (other0 m c)) (St_mono c _ .rfl (add_comm _ _))
theorem in_R1 (c : Dev nD) : St c (w1 m c) (P0 m c) (after 0 c + dues 0 c) ⊢ (R1 m).pre c := into_talk c sub1 _ _ _ _
theorem out_R1 (c : Dev nD) : (R1 m).post c ⊢ St c (w2 m c) (P1' m c) (dues 1 c + after 1 c) :=
  BIBase.Entails.trans (from_talk c sub1 (w2 m c) (bz 0 c) iprop(sd m 1 c ∗ sd m 2 c) (after 0 c)) (St_mono c _ (P1_turn m c) (add_comm _ _))
theorem in_R2 (c : Dev nD) : St c (w2 m c) (P1' m c) (dues 1 c + after 1 c) ⊢ (R2 m).pre c := into_layer c sub2 _ _ _
theorem out_R2 (c : Dev nD) : (R2 m).post c ⊢ St c (w3 m c) (P1' m c) (after 1 c + dues 1 c) :=
  BIBase.Entails.trans (from_layer c sub2 (w2 m c) (w3 m c) (P1' m c) (dues 1 c + after 1 c) (other2 m c)) (St_mono c _ .rfl (add_comm _ _))
theorem in_R3 (c : Dev nD) : St c (w3 m c) (P1' m c) (after 1 c + dues 1 c) ⊢ (R3 m).pre c := into_talk c sub3 _ _ _ _
theorem out_R3 (c : Dev nD) : (R3 m).post c ⊢ St c (w4 m c) (P2' m c) (dues 2 c + after 2 c) :=
  BIBase.Entails.trans (from_talk c sub3 (w4 m c) (bz 1 c) iprop(bz 0 c ∗ sd m 2 c) (after 1 c)) (St_mono c _ (P2_turn m c) (add_zero _).symm)
theorem in_R4 (c : Dev nD) : St c (w4 m c) (P2' m c) (dues 2 c + after 2 c) ⊢ (R4 m).pre c := into_layer c sub4 _ _ _
theorem out_R4 (c : Dev nD) : (R4 m).post c ⊢ St c (w5 m c) (P2' m c) (after 2 c + dues 2 c) :=
  BIBase.Entails.trans (from_layer c sub4 (w4 m c) (w5 m c) (P2' m c) (dues 2 c + after 2 c) (other4 m c)) (St_mono c _ .rfl (add_comm _ _))
theorem in_R5 (c : Dev nD) : St c (w5 m c) (P2' m c) (after 2 c + dues 2 c) ⊢ (R5 m).pre c := into_talk c sub5 _ _ _ _

/-- A device at the end: its arrays, and its three barriers at zero. -/
def fin (c : Dev nD) : sProp 𝕄 := iprop(StableHlo.held (c.tc : Thread nD τ) (Pipeline.ucRefs τ sig) (w6 m c) ∗ P3 c)
theorem out_R5 (c : Dev nD) : (R5 m).post c ⊢ iprop(fin m c ∗ ∃ W, owes (c.tc : Thread nD τ) (0 : CellTallies nD τ sig Unit) W) := by
  refine BIBase.Entails.trans (from_talk c sub5 (w6 m c) (bz 2 c) iprop(bz 1 c ∗ bz 0 c) (after 2 c)) ?_
  unfold St fin P3
  iintro ⟨Hh, -, HP, HO⟩
  isplitr [HO]
  · isplitl [Hh]; · iexact Hh
    iexact HP
  iexact HO

/-! ## The launch -/

/-- The launch's records: the pipelines', and the all-reduces'. -/
def u₀ : UU := (initOf (Pipeline.cells cfgs cellOf_inj) (Pipeline.launchToks cfgs cellOf_inj), launchOf barS dmaS tokS)
/-- The all-reduces' records, at device 0 until they are dealt. -/
def G (c : Dev nD) : sProp 𝕄 := if (0 : Dev nD) = c then BI.own (ER (launchOf barS dmaS tokS)) else iprop(emp)
theorem G_all : bigSep Finset.univ (G (F := F)) = BI.own (ER (launchOf barS dmaS tokS)) := by
  rw [bigSep_univ_at _ (0 : Dev nD), bigSep_congr (s := Finset.univ.erase 0) (Φ := G (F := F)) (Ψ := fun _ => (BI.emp : sProp 𝕄))
      fun c hc => (if_neg (Finset.ne_of_mem_erase hc).symm : G (F := F) c = iprop(emp)), BI.bigSep_emp_const]
  unfold G
  rw [if_pos rfl]
  exact BI.equiv_iff.mp sep_emp

theorem unscoped_bars : (Finset.univ.filter fun sm : SemLoc sig => ¬ sm.isScoped .tc) = (Finset.univ : Finset (Fin 3)).map ⟨fun j => .reg (bar j), by decide⟩ := by
  decide +kernel
theorem unscoped_vals (c : Dev nD) : (unscopedSems0 c : sProp 𝕄) = bigSep Finset.univ fun j : Fin 3 => semVal (barC j c) 0 := by
  unfold unscopedSems0
  rw [unscoped_bars, bigSep_map]
  rfl

/-- A device's part of the protocol of call `j`, but for its credits and what all know. -/
def own₀ (j : Fin 3) (c : Dev nD) : sProp 𝕄 :=
  iprop(atPos ER (barC j c) 0 ∅ 0 ∗ (bigSep Finset.univ fun x : Fin 4 × Dev nD => openTok ER (dmaC j x.1 c x.2)) ∗ toks j c)

theorem plant (PV : Fin 3 → Dev nD → Vec F S64x2048 .f32) (K : GSem nD τ sig → ℕ) (j : Fin 3) (c : Dev nD) :
    iprop(world PV K ∗ (own₀ j c ∗ creds j c)) ⊢ seed PV j c := by
  unfold own₀ seed
  iintro ⟨#HW, ⟨Ha, Ho, Ht⟩, Hc⟩
  iexists K
  isplitr; · iexact HW
  isplitl [Ha]; · iexact Ha
  isplitl [Ho]; · iexact Ho
  isplitl [Ht]; · iexact Ht
  iexact Hc

/-- What a device holds at the launch. -/
def given (c : Dev nD) : sProp 𝕄 :=
  iprop(StableHlo.held (c.tc : Thread nD τ) (Pipeline.ucRefs τ sig) (w0 m c) ∗ (∃ r, prngReg c r) ∗ (bigSep Finset.univ fun j : Fin 3 => creds j c) ∗ owing c (owed₀ c))

theorem first (K : GSem nD τ sig → ℕ) (c : Dev nD) :
    iprop(world (PV m) K ∗ ((bigSep Finset.univ fun j : Fin 3 => own₀ j c) ∗ given m c)) ⊢ St c (w0 m c) (P0 m c) (owed₀ c) := by
  unfold given St P0
  rw [bigSep_three, bigSep_three]
  iintro ⟨#HW, ⟨Ho0, Ho1, Ho2⟩, Hh, Hr, ⟨Hc0, Hc1, Hc2⟩, HO⟩
  isplitl [Hh]; · iexact Hh
  isplitl [Hr]; · iexact Hr
  isplitr [HO]
  · isplitl [Ho0 Hc0]
    · iapply (plant (PV m) K 0 c)
      isplitr; · iexact HW
      isplitl [Ho0]; · iexact Ho0
      iexact Hc0
    isplitl [Ho1 Hc1]
    · iapply (plant (PV m) K 1 c)
      isplitr; · iexact HW
      isplitl [Ho1]; · iexact Ho1
      iexact Hc1
    · iapply (plant (PV m) K 2 c)
      isplitr; · iexact HW
      isplitl [Ho2]; · iexact Ho2
      iexact Hc2
  iexact HO

/-- What one device gets at the launch, sorted. -/
theorem sorted (c : Dev nD) : iprop(unscopedBufs c (fun b => m ((c.tc : Thread nD τ).loc b)) ∗ unscopedSems0 c
      ∗ owes (c.tc : Thread nD τ) (owed₀ c) ∅ ∗ Pipeline.launchCred owed₀ c ∗ prngReg c (ρ c) ∗ G c)
    ⊢ iprop(given m c ∗ ((bigSep Finset.univ fun j : Fin 3 => semVal (barC j c) 0) ∗ G (F := F) c)) := by
  rw [show unscopedBufs c (fun b => m ((c.tc : Thread nD τ).loc b)) = StableHlo.held (c.tc : Thread nD τ) (Pipeline.ucRefs τ sig) (w0 m c)
    from Pipeline.unscopedBufs_held c (w0 m c), unscoped_vals]
  unfold given
  iintro ⟨Hh, Hv, HO, Hc, Hr, HG⟩
  isplitr [Hv HG]
  · isplitl [Hh]; · iexact Hh
    isplitl [Hr]; · iexists (ρ c); iexact Hr
    isplitl [Hc]; · iapply (deal_creds c); iexact Hc
    iexists ∅; iexact HO
  isplitl [Hv]; · iexact Hv
  iexact HG

theorem pairs (X : Dev nD → Fin 3 → sProp 𝕄) :
    (bigSep Finset.univ fun x : Dev nD × Fin 3 => X x.1 x.2) = bigSep Finset.univ fun c => bigSep Finset.univ fun j => X c j := bigSep_univ_prod _

theorem gather : iprop((bigSep Finset.univ fun x : Dev nD × Fin 3 => (atPos ER (barC x.2 x.1) 0 ∅ 0 : sProp 𝕄))
      ∗ (bigSep Finset.univ fun x : Dev nD × Fin 3 => bigSep Finset.univ fun y : Fin 4 × Dev nD => (openTok ER (dmaC x.2 y.1 x.1 y.2) : sProp 𝕄))
      ∗ bigSep Finset.univ fun x : Dev nD × Fin 3 => (toks x.2 x.1 : sProp 𝕄))
    ⊢ bigSep Finset.univ fun c : Dev nD => bigSep Finset.univ fun j : Fin 3 => (own₀ j c : sProp 𝕄) := by
  rw [← pairs, ← bigSep_sep', ← bigSep_sep']
  exact mono_over fun x => .rfl

theorem sorted_all : (bigSep Finset.univ fun c : Dev nD => iprop(unscopedBufs c (fun b => m ((c.tc : Thread nD τ).loc b)) ∗ unscopedSems0 c
          ∗ owes (c.tc : Thread nD τ) (owed₀ c) ∅ ∗ Pipeline.launchCred owed₀ c ∗ prngReg c (ρ c) ∗ G c))
    ⊢ iprop(bigSep Finset.univ (given m) ∗ (bigSep Finset.univ fun x : Dev nD × Fin 3 => (semVal (barC x.2 x.1) 0 : sProp 𝕄))
        ∗ BI.own (ER (launchOf barS dmaS tokS))) := by
  rw [← G_all, pairs fun c j => semVal (barC j c) 0, ← bigSep_sep', ← bigSep_sep']
  exact mono_over fun c => sorted m ρ c

theorem init : iprop((bigSep Finset.univ fun c : Dev nD => iprop(unscopedBufs c (fun b => m ((c.tc : Thread nD τ).loc b)) ∗ unscopedSems0 c
          ∗ owes (c.tc : Thread nD τ) (owed₀ c) ∅ ∗ Pipeline.launchCred owed₀ c ∗ prngReg c (ρ c) ∗ G c)) ∗ levAts L lv)
    ⊢ (|={Set.univ}=> bigSep Finset.univ (fun c => St c (w0 m c) (P0 m c) (owed₀ c)) : sProp 𝕄) := by
  iintro ⟨H, #HL⟩
  ihave H := (sorted_all m ρ) $$ H
  icases H with ⟨Hg, Hv, Hu⟩
  imod (Rounds.fund_launch ER (Rd (PV m)) cells_apart (fun g _ h => h) tokS) $$ [Hv Hu] with ⟨%K, -, #HI, #HR, Ha, Ho, Ht⟩
  · isplitl [Hv]; · iapply deal_vals; iexact Hv
    iexact Hu
  imodintro
  iapply (bigSep_with_persistent (R := world (PV m) K) (Φ := fun c => iprop((bigSep Finset.univ fun j : Fin 3 => own₀ j c) ∗ given m c)) fun c _ => first m K c)
  isplitr
  · unfold world
    isplitr; · iapply (deal_invs (PV m) K); iexact HI
    isplitr; · iapply deal_reached; iexact HR
    iexact HL
  rw [bigSep_sep']
  isplitr [Hg]
  · iapply gather
    isplitl [Ha]; · iapply deal_pos; iexact Ha
    isplitl [Ho]; · iapply deal_open; iexact Ho
    iapply deal_toks; iexact Ht
  iexact Hg

/-! ## The run -/

theorem unscoped_eq (sm : SemLoc sig) (h : sm.isScoped .tc = false) : ∃ j, sm = .reg (bar j) := by
  have hm : sm ∈ (Finset.univ.filter fun sm : SemLoc sig => ¬ sm.isScoped .tc) := Finset.mem_filter.mpr ⟨Finset.mem_univ _, by rw [h]; decide⟩
  rw [unscoped_bars] at hm
  obtain ⟨j, -, e⟩ := Finset.mem_map.mp hm
  exact ⟨j, e.symm⟩

theorem zero_read (j : Fin 3) (c : Dev nD) (s' : Phys nD τ sig (Elt F)) : iprop(semVal (barC j c) 0 ∗ SI s') ⊢ (iprop(⌜s'.mem.sem (barC j c) = 0⌝ ∗ SI s') : sProp 𝕄) := by
  iintro ⟨Hb, HSI⟩
  icombine HSI Hb gives %hb
  isplitr
  · ipureintro; simpa using hb
  iexact HSI

/-- What a device reads at the end. -/
def Ends' (c : Dev nD) (s : MemSt nD τ sig (Elt F)) : Prop :=
  (∀ b ∈ Pipeline.ucRefs τ sig, s.mem (c, b) = w6 m c b) ∧ ∀ j, s.sem (barC j c) = 0

theorem fin_read (c : Dev nD) (s' : Phys nD τ sig (Elt F)) : iprop(fin m c ∗ SI s') ⊢ (|={Set.univ}=> iprop(⌜Ends' m c s'.mem⌝ ∗ SI s') : sProp 𝕄) := by
  unfold fin P3 StableHlo.held
  iintro ⟨⟨Hh, H2, H1, H0⟩, HSI⟩
  ihave H := (zero_read 0 c s') $$ [H0 HSI]
  · isplitl [H0] <;> iassumption
  icases H with ⟨%h0, HSI⟩
  ihave H := (zero_read 1 c s') $$ [H1 HSI]
  · isplitl [H1] <;> iassumption
  icases H with ⟨%h1, HSI⟩
  ihave H := (zero_read 2 c s') $$ [H2 HSI]
  · isplitl [H2] <;> iassumption
  icases H with ⟨%h2, HSI⟩
  ihave Hr := (pointsTo_read_all (Pipeline.ucRefs τ sig) (fun b => ((c : Thread nD τ).1, b)) (w6 m c) s') $$ [Hh HSI]
  · isplitl [Hh] <;> iassumption
  icases Hr with ⟨%h, HSI⟩
  imodintro
  isplitr
  · ipureintro
    refine ⟨h, fun j => ?_⟩
    fin_cases j
    exacts [h0, h1, h2]
  iexact HSI

set_option backward.isDefEq.respectTransparency.types false in
/-- From any memory with zero counters the program ends, every device's arrays hold what the six calls leave, and every
    counter is zero. -/
theorem run_all : θ_run defs (onTc (τ := τ) (main (F := F))) ⟨m, fun _ => 0, ρ⟩
    (fun r => (∀ (c : Dev nD), ∀ b ∈ Pipeline.ucRefs τ sig, r.2.mem (c, b) = w6 m c b) ∧ r.2.sem = fun _ => 0) :=
  Pipeline.θ_run_regions_kit_sems (pcfgs (F := F)) adm (pdats m) () cellOf_inj EP defs₀ 𝒱₀ L lv m ρ main
    [.region (R0 m), .region (R1 m), .region (R2 m), .region (R3 m), .region (R4 m), .region (R5 m)]
    (fun c Q => by rw [main_segs adm (pdats m) () 𝒱₀ L lv (R0 m) (R1 m) (R2 m) (R3 m) (R4 m) (R5 m) c])
    (by simp only [Pipeline.Seg.pipes_region, Pipeline.Seg.pipes_nil]; decide)
    (O₀ := owed₀) (hL := fun g h => if_neg h) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := fun c => St c (w0 m c) (P0 m c) (owed₀ c)) (Tₙ := fin m)
    (hch := ⟨fun c => in_R0 m c, fun c => BIBase.Entails.trans (out_R0 m c) (in_R1 m c), fun c => BIBase.Entails.trans (out_R1 m c) (in_R2 m c),
      fun c => BIBase.Entails.trans (out_R2 m c) (in_R3 m c), fun c => BIBase.Entails.trans (out_R3 m c) (in_R4 m c),
      fun c => BIBase.Entails.trans (out_R4 m c) (in_R5 m c), fun c => out_R5 m c⟩)
    (hinit := init m ρ)
    (QY := Ends' m)
    (hfin := fin_read m)
    (hQ := fun s h hs => ⟨fun c => (h c).1, sem_eq_zero hs fun c sm hsm => by
      obtain ⟨j, rfl⟩ := unscoped_eq sm hsm
      exact (h c).2 j⟩)

end Cert.KernelIdeal.AR

end
-- ==== Proof.KernelIdeal.Frame.lean ====
/- The end of a run: the program's arguments as they were, and its result. -/
module

public import proofs.«01_k».proof.Proof.KernelIdeal.Run

@[expose] public section

noncomputable section

namespace Cert.KernelIdeal.AR

open Idealize.ShloMosaic Cert.KernelIdeal Cert.KernelIdeal.Gen
open Idealize.ShloMosaic.TcCoe
open Idealize.SL.Sem

variable {F : FTy → Type} [FloatOps F]
variable (m : (ℓ : Loc nD τ sig) → Buf (Elt F) ℓ) (ρ : Dev nD → PrngReg)

/-- An array no call writes holds at the end what it held at the start. -/
theorem w6_old (c : Dev nD) (r : Ref sig .tc)
    (h : r ≠ main_v1 ∧ r ≠ main_v2 ∧ r ≠ main_v3 ∧ r ≠ main_v4 ∧ r ≠ main_v5 ∧ r ≠ main_v6) :
    w6 m c (Proc.devRef .tc r) = m ((c.tc : Thread nD τ).loc r) :=
  (at_old (w5 m c) main_v6 r h.2.2.2.2.2 _).trans <|
  (at_old (w4 m c) main_v5 r h.2.2.2.2.1 (p2 m c)).trans <|
  (at_old (w3 m c) main_v4 r h.2.2.2.1 (outOf (p1 m))).trans <|
  (at_old (w2 m c) main_v3 r h.2.2.1 (p1 m c)).trans <|
  (at_old (w1 m c) main_v2 r h.2.1 (outOf (p0 m))).trans <|
  at_old (w0 m c) main_v1 r h.1 (p0 m c)

theorem in_ucRefs (r : Ref sig .tc) (h : (Proc.devRef (τ := τ) .tc r).isScoped = false) : Proc.devRef .tc r ∈ Pipeline.ucRefs τ sig :=
  Finset.mem_filter.mpr ⟨StableHlo.devRef_mem_tcRefs r, by rw [h]; decide⟩

/-- Every run ends, the arguments as they were, the result the last all-reduce's, every semaphore at zero. -/
theorem run_ends : θ_run defs (onTc (τ := τ) (main (F := F))) ⟨m, fun _ => 0, ρ⟩ (fun r => (∀ c : Dev nD,
      r.2.mem ((c.tc : Thread nD τ).loc main_v6) = outOf (p2 m)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c =>
    ⟨(h.1 c _ (in_ucRefs main_v6 (by decide))).trans (at_new (w5 m c) main_v6 _),
     (h.1 c _ (in_ucRefs main_arg0 (by decide))).trans (w6_old m c main_arg0 (by decide)),
     (h.1 c _ (in_ucRefs main_arg1 (by decide))).trans (w6_old m c main_arg1 (by decide)),
     (h.1 c _ (in_ucRefs main_arg2 (by decide))).trans (w6_old m c main_arg2 (by decide)),
     (h.1 c _ (in_ucRefs main_arg3 (by decide))).trans (w6_old m c main_arg3 (by decide)),
     (h.1 c _ (in_ucRefs main_arg4 (by decide))).trans (w6_old m c main_arg4 (by decide)),
     (h.1 c _ (in_ucRefs main_arg5 (by decide))).trans (w6_old m c main_arg5 (by decide)),
     (h.1 c _ (in_ucRefs main_arg6 (by decide))).trans (w6_old m c main_arg6 (by decide))⟩, h.2⟩) (run_all m ρ)

end Cert.KernelIdeal.AR

end
-- ==== Proof.KernelIdeal.Value.lean ====
/- The value of the program at the ideal instance: each layer call followed by its all-reduce leaves, on every device, the
   reference's layer. Device `c` sums over its own 4096 hidden columns, eight blocks of 512 at a time; the all-reduce adds
   the eight devices' sums; together that is the sum over all 32768 hidden columns in another order. -/
module

public import proofs.«01_k».proof.Proof.KernelIdeal.Chain
public import proofs.«01_k».proof.Proof.Gen.ReferenceIdeal.Run
public import Idealize.ShloMosaic.Lib.MatmulPlain
public import Idealize.ShloMosaic.Lib.StackMember
public import Idealize.ShloMosaic.Lib.ValueIdx
public import Idealize.ShloMosaic.Lib.Layout
public import Idealize.ShloMosaic.Lib.Pipeline.Value

@[expose] public section

noncomputable section

namespace Cert.KernelIdeal.AR

open Idealize.ShloMosaic Cert.KernelIdeal Cert.KernelIdeal.Gen
open Idealize.ShloMosaic.TcCoe Idealize.ShloMosaic.ValueIdx
open Idealize.ShloMosaic.Pipeline (Window)

/-- An array of extended reals with `r` rows and `n` columns. -/
abbrev Mat (r n : ℕ) := FVec Ideal ⟨2, ![r, n]⟩ .f32

/-! ## Sums in blocks -/

/-- The place of position `q` of block `p`. -/
abbrev place {a b : ℕ} (p : Fin a) (q : Fin b) : Fin (a * b) :=
  ⟨b * p.val + q.val, lt_of_lt_of_le (Nat.add_lt_add_left q.isLt _)
    ((Nat.mul_le_mul_left b p.isLt).trans (le_of_eq (Nat.mul_comm b a)))⟩

/-- A sum over `a * b` positions, block by block. -/
theorem sum_blocks (a b : ℕ) (f : Fin (a * b) → EReal) : ∑ i, f i = ∑ p : Fin a, ∑ q : Fin b, f (place p q) := by
  rw [← Equiv.sum_comp finProdFinEquiv, Fintype.sum_prod_type]
  refine Finset.sum_congr rfl fun p _ => Finset.sum_congr rfl fun q _ => congrArg f (Fin.ext ?_)
  show q.val + b * p.val = b * p.val + q.val
  omega

/-! ## One hidden column's part of a layer -/

/-- What hidden column `h` adds to the entry at row `r` and column `j`. -/
def contrib {H : ℕ} (X : Mat 64 2048) (W : Mat 2048 H) (V : Mat H 2048) (r : Fin 64) (j : Fin 2048) (h : Fin H) : EReal :=
  max (∑ k : Fin 2048, X (ix2 r k) * W (ix2 k h)) 0 * V (ix2 h j)

theorem in_dims : dot_S64x2048_S2048x512_S64x512_1_0_0_1_n_n = DotDims.plain 64 2048 512 := rfl
theorem out_dims : dot_S64x512_S512x2048_S64x2048_1_0_0_1_n_n = DotDims.plain 64 512 2048 := rfl

/-- The partial product of a point, read at an index. -/
theorem pay_apply (x : Mat 64 2048) (w : Mat 2048 512) (v : Mat 512 2048) (r : Fin 64) (j : Fin 2048) :
    k0_pay1 (F := Ideal) x w v (ix2 r j) = ∑ h : Fin 512, contrib x w v r j h := by
  unfold k0_pay1
  simp only [shapeCast_self, matmul, in_dims, out_dims]
  refine (Ideal.matmul_plain_apply none _ _ _ r j).trans ?_
  rw [constant_apply, Ideal.ofBits_zero_f32, zero_add]
  refine Finset.sum_congr rfl fun h _ => congrArg (· * _) ?_
  rw [maximumf_apply, broadcast_apply]
  refine congrArg₂ max ?_ Ideal.ofBits_zero_f32
  refine (Ideal.matmul_plain_apply none _ _ _ r h).trans ?_
  rw [constant_apply, Ideal.ofBits_zero_f32, zero_add]

theorem later_apply (x : Mat 64 2048) (w : Mat 2048 512) (v : Mat 512 2048) (o : Mat 64 2048) (i : S64x2048.Idx) :
    k0_pay2 (F := Ideal) x w v o i = o i + k0_pay1 (F := Ideal) x w v i := by
  unfold k0_pay2
  simp only [shapeCast_self]
  rfl

/-! ## The reference's layer -/

/-- The reference's layer: a product, its positive part, a product. -/
def refLayer (X : Mat 64 2048) (W : Mat 2048 32768) (V : Mat 32768 2048) : Mat 64 2048 :=
  Host.dotGeneral Cert.ReferenceIdeal.dot_S64x32768_S32768x2048_S64x2048_1_0_0_1_n_n none
    (maximumf (Host.dotGeneral Cert.ReferenceIdeal.dot_S64x2048_S2048x32768_S64x32768_1_0_0_1_n_n none X W)
      (broadcastInDim Cert.ReferenceIdeal.S64x32768 ![] Cert.ReferenceIdeal.Gen.bcast_S_S64x32768
        (constant Cert.ReferenceIdeal.S_ .f32 0x00000000#32))) V

theorem ref_in : Cert.ReferenceIdeal.dot_S64x2048_S2048x32768_S64x32768_1_0_0_1_n_n = DotDims.plain 64 2048 32768 := rfl
theorem ref_out : Cert.ReferenceIdeal.dot_S64x32768_S32768x2048_S64x2048_1_0_0_1_n_n = DotDims.plain 64 32768 2048 := rfl

theorem refLayer_apply (X : Mat 64 2048) (W : Mat 2048 32768) (V : Mat 32768 2048) (r : Fin 64) (j : Fin 2048) :
    refLayer X W V (ix2 r j) = ∑ h : Fin 32768, contrib X W V r j h := by
  unfold refLayer
  rw [ref_in, ref_out]
  refine (StackMember.dotGeneral_plain_apply none _ _ r j).trans ?_
  refine Finset.sum_congr rfl fun h _ => congrArg (· * _) ?_
  rw [maximumf_apply]
  exact congrArg₂ max (StackMember.dotGeneral_plain_apply none _ _ r h) Ideal.ofBits_zero_f32

/-! ## The all-reduce -/

/-- The sum of the eight slots, read at an index. -/
theorem red_apply (V : Dev nD → Vec Ideal S64x2048 .f32) (c : Dev nD) (r : Fin 64) (y : Fin 256) :
    redOf V c (ix2 r y) = ∑ p : Dev nD, V p ((colRect c).emb (ix2 r y)) := by
  unfold redOf k1_pay2
  simp only [shapeCast_self]
  refine (Ideal.multiReduction_add_single _ _ _ _ _ _).trans ?_
  exact Finset.sum_congr rfl fun p _ => rfl

/-- The result of an all-reduce is the sum over the devices. -/
theorem outOf_apply (V : Dev nD → Vec Ideal S64x2048 .f32) (r : Fin 64) (j : Fin 2048) :
    outOf V (ix2 r j) = ∑ p : Dev nD, V p (ix2 r j) := by
  unfold outOf
  refine (red_apply V _ _ _).trans (Finset.sum_congr rfl fun p _ => congrArg (V p) ?_)
  funext a
  apply Fin.ext
  match a with
  | ⟨0, _⟩ => show 0 + 1 * r.val = r.val; omega
  | ⟨1, _⟩ => show 256 * (j.val / 256) + 1 * (j.val % 256) = j.val; omega

/-! ## A layer call -/

section Layer

variable (s : Site) (c : Dev nD) (A : s.Held Ideal c)

/-- A block of an input is the input at the block's rectangle. -/
theorem Site.blk_read (w : Fin 4) (t : Fin grid0.N) (y) :
    s.blk c A w t y = (s.a.win w).arr.view.read (Elt Ideal) (A w) (((s.a.win w).rect t).emb y) :=
  (View.read_apply _ _).trans (View.read_apply _ _).symm

theorem at_x : ∀ t : Fin grid0.N, cc0_transform_0 (grid0.coords t) = ![0, 0] := by decide +kernel
theorem at_w : ∀ t : Fin grid0.N, cc0_transform_1 (grid0.coords t) = ![0, t.val] := by decide +kernel
theorem at_v : ∀ t : Fin grid0.N, cc0_transform_2 (grid0.coords t) = ![t.val, 0] := by decide +kernel

/-- The activations' block is the whole array at every point. -/
theorem Site.x_blk (t : Fin grid0.N) : s.blk c A 0 t = s.a.x.view.read (Elt Ideal) (A 0) := by
  funext y
  refine (s.blk_read c A 0 t y).trans (congrArg (s.a.x.view.read (Elt Ideal) (A 0)) ?_)
  funext a
  apply Fin.ext
  have h : (s.a.win 0).index t a = 0 :=
    (congrFun (at_x t) a).trans (by match a with | ⟨0, _⟩ => rfl | ⟨1, _⟩ => rfl)
  rw [Window.rect_emb_val_of_index_zero _ _ _ h]

/-- Point `t` reads block `t` of the first weights' columns. -/
theorem Site.w_blk (t : Fin grid0.N) (k : Fin 2048) (h : Fin 512) :
    s.blk c A 1 t (ix2 k h) = s.a.w.view.read (Elt Ideal) (A 1) (ix2 (n0 := 2048) (n1 := 4096) k (place (a := 8) t h)) := by
  refine (s.blk_read c A 1 t _).trans (congrArg (s.a.w.view.read (Elt Ideal) (A 1)) ?_)
  funext a
  apply Fin.ext
  rw [Window.rect_emb_val _ _ _ _ rfl]
  match a with
  | ⟨0, _⟩ => show cc0_transform_1 (grid0.coords t) 0 * 2048 + k.val = k.val; rw [at_w]; show 0 * 2048 + k.val = k.val; omega
  | ⟨1, _⟩ => show cc0_transform_1 (grid0.coords t) 1 * 512 + h.val = 512 * t.val + h.val; rw [at_w]; show t.val * 512 + h.val = _; omega

/-- Point `t` reads block `t` of the second weights' rows. -/
theorem Site.v_blk (t : Fin grid0.N) (h : Fin 512) (j : Fin 2048) :
    s.blk c A 2 t (ix2 h j) = s.a.v.view.read (Elt Ideal) (A 2) (ix2 (n0 := 4096) (n1 := 2048) (place (a := 8) t h) j) := by
  refine (s.blk_read c A 2 t _).trans (congrArg (s.a.v.view.read (Elt Ideal) (A 2)) ?_)
  funext a
  apply Fin.ext
  rw [Window.rect_emb_val _ _ _ _ rfl]
  match a with
  | ⟨0, _⟩ => show cc0_transform_2 (grid0.coords t) 0 * 512 + h.val = 512 * t.val + h.val; rw [at_v]; show t.val * 512 + h.val = _; omega
  | ⟨1, _⟩ => show cc0_transform_2 (grid0.coords t) 1 * 2048 + j.val = j.val; rw [at_v]; show 0 * 2048 + j.val = j.val; omega

/-- The partial product of point `t`, over the hidden columns of its block. -/
theorem Site.pay_blk (t : Fin grid0.N) (r : Fin 64) (j : Fin 2048) :
    k0_pay1 (F := Ideal) (s.blk c A 0 t) (s.blk c A 1 t) (s.blk c A 2 t) (ix2 r j)
      = ∑ h : Fin 512, contrib (H := 4096) (s.a.x.view.read (Elt Ideal) (A 0)) (s.a.w.view.read (Elt Ideal) (A 1))
          (s.a.v.view.read (Elt Ideal) (A 2)) r j (place (a := 8) t h) := by
  rw [s.x_blk]
  refine (pay_apply _ _ _ r j).trans (Finset.sum_congr rfl fun h _ => ?_)
  unfold contrib
  rw [s.v_blk]
  exact congrArg (fun z => max z 0 * _) (Finset.sum_congr rfl fun k _ => congrArg (_ * ·) (s.w_blk c A t k h))

/-- After point `n` the result's buffer holds the sum of the points up to it. -/
theorem Site.acc_apply (i : S64x2048.Idx) : ∀ (n : ℕ) (hn : n < grid0.N), s.acc c A n hn i
    = ∑ t : Fin (n + 1), k0_pay1 (F := Ideal) (s.blk c A 0 ⟨t.val, lt_of_lt_of_le t.isLt hn⟩) (s.blk c A 1 ⟨t.val, lt_of_lt_of_le t.isLt hn⟩)
        (s.blk c A 2 ⟨t.val, lt_of_lt_of_le t.isLt hn⟩) i
  | 0, hn => by rw [Fin.sum_univ_one]; rfl
  | n + 1, hn => by
    rw [Fin.sum_univ_castSucc]
    refine (later_apply _ _ _ _ i).trans (congrArg (· + _) ?_)
    exact Site.acc_apply i n (Nat.lt_of_succ_lt hn)

/-- A device's partial sums: over its own 4096 hidden columns. -/
theorem Site.own_sum (r : Fin 64) (j : Fin 2048) : s.acc c A 7 (by decide) (ix2 r j)
    = ∑ h : Fin 4096, contrib (H := 4096) (s.a.x.view.read (Elt Ideal) (A 0)) (s.a.w.view.read (Elt Ideal) (A 1))
          (s.a.v.view.read (Elt Ideal) (A 2)) r j h := by
  rw [s.acc_apply]
  refine Eq.trans ?_ (sum_blocks 8 512 _).symm
  exact Finset.sum_congr rfl fun t _ => s.pay_blk c A t r j

end Layer

/-- A hidden column's part, from a device's slices of the weights and from the whole weights. -/
theorem contrib_block (c : Fin 8) (X : Mat 64 2048) (W : Mat 2048 32768) (V : Mat 32768 2048) (r : Fin 64) (j : Fin 2048) (h : Fin 4096) :
    contrib (H := 4096) X (Layout.block ⟨2, ![2048, 4096]⟩ ⟨2, ![2048, 32768]⟩ 1 8 c W)
        (Layout.block ⟨2, ![4096, 2048]⟩ ⟨2, ![32768, 2048]⟩ 0 8 c V) r j h
      = contrib (H := 32768) X W V r j (place (a := 8) c h) := by
  unfold contrib
  refine congrArg₂ (fun z y => max z 0 * y) (Finset.sum_congr rfl fun k _ => congrArg (_ * ·) ?_) ?_
  · refine (Layout.block_apply _ _ _ _).trans (congrArg W (funext fun a => Fin.ext ?_))
    match a with
    | ⟨0, _⟩ => exact (Layout.idx_cols_val _ _ _).1
    | ⟨1, _⟩ => exact (Layout.idx_cols_val _ _ _).2.trans (by show c.val * 4096 + h.val = 4096 * c.val + h.val; omega)
  · refine (Layout.block_apply _ _ _ _).trans (congrArg V (funext fun a => Fin.ext ?_))
    match a with
    | ⟨0, _⟩ => exact (Layout.idx_rows_val _ _ _).1.trans (by show c.val * 4096 + h.val = 4096 * c.val + h.val; omega)
    | ⟨1, _⟩ => exact (Layout.idx_rows_val _ _ _).2

/-- A layer call on every device and the all-reduce after it leave the reference's layer. -/
theorem layer_eq (s : Site) (A : ∀ c : Dev nD, s.Held Ideal c) (X : Mat 64 2048) (W : Mat 2048 32768) (V : Mat 32768 2048)
    (hX : ∀ c, s.a.x.view.read (Elt Ideal) (A c 0) = X)
    (hW : ∀ c, s.a.w.view.read (Elt Ideal) (A c 1) = Layout.block ⟨2, ![2048, 4096]⟩ ⟨2, ![2048, 32768]⟩ 1 8 c W)
    (hV : ∀ c, s.a.v.view.read (Elt Ideal) (A c 2) = Layout.block ⟨2, ![4096, 2048]⟩ ⟨2, ![32768, 2048]⟩ 0 8 c V) :
    outOf (fun c => s.acc c (A c) 7 (by decide)) = refLayer X W V := by
  funext i
  obtain ⟨r, j, rfl⟩ : ∃ (r : Fin 64) (j : Fin 2048), i = ix2 r j := ⟨_, _, eq_ix2 i⟩
  rw [outOf_apply, refLayer_apply]
  refine Eq.trans ?_ (sum_blocks 8 4096 _).symm
  refine Finset.sum_congr rfl fun c _ => (s.own_sum c (A c) r j).trans ?_
  rw [hX, hW, hV]
  exact Finset.sum_congr rfl fun h _ => contrib_block c X W V r j h

/-! ## The three layers -/

variable (m : (ℓ : Loc nD τ sig) → Buf (Elt Ideal) ℓ)

/-- The result of the last all-reduce is the reference's three layers, where every device holds the activations and its
    slices of the weights. -/
theorem value (X : Mat 64 2048) (W₀ W₁ W₂ : Mat 2048 32768) (V₀ V₁ V₂ : Mat 32768 2048)
    (hX : ∀ c : Dev nD, m ((c.tc : Thread nD τ).loc main_arg0) = X)
    (hW₀ : ∀ c : Dev nD, m ((c.tc : Thread nD τ).loc main_arg1) = Layout.block ⟨2, ![2048, 4096]⟩ ⟨2, ![2048, 32768]⟩ 1 8 c W₀)
    (hW₁ : ∀ c : Dev nD, m ((c.tc : Thread nD τ).loc main_arg2) = Layout.block ⟨2, ![2048, 4096]⟩ ⟨2, ![2048, 32768]⟩ 1 8 c W₁)
    (hW₂ : ∀ c : Dev nD, m ((c.tc : Thread nD τ).loc main_arg3) = Layout.block ⟨2, ![2048, 4096]⟩ ⟨2, ![2048, 32768]⟩ 1 8 c W₂)
    (hV₀ : ∀ c : Dev nD, m ((c.tc : Thread nD τ).loc main_arg4) = Layout.block ⟨2, ![4096, 2048]⟩ ⟨2, ![32768, 2048]⟩ 0 8 c V₀)
    (hV₁ : ∀ c : Dev nD, m ((c.tc : Thread nD τ).loc main_arg5) = Layout.block ⟨2, ![4096, 2048]⟩ ⟨2, ![32768, 2048]⟩ 0 8 c V₁)
    (hV₂ : ∀ c : Dev nD, m ((c.tc : Thread nD τ).loc main_arg6) = Layout.block ⟨2, ![4096, 2048]⟩ ⟨2, ![32768, 2048]⟩ 0 8 c V₂) :
    outOf (p2 m) = refLayer (refLayer (refLayer X W₀ V₀) W₁ V₁) W₂ V₂ := by
  have h0 : outOf (p0 m) = refLayer X W₀ V₀ := layer_eq site0 (fun c => site0.from c (w0 m c)) X W₀ V₀ hX hW₀ hV₀
  have h1 : outOf (p1 m) = refLayer (refLayer X W₀ V₀) W₁ V₁ := by
    refine layer_eq site1 (fun c => site1.from c (w2 m c)) _ W₁ V₁ (fun c => ?_) (fun c => ?_) (fun c => ?_)
    · exact (at_new (w1 m c) main_v2 (outOf (p0 m))).trans h0
    · exact (at_old (w1 m c) main_v2 main_arg2 (by decide) (outOf (p0 m))).trans
        ((at_old (w0 m c) main_v1 main_arg2 (by decide) (p0 m c)).trans (hW₁ c))
    · exact (at_old (w1 m c) main_v2 main_arg5 (by decide) (outOf (p0 m))).trans
        ((at_old (w0 m c) main_v1 main_arg5 (by decide) (p0 m c)).trans (hV₁ c))
  refine layer_eq site2 (fun c => site2.from c (w4 m c)) _ W₂ V₂ (fun c => ?_) (fun c => ?_) (fun c => ?_)
  · exact (at_new (w3 m c) main_v4 (outOf (p1 m))).trans h1
  · exact (at_old (w3 m c) main_v4 main_arg3 (by decide) (outOf (p1 m))).trans
      ((at_old (w2 m c) main_v3 main_arg3 (by decide) (p1 m c)).trans
      ((at_old (w1 m c) main_v2 main_arg3 (by decide) (outOf (p0 m))).trans
      ((at_old (w0 m c) main_v1 main_arg3 (by decide) (p0 m c)).trans (hW₂ c))))
  · exact (at_old (w3 m c) main_v4 main_arg6 (by decide) (outOf (p1 m))).trans
      ((at_old (w2 m c) main_v3 main_arg6 (by decide) (p1 m c)).trans
      ((at_old (w1 m c) main_v2 main_arg6 (by decide) (outOf (p0 m))).trans
      ((at_old (w0 m c) main_v1 main_arg6 (by decide) (p0 m c)).trans (hV₂ c))))

end Cert.KernelIdeal.AR

end
-- ==== Proof.lean ====
module

public import proofs.«01_k».proof.Defs
public import proofs.«01_k».proof.Proof.Kernel.Frame
public import proofs.«01_k».proof.Proof.KernelIdeal.Frame
public import proofs.«01_k».proof.Proof.KernelIdeal.Value
public import proofs.«01_k».proof.Proof.Gen.ReferenceIdeal
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem Cert.Kernel

/-- The kernel runs, keeps its arguments and leaves every semaphore at zero. -/
theorem frame_kernel : Cert.quiescent_Kernel := fun m ρ _ =>
  (θ_run Cert.Kernel.defs _ _).mono (fun _ h => ⟨fun c => (h.1 c).2, h.2⟩) (Cert.Kernel.AR.run_ends (F := Bits) m ρ)

/-- So does its ideal reading. -/
theorem frame_ideal : Cert.quiescent_KernelIdeal := fun m ρ _ =>
  (θ_run Cert.KernelIdeal.defs _ _).mono (fun _ h => ⟨fun c => (h.1 c).2, h.2⟩) (Cert.KernelIdeal.AR.run_ends (F := Ideal) m ρ)

/-- The reference runs and keeps its arguments; it has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Every device's result is the reference's result. -/
theorem same_value : Cert.algebraic_KernelIdeal_ReferenceIdeal := by
  intro m g m' g' _ hargs
  refine ⟨_, (θ_run Cert.KernelIdeal.defs _ _).mono (fun r h c => ⟨(h.1 c).1.trans ?_, (h.1 c).2⟩)
      (Cert.KernelIdeal.AR.run_ends (F := Ideal) m g),
    (θ_run Cert.ReferenceIdeal.defs _ _).mono (fun r h => h 0) (Cert.ReferenceIdeal.Value.run (F := Ideal) m' g')⟩
  exact Cert.KernelIdeal.AR.value m _ _ _ _ _ _ _ (fun c => (hargs c).1) (fun c => (hargs c).2.1) (fun c => (hargs c).2.2.1)
    (fun c => (hargs c).2.2.2.1) (fun c => (hargs c).2.2.2.2.1) (fun c => (hargs c).2.2.2.2.2.1) (fun c => (hargs c).2.2.2.2.2.2)

theorem claim : Cert.Claim := ⟨Cert.Kernel.Gen.facts, Cert.KernelIdeal.Gen.facts, Cert.ReferenceIdeal.Gen.facts,
  frame_kernel, frame_ideal, frame_reference, trivial, same_value⟩

end Cert.Proof

end
